-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_at_most_one [hPre_at_most_one : Cert.Pre_at_most_one.Facts] (m : (ℓ : Loc Cert.KernelIdeal.nD Cert.KernelIdeal.τ Cert.KernelIdeal.sig) → Buf (Elt Ideal) ℓ) : Prop :=
  ∀ c : Dev Cert.KernelIdeal.nD,
    (Cert.Pre_at_most_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_at_most_one [hPre_at_most_one : Cert.Pre_at_most_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_at_most_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_at_most_one [hKernelIdeal : Cert.KernelIdeal.Facts] [hPre_at_most_one : Cert.Pre_at_most_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_at_most_one m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_at_most_one [hReferenceIdeal : Cert.ReferenceIdeal.Facts] [hPre_at_most_one : Cert.Pre_at_most_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_at_most_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "bound1" .f32 0x3DCCCCCD#32 ((1 / 10 : ℝ) : EReal)
  ∧ IdealRules.named_const.Statement Cert.KernelIdeal.κ "bound2" .f32 0x3E4CCCCD#32 ((1 / 5 : ℝ) : EReal)
  ∧ IdealRules.named_const.Statement Cert.KernelIdeal.κ "bound3" .f32 0x3E99999A#32 ((3 / 10 : ℝ) : EReal)
  ∧ IdealRules.named_const.Statement Cert.KernelIdeal.κ "bound4" .f32 0x3ECCCCCD#32 ((2 / 5 : ℝ) : EReal)
  ∧ IdealRules.named_const.Statement Cert.KernelIdeal.κ "bound6" .f32 0x3F19999A#32 ((3 / 5 : ℝ) : EReal)
  ∧ IdealRules.named_const.Statement Cert.KernelIdeal.κ "bound7" .f32 0x3F333333#32 ((7 / 10 : ℝ) : EReal)
  ∧ IdealRules.named_const.Statement Cert.KernelIdeal.κ "bound8" .f32 0x3F4CCCCD#32 ((4 / 5 : ℝ) : EReal)
  ∧ IdealRules.named_const.Statement Cert.KernelIdeal.κ "bound9" .f32 0x3F666666#32 ((9 / 10 : ℝ) : EReal)

def algebraic_KernelIdeal_ReferenceIdeal_pre_at_most_one [hKernelIdeal : Cert.KernelIdeal.Facts] [hReferenceIdeal : Cert.ReferenceIdeal.Facts] [hPre_at_most_one : Cert.Pre_at_most_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_at_most_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_at_most_one : Cert.Pre_at_most_one.Facts),
    quiescent_Kernel (hKernel := hKernel)
    ∧ quiescent_KernelIdeal (hKernelIdeal := hKernelIdeal)
    ∧ quiescent_KernelIdeal_pre_at_most_one (hKernelIdeal := hKernelIdeal) (hPre_at_most_one := hPre_at_most_one)
    ∧ quiescent_ReferenceIdeal (hReferenceIdeal := hReferenceIdeal)
    ∧ quiescent_ReferenceIdeal_pre_at_most_one (hReferenceIdeal := hReferenceIdeal) (hPre_at_most_one := hPre_at_most_one)
    ∧ preserves_Kernel_KernelIdeal
    ∧ algebraic_KernelIdeal_ReferenceIdeal_pre_at_most_one (hKernelIdeal := hKernelIdeal) (hReferenceIdeal := hReferenceIdeal) (hPre_at_most_one := hPre_at_most_one)
-- ==== Pre_at_most_one.lean ====
abbrev S2097152x32 : Shape := ⟨2, ![2097152, 32]⟩
abbrev S2097152 : Shape := ⟨1, ![2097152]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel

variable [Facts]

def fn {F : FTy → Type} [FloatOps F] (main_arg0 : FVec F S2097152x32 .f32) (main_arg1 : IVec S2097152 32) : IVec S_ 1 :=
  let main_cst : FVec F S_ .f32 := constant S_ .f32 0x3F800000#32
  let main_v0 : FVec F S2097152x32 .f32 := broadcastInDim S2097152x32 ![] bcast_S_S2097152x32 main_cst
  let main_v1 : IVec S2097152x32 1 := cmpf .ole main_arg0 main_v0
  let main_c : IVec S_ 1 := constantI S_ 1 1#1
  let main_v2 : IVec S_ 1 := (fun x v => Host.reduce IntOp.andi x v reducesTo_S2097152x32_S_d0_1 h_S_) main_v1 main_c
  main_v2
-- ==== Kernel.lean ====
abbrev S2097152x32 : Shape := ⟨2, ![2097152, 32]⟩
abbrev S2097152 : Shape := ⟨1, ![2097152]⟩
abbrev S67108864 : Shape := ⟨1, ![67108864]⟩
abbrev S32x528 : Shape := ⟨2, ![32, 528]⟩
abbrev S32768 : Shape := ⟨1, ![32768]⟩
abbrev S1024 : Shape := ⟨1, ![1024]⟩
abbrev S528 : Shape := ⟨1, ![528]⟩
abbrev S_ : Shape := ⟨0, ![]⟩
abbrev S16 : Shape := ⟨1, ![16]⟩
abbrev S1x528 : Shape := ⟨2, ![1, 528]⟩
abbrev S3x11x16 : Shape := ⟨3, ![3, 11, 16]⟩
abbrev S3x11 : Shape := ⟨2, ![3, 11]⟩
abbrev S1x10 : Shape := ⟨2, ![1, 10]⟩
abbrev S10 : Shape := ⟨1, ![10]⟩
abbrev S1 : Shape := ⟨1, ![1]⟩

abbrev nBuf : Table → Nat
  | .hbm => 36
  | .local .scVector .vmem => 5
  | _ => 0

abbrev bufTy : (tb : Table) → Fin (nBuf tb) → BufTy
  | .hbm, ⟨0, _⟩ => ⟨S2097152x32, .f32⟩
  | .hbm, ⟨1, _⟩ => ⟨S2097152, .i32⟩
  | .hbm, ⟨2, _⟩ => ⟨S67108864, .f32⟩
  | .hbm, ⟨3, _⟩ => ⟨S32x528, .f32⟩
  | .hbm, ⟨4, _⟩ => ⟨S_, .f32⟩
  | .hbm, ⟨5, _⟩ => ⟨S528, .f32⟩
  | .hbm, ⟨6, _⟩ => ⟨S3x11x16, .f32⟩
  | .hbm, ⟨7, _⟩ => ⟨S_, .f32⟩
  | .hbm, ⟨8, _⟩ => ⟨S3x11, .f32⟩
  | .hbm, ⟨9, _⟩ => ⟨S1x10, .f32⟩
  | .hbm, ⟨10, _⟩ => ⟨S10, .f32⟩
  | .hbm, ⟨11, _⟩ => ⟨S1x10, .f32⟩
  | .hbm, ⟨12, _⟩ => ⟨S10, .f32⟩
  | .hbm, ⟨13, _⟩ => ⟨S1x10, .f32⟩
  | .hbm, ⟨14, _⟩ => ⟨S10, .f32⟩
  | .hbm, ⟨15, _⟩ => ⟨S_, .f32⟩
  | .hbm, ⟨16, _⟩ => ⟨S10, .f32⟩
  | .hbm, ⟨17, _⟩ => ⟨S10, .f32⟩
  | .hbm, ⟨18, _⟩ => ⟨S_, .f32⟩
  | .hbm, ⟨19, _⟩ => ⟨S10, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S10, .f32⟩
  | .hbm, ⟨26, _⟩ => ⟨S_, .f32⟩
  | .hbm, ⟨27, _⟩ => ⟨S10, .f32⟩
  | .hbm, ⟨28, _⟩ => ⟨S10, .i1⟩
  | .hbm, ⟨29, _⟩ => ⟨S_, .f32⟩
  | .hbm, ⟨30, _⟩ => ⟨S_, .f32⟩
  | .hbm, ⟨31, _⟩ => ⟨S10, .f32⟩
  | .hbm, ⟨32, _⟩ => ⟨S10, .f32⟩
  | .hbm, ⟨33, _⟩ => ⟨S_, .f32⟩
  | .hbm, ⟨34, _⟩ => ⟨S_, .f32⟩
  | .hbm, ⟨35, _⟩ => ⟨S1, .f32⟩
  | .local .scVector .vmem, ⟨0, _⟩ => ⟨S32768, .f32⟩
  | .local .scVector .vmem, ⟨1, _⟩ => ⟨S32768, .f32⟩
  | .local .scVector .vmem, ⟨2, _⟩ => ⟨S1024, .i32⟩
  | .local .scVector .vmem, ⟨3, _⟩ => ⟨S1024, .i32⟩
  | .local .scVector .vmem, ⟨4, _⟩ => ⟨S528, .f32⟩
  | _, _ => ⟨S2097152x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32 : BitVec 32 := 0#32
  let v41 : BitVec 32 := Scalar.addi v2 c0_i32
  let c32_i32_1 : BitVec 32 := 32#32
  let v42 : BitVec 32 := Scalar.muli v41 c32_i32_1
  ![v42.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32 : BitVec 32 := 0#32
  let v41 : BitVec 32 := Scalar.addi v2 c0_i32
  ![v41.toNat]
@[reducible] def k0_t1_loop : Scf.Loop 32 :=
  let c0_i32_3 : BitVec 32 := 0#32
  let c32_i32_4 : BitVec 32 := 32#32
  let v47 : BitVec 32 := Scalar.addi c0_i32_3 c32_i32_4
  let c1_i32 : BitVec 32 := 1#32
  ⟨c0_i32_3, v47, c1_i32⟩
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_6 : BitVec 32 := 2#32
  let c0_i32_3 : BitVec 32 := 0#32
  let c1_i32 : BitVec 32 := 1#32
  let arg14 : BitVec 32 := Scf.iv c0_i32_3 c1_i32 k0_t1
  let v48 : BitVec 32 := Scalar.muli c2_i32_6 arg14
  let c1_i32_7 : BitVec 32 := 1#32
  let v49 : BitVec 32 := Scalar.addi v48 c1_i32_7
  let c1024_i32 : BitVec 32 := 1024#32
  let v50 : BitVec 32 := Scalar.muli v49 c1024_i32
  let v51 : BitVec 32 := Scalar.addi v2 v50
  let c32_i32_8 : BitVec 32 := 32#32
  let v52 : BitVec 32 := Scalar.muli v51 c32_i32_8
  ![v52.toNat]
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_6 : BitVec 32 := 2#32
  let c0_i32_3 : BitVec 32 := 0#32
  let c1_i32 : BitVec 32 := 1#32
  let arg14 : BitVec 32 := Scf.iv c0_i32_3 c1_i32 k0_t1
  let v48 : BitVec 32 := Scalar.muli c2_i32_6 arg14
  let c1_i32_7 : BitVec 32 := 1#32
  let v49 : BitVec 32 := Scalar.addi v48 c1_i32_7
  let c1024_i32 : BitVec 32 := 1024#32
  let v50 : BitVec 32 := Scalar.muli v49 c1024_i32
  let v51 : BitVec 32 := Scalar.addi v2 v50
  ![v51.toNat]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_6 : BitVec 32 := 2#32
  let c0_i32_3 : BitVec 32 := 0#32
  let c1_i32 : BitVec 32 := 1#32
  let arg14 : BitVec 32 := Scf.iv c0_i32_3 c1_i32 k0_t1
  let v48 : BitVec 32 := Scalar.muli c2_i32_6 arg14
  let c1024_i32_9 : BitVec 32 := 1024#32
  let v57 : BitVec 32 := Scalar.muli v48 c1024_i32_9
  let v58 : BitVec 32 := Scalar.addi v2 v57
  let c32_i32_10 : BitVec 32 := 32#32
  let v59 : BitVec 32 := Scalar.muli v58 c32_i32_10
  ![v59.toNat]
def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_6 : BitVec 32 := 2#32
  let c0_i32_3 : BitVec 32 := 0#32
  let c1_i32 : BitVec 32 := 1#32
  let arg14 : BitVec 32 := Scf.iv c0_i32_3 c1_i32 k0_t1
  let v48 : BitVec 32 := Scalar.muli c2_i32_6 arg14
  let c1024_i32_9 : BitVec 32 := 1024#32
  let v57 : BitVec 32 := Scalar.muli v48 c1024_i32_9
  let v58 : BitVec 32 := Scalar.addi v2 v57
  ![v58.toNat]
@[reducible] def k0_t2_loop : Scf.Loop 32 :=
  let c0_i32_12 : BitVec 32 := 0#32
  let c64_i32 : BitVec 32 := 64#32
  let v64 : BitVec 32 := Scalar.addi c0_i32_12 c64_i32
  let c1_i32_13 : BitVec 32 := 1#32
  ⟨c0_i32_12, v64, c1_i32_13⟩

def k0_chk1 (v79 : IVec S16 32) : Prop :=
  (∀ a x, ((![v79] : Fin 1 → IVec S16 32) a x).toNat < S32768.size a)
theorem k0_idx1_inb : ∀ (v79 : IVec S16 32) (k0_hw1 : k0_chk1 v79), ∀ a x, ((![v79] : Fin 1 → IVec S16 32) a x).toNat < S32768.size a := fun v79 k0_hw1 => k0_hw1

def k0_chk2 (v83 : IVec S16 32) : Prop :=
  (∀ a x, ((![v83] : Fin 1 → IVec S16 32) a x).toNat < S32768.size a)
theorem k0_idx2_inb : ∀ (v83 : IVec S16 32) (k0_hw2 : k0_chk2 v83), ∀ a x, ((![v83] : Fin 1 → IVec S16 32) a x).toNat < S32768.size a := fun v83 k0_hw2 => k0_hw2

def k0_chk3 (v90 : IVec S16 32) : Prop :=
  (∀ a x, ((![v90] : Fin 1 → IVec S16 32) a x).toNat < S32768.size a)
theorem k0_idx3_inb : ∀ (v90 : IVec S16 32) (k0_hw3 : k0_chk3 v90), ∀ a x, ((![v90] : Fin 1 → IVec S16 32) a x).toNat < S32768.size a := fun v90 k0_hw3 => k0_hw3

def k0_chk4 (v97 : IVec S16 32) : Prop :=
  (∀ a x, ((![v97] : Fin 1 → IVec S16 32) a x).toNat < S32768.size a)
theorem k0_idx4_inb : ∀ (v97 : IVec S16 32) (k0_hw4 : k0_chk4 v97), ∀ a x, ((![v97] : Fin 1 → IVec S16 32) a x).toNat < S32768.size a := fun v97 k0_hw4 => k0_hw4

def k0_chk5 (v104 : IVec S16 32) : Prop :=
  (∀ a x, ((![v104] : Fin 1 → IVec S16 32) a x).toNat < S32768.size a)
theorem k0_idx5_inb : ∀ (v104 : IVec S16 32) (k0_hw5 : k0_chk5 v104), ∀ a x, ((![v104] : Fin 1 → IVec S16 32) a x).toNat < S32768.size a := fun v104 k0_hw5 => k0_hw5

def k0_chk6 (v111 : IVec S16 32) : Prop :=
  (∀ a x, ((![v111] : Fin 1 → IVec S16 32) a x).toNat < S32768.size a)
theorem k0_idx6_inb : ∀ (v111 : IVec S16 32) (k0_hw6 : k0_chk6 v111), ∀ a x, ((![v111] : Fin 1 → IVec S16 32) a x).toNat < S32768.size a := fun v111 k0_hw6 => k0_hw6

def k0_chk7 (v118 : IVec S16 32) : Prop :=
  (∀ a x, ((![v118] : Fin 1 → IVec S16 32) a x).toNat < S32768.size a)
theorem k0_idx7_inb : ∀ (v118 : IVec S16 32) (k0_hw7 : k0_chk7 v118), ∀ a x, ((![v118] : Fin 1 → IVec S16 32) a x).toNat < S32768.size a := fun v118 k0_hw7 => k0_hw7

def k0_chk8 (v125 : IVec S16 32) : Prop :=
  (∀ a x, ((![v125] : Fin 1 → IVec S16 32) a x).toNat < S32768.size a)
theorem k0_idx8_inb : ∀ (v125 : IVec S16 32) (k0_hw8 : k0_chk8 v125), ∀ a x, ((![v125] : Fin 1 → IVec S16 32) a x).toNat < S32768.size a := fun v125 k0_hw8 => k0_hw8

def k0_chk9 (v132 : IVec S16 32) : Prop :=
  (∀ a x, ((![v132] : Fin 1 → IVec S16 32) a x).toNat < S32768.size a)
theorem k0_idx9_inb : ∀ (v132 : IVec S16 32) (k0_hw9 : k0_chk9 v132), ∀ a x, ((![v132] : Fin 1 → IVec S16 32) a x).toNat < S32768.size a := fun v132 k0_hw9 => k0_hw9

def k0_chk10 (v139 : IVec S16 32) : Prop :=
  (∀ a x, ((![v139] : Fin 1 → IVec S16 32) a x).toNat < S32768.size a)
theorem k0_idx10_inb : ∀ (v139 : IVec S16 32) (k0_hw10 : k0_chk10 v139), ∀ a x, ((![v139] : Fin 1 → IVec S16 32) a x).toNat < S32768.size a := fun v139 k0_hw10 => k0_hw10

def k0_chk11 (v146 : IVec S16 32) : Prop :=
  (∀ a x, ((![v146] : Fin 1 → IVec S16 32) a x).toNat < S32768.size a)
theorem k0_idx11_inb : ∀ (v146 : IVec S16 32) (k0_hw11 : k0_chk11 v146), ∀ a x, ((![v146] : Fin 1 → IVec S16 32) a x).toNat < S32768.size a := fun v146 k0_hw11 => k0_hw11

def k0_chk12 (v153 : IVec S16 32) : Prop :=
  (∀ a x, ((![v153] : Fin 1 → IVec S16 32) a x).toNat < S32768.size a)
theorem k0_idx12_inb : ∀ (v153 : IVec S16 32) (k0_hw12 : k0_chk12 v153), ∀ a x, ((![v153] : Fin 1 → IVec S16 32) a x).toNat < S32768.size a := fun v153 k0_hw12 => k0_hw12

def k0_chk13 (v160 : IVec S16 32) : Prop :=
  (∀ a x, ((![v160] : Fin 1 → IVec S16 32) a x).toNat < S32768.size a)
theorem k0_idx13_inb : ∀ (v160 : IVec S16 32) (k0_hw13 : k0_chk13 v160), ∀ a x, ((![v160] : Fin 1 → IVec S16 32) a x).toNat < S32768.size a := fun v160 k0_hw13 => k0_hw13

def k0_chk14 (v167 : IVec S16 32) : Prop :=
  (∀ a x, ((![v167] : Fin 1 → IVec S16 32) a x).toNat < S32768.size a)
theorem k0_idx14_inb : ∀ (v167 : IVec S16 32) (k0_hw14 : k0_chk14 v167), ∀ a x, ((![v167] : Fin 1 → IVec S16 32) a x).toNat < S32768.size a := fun v167 k0_hw14 => k0_hw14

def k0_chk15 (v174 : IVec S16 32) : Prop :=
  (∀ a x, ((![v174] : Fin 1 → IVec S16 32) a x).toNat < S32768.size a)
theorem k0_idx15_inb : ∀ (v174 : IVec S16 32) (k0_hw15 : k0_chk15 v174), ∀ a x, ((![v174] : Fin 1 → IVec S16 32) a x).toNat < S32768.size a := fun v174 k0_hw15 => k0_hw15

def k0_chk16 (v181 : IVec S16 32) : Prop :=
  (∀ a x, ((![v181] : Fin 1 → IVec S16 32) a x).toNat < S32768.size a)
theorem k0_idx16_inb : ∀ (v181 : IVec S16 32) (k0_hw16 : k0_chk16 v181), ∀ a x, ((![v181] : Fin 1 → IVec S16 32) a x).toNat < S32768.size a := fun v181 k0_hw16 => k0_hw16

def k0_chk17 (v188 : IVec S16 32) : Prop :=
  (∀ a x, ((![v188] : Fin 1 → IVec S16 32) a x).toNat < S32768.size a)
theorem k0_idx17_inb : ∀ (v188 : IVec S16 32) (k0_hw17 : k0_chk17 v188), ∀ a x, ((![v188] : Fin 1 → IVec S16 32) a x).toNat < S32768.size a := fun v188 k0_hw17 => k0_hw17

def k0_chk18 (v195 : IVec S16 32) : Prop :=
  (∀ a x, ((![v195] : Fin 1 → IVec S16 32) a x).toNat < S32768.size a)
theorem k0_idx18_inb : ∀ (v195 : IVec S16 32) (k0_hw18 : k0_chk18 v195), ∀ a x, ((![v195] : Fin 1 → IVec S16 32) a x).toNat < S32768.size a := fun v195 k0_hw18 => k0_hw18

def k0_chk19 (v202 : IVec S16 32) : Prop :=
  (∀ a x, ((![v202] : Fin 1 → IVec S16 32) a x).toNat < S32768.size a)
theorem k0_idx19_inb : ∀ (v202 : IVec S16 32) (k0_hw19 : k0_chk19 v202), ∀ a x, ((![v202] : Fin 1 → IVec S16 32) a x).toNat < S32768.size a := fun v202 k0_hw19 => k0_hw19

def k0_chk20 (v209 : IVec S16 32) : Prop :=
  (∀ a x, ((![v209] : Fin 1 → IVec S16 32) a x).toNat < S32768.size a)
theorem k0_idx20_inb : ∀ (v209 : IVec S16 32) (k0_hw20 : k0_chk20 v209), ∀ a x, ((![v209] : Fin 1 → IVec S16 32) a x).toNat < S32768.size a := fun v209 k0_hw20 => k0_hw20

def k0_chk21 (v216 : IVec S16 32) : Prop :=
  (∀ a x, ((![v216] : Fin 1 → IVec S16 32) a x).toNat < S32768.size a)
theorem k0_idx21_inb : ∀ (v216 : IVec S16 32) (k0_hw21 : k0_chk21 v216), ∀ a x, ((![v216] : Fin 1 → IVec S16 32) a x).toNat < S32768.size a := fun v216 k0_hw21 => k0_hw21

def k0_chk22 (v223 : IVec S16 32) : Prop :=
  (∀ a x, ((![v223] : Fin 1 → IVec S16 32) a x).toNat < S32768.size a)
theorem k0_idx22_inb : ∀ (v223 : IVec S16 32) (k0_hw22 : k0_chk22 v223), ∀ a x, ((![v223] : Fin 1 → IVec S16 32) a x).toNat < S32768.size a := fun v223 k0_hw22 => k0_hw22

def k0_chk23 (v230 : IVec S16 32) : Prop :=
  (∀ a x, ((![v230] : Fin 1 → IVec S16 32) a x).toNat < S32768.size a)
theorem k0_idx23_inb : ∀ (v230 : IVec S16 32) (k0_hw23 : k0_chk23 v230), ∀ a x, ((![v230] : Fin 1 → IVec S16 32) a x).toNat < S32768.size a := fun v230 k0_hw23 => k0_hw23

def k0_chk24 (v237 : IVec S16 32) : Prop :=
  (∀ a x, ((![v237] : Fin 1 → IVec S16 32) a x).toNat < S32768.size a)
theorem k0_idx24_inb : ∀ (v237 : IVec S16 32) (k0_hw24 : k0_chk24 v237), ∀ a x, ((![v237] : Fin 1 → IVec S16 32) a x).toNat < S32768.size a := fun v237 k0_hw24 => k0_hw24

def k0_chk25 (v244 : IVec S16 32) : Prop :=
  (∀ a x, ((![v244] : Fin 1 → IVec S16 32) a x).toNat < S32768.size a)
theorem k0_idx25_inb : ∀ (v244 : IVec S16 32) (k0_hw25 : k0_chk25 v244), ∀ a x, ((![v244] : Fin 1 → IVec S16 32) a x).toNat < S32768.size a := fun v244 k0_hw25 => k0_hw25

def k0_chk26 (v251 : IVec S16 32) : Prop :=
  (∀ a x, ((![v251] : Fin 1 → IVec S16 32) a x).toNat < S32768.size a)
theorem k0_idx26_inb : ∀ (v251 : IVec S16 32) (k0_hw26 : k0_chk26 v251), ∀ a x, ((![v251] : Fin 1 → IVec S16 32) a x).toNat < S32768.size a := fun v251 k0_hw26 => k0_hw26

def k0_chk27 (v258 : IVec S16 32) : Prop :=
  (∀ a x, ((![v258] : Fin 1 → IVec S16 32) a x).toNat < S32768.size a)
theorem k0_idx27_inb : ∀ (v258 : IVec S16 32) (k0_hw27 : k0_chk27 v258), ∀ a x, ((![v258] : Fin 1 → IVec S16 32) a x).toNat < S32768.size a := fun v258 k0_hw27 => k0_hw27

def k0_chk28 (v265 : IVec S16 32) : Prop :=
  (∀ a x, ((![v265] : Fin 1 → IVec S16 32) a x).toNat < S32768.size a)
theorem k0_idx28_inb : ∀ (v265 : IVec S16 32) (k0_hw28 : k0_chk28 v265), ∀ a x, ((![v265] : Fin 1 → IVec S16 32) a x).toNat < S32768.size a := fun v265 k0_hw28 => k0_hw28

def k0_chk29 (v272 : IVec S16 32) : Prop :=
  (∀ a x, ((![v272] : Fin 1 → IVec S16 32) a x).toNat < S32768.size a)
theorem k0_idx29_inb : ∀ (v272 : IVec S16 32) (k0_hw29 : k0_chk29 v272), ∀ a x, ((![v272] : Fin 1 → IVec S16 32) a x).toNat < S32768.size a := fun v272 k0_hw29 => k0_hw29

def k0_chk30 (v279 : IVec S16 32) : Prop :=
  (∀ a x, ((![v279] : Fin 1 → IVec S16 32) a x).toNat < S32768.size a)
theorem k0_idx30_inb : ∀ (v279 : IVec S16 32) (k0_hw30 : k0_chk30 v279), ∀ a x, ((![v279] : Fin 1 → IVec S16 32) a x).toNat < S32768.size a := fun v279 k0_hw30 => k0_hw30

def k0_chk31 (v286 : IVec S16 32) : Prop :=
  (∀ a x, ((![v286] : Fin 1 → IVec S16 32) a x).toNat < S32768.size a)
theorem k0_idx31_inb : ∀ (v286 : IVec S16 32) (k0_hw31 : k0_chk31 v286), ∀ a x, ((![v286] : Fin 1 → IVec S16 32) a x).toNat < S32768.size a := fun v286 k0_hw31 => k0_hw31

def k0_chk32 (v293 : IVec S16 32) : Prop :=
  (∀ a x, ((![v293] : Fin 1 → IVec S16 32) a x).toNat < S32768.size a)
theorem k0_idx32_inb : ∀ (v293 : IVec S16 32) (k0_hw32 : k0_chk32 v293), ∀ a x, ((![v293] : Fin 1 → IVec S16 32) a x).toNat < S32768.size a := fun v293 k0_hw32 => k0_hw32
def k0_off7 (k0_t2 : Fin k0_t2_loop.trips) : Fin 1 → Nat :=
  let c0_i32_12 : BitVec 32 := 0#32
  let c1_i32_13 : BitVec 32 := 1#32
  let arg15 : BitVec 32 := Scf.iv c0_i32_12 c1_i32_13 k0_t2
  let c16_i32_59 : BitVec 32 := 16#32
  let v299 : BitVec 32 := Scalar.muli arg15 c16_i32_59
  let v300 : Index := Scalar.indexCast v299
  ![v300.toNat]

def k0_chk33 (v371 : IVec S16 32) : Prop :=
  (∀ a x, ((![v371] : Fin 1 → IVec S16 32) a x).toNat < S528.size a)
theorem k0_idx33_inb : ∀ (v371 : IVec S16 32) (k0_hw33 : k0_chk33 v371), ∀ a x, ((![v371] : Fin 1 → IVec S16 32) a x).toNat < S528.size a := fun v371 k0_hw33 => k0_hw33

def k0_chk34 (v373 : IVec S16 32) : Prop :=
  (∀ a x, ((![v373] : Fin 1 → IVec S16 32) a x).toNat < S528.size a)
theorem k0_idx34_inb : ∀ (v373 : IVec S16 32) (k0_hw34 : k0_chk34 v373), ∀ a x, ((![v373] : Fin 1 → IVec S16 32) a x).toNat < S528.size a := fun v373 k0_hw34 => k0_hw34

def k0_chk35 (v375 : IVec S16 32) : Prop :=
  (∀ a x, ((![v375] : Fin 1 → IVec S16 32) a x).toNat < S528.size a)
theorem k0_idx35_inb : ∀ (v375 : IVec S16 32) (k0_hw35 : k0_chk35 v375), ∀ a x, ((![v375] : Fin 1 → IVec S16 32) a x).toNat < S528.size a := fun v375 k0_hw35 => k0_hw35
def k0_cond1 (k0_t1 : Fin k0_t1_loop.trips) : BitVec 1 :=
  let c0_i32_3 : BitVec 32 := 0#32
  let c1_i32 : BitVec 32 := 1#32
  let arg14 : BitVec 32 := Scf.iv c0_i32_3 c1_i32 k0_t1
  let c31_i32 : BitVec 32 := 31#32
  let v65 : BitVec 1 := Scalar.cmpi .slt arg14 c31_i32
  let v66 : BitVec 32 := Scalar.extui v65
  let c0_i32_15 : BitVec 32 := 0#32
  let v67 : BitVec 1 := Scalar.cmpi .ne v66 c0_i32_15
  v67

def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_6 : BitVec 32 := 2#32
  let c0_i32_3 : BitVec 32 := 0#32
  let c1_i32 : BitVec 32 := 1#32
  let arg14 : BitVec 32 := Scf.iv c0_i32_3 c1_i32 k0_t1
  let v48 : BitVec 32 := Scalar.muli c2_i32_6 arg14
  let c2_i32_24 : BitVec 32 := 2#32
  let v77 : BitVec 32 := Scalar.addi v48 c2_i32_24
  let c1024_i32_25 : BitVec 32 := 1024#32
  let v78 : BitVec 32 := Scalar.muli v77 c1024_i32_25
  let v79 : BitVec 32 := Scalar.addi v2 v78
  let c32_i32_26 : BitVec 32 := 32#32
  let v80 : BitVec 32 := Scalar.muli v79 c32_i32_26
  ![v80.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_6 : BitVec 32 := 2#32
  let c0_i32_3 : BitVec 32 := 0#32
  let c1_i32 : BitVec 32 := 1#32
  let arg14 : BitVec 32 := Scf.iv c0_i32_3 c1_i32 k0_t1
  let v48 : BitVec 32 := Scalar.muli c2_i32_6 arg14
  let c2_i32_24 : BitVec 32 := 2#32
  let v77 : BitVec 32 := Scalar.addi v48 c2_i32_24
  let c1024_i32_25 : BitVec 32 := 1024#32
  let v78 : BitVec 32 := Scalar.muli v77 c1024_i32_25
  let v79 : BitVec 32 := Scalar.addi v2 v78
  ![v79.toNat]
@[reducible] def k0_t3_loop : Scf.Loop 32 :=
  let c0_i32_20 : BitVec 32 := 0#32
  let c64_i32_21 : BitVec 32 := 64#32
  let v76 : BitVec 32 := Scalar.addi c0_i32_20 c64_i32_21
  let c1_i32_22 : BitVec 32 := 1#32
  ⟨c0_i32_20, v76, c1_i32_22⟩

def k0_chk36 (v79 : IVec S16 32) : Prop :=
  (∀ a x, ((![v79] : Fin 1 → IVec S16 32) a x).toNat < S32768.size a)
theorem k0_idx36_inb : ∀ (v79 : IVec S16 32) (k0_hw36 : k0_chk36 v79), ∀ a x, ((![v79] : Fin 1 → IVec S16 32) a x).toNat < S32768.size a := fun v79 k0_hw36 => k0_hw36

def k0_chk37 (v83 : IVec S16 32) : Prop :=
  (∀ a x, ((![v83] : Fin 1 → IVec S16 32) a x).toNat < S32768.size a)
theorem k0_idx37_inb : ∀ (v83 : IVec S16 32) (k0_hw37 : k0_chk37 v83), ∀ a x, ((![v83] : Fin 1 → IVec S16 32) a x).toNat < S32768.size a := fun v83 k0_hw37 => k0_hw37

def k0_chk38 (v90 : IVec S16 32) : Prop :=
  (∀ a x, ((![v90] : Fin 1 → IVec S16 32) a x).toNat < S32768.size a)
theorem k0_idx38_inb : ∀ (v90 : IVec S16 32) (k0_hw38 : k0_chk38 v90), ∀ a x, ((![v90] : Fin 1 → IVec S16 32) a x).toNat < S32768.size a := fun v90 k0_hw38 => k0_hw38

def k0_chk39 (v97 : IVec S16 32) : Prop :=
  (∀ a x, ((![v97] : Fin 1 → IVec S16 32) a x).toNat < S32768.size a)
theorem k0_idx39_inb : ∀ (v97 : IVec S16 32) (k0_hw39 : k0_chk39 v97), ∀ a x, ((![v97] : Fin 1 → IVec S16 32) a x).toNat < S32768.size a := fun v97 k0_hw39 => k0_hw39

def k0_chk40 (v104 : IVec S16 32) : Prop :=
  (∀ a x, ((![v104] : Fin 1 → IVec S16 32) a x).toNat < S32768.size a)
theorem k0_idx40_inb : ∀ (v104 : IVec S16 32) (k0_hw40 : k0_chk40 v104), ∀ a x, ((![v104] : Fin 1 → IVec S16 32) a x).toNat < S32768.size a := fun v104 k0_hw40 => k0_hw40

def k0_chk41 (v111 : IVec S16 32) : Prop :=
  (∀ a x, ((![v111] : Fin 1 → IVec S16 32) a x).toNat < S32768.size a)
theorem k0_idx41_inb : ∀ (v111 : IVec S16 32) (k0_hw41 : k0_chk41 v111), ∀ a x, ((![v111] : Fin 1 → IVec S16 32) a x).toNat < S32768.size a := fun v111 k0_hw41 => k0_hw41

def k0_chk42 (v118 : IVec S16 32) : Prop :=
  (∀ a x, ((![v118] : Fin 1 → IVec S16 32) a x).toNat < S32768.size a)
theorem k0_idx42_inb : ∀ (v118 : IVec S16 32) (k0_hw42 : k0_chk42 v118), ∀ a x, ((![v118] : Fin 1 → IVec S16 32) a x).toNat < S32768.size a := fun v118 k0_hw42 => k0_hw42

def k0_chk43 (v125 : IVec S16 32) : Prop :=
  (∀ a x, ((![v125] : Fin 1 → IVec S16 32) a x).toNat < S32768.size a)
theorem k0_idx43_inb : ∀ (v125 : IVec S16 32) (k0_hw43 : k0_chk43 v125), ∀ a x, ((![v125] : Fin 1 → IVec S16 32) a x).toNat < S32768.size a := fun v125 k0_hw43 => k0_hw43

def k0_chk44 (v132 : IVec S16 32) : Prop :=
  (∀ a x, ((![v132] : Fin 1 → IVec S16 32) a x).toNat < S32768.size a)
theorem k0_idx44_inb : ∀ (v132 : IVec S16 32) (k0_hw44 : k0_chk44 v132), ∀ a x, ((![v132] : Fin 1 → IVec S16 32) a x).toNat < S32768.size a := fun v132 k0_hw44 => k0_hw44

def k0_chk45 (v139 : IVec S16 32) : Prop :=
  (∀ a x, ((![v139] : Fin 1 → IVec S16 32) a x).toNat < S32768.size a)
theorem k0_idx45_inb : ∀ (v139 : IVec S16 32) (k0_hw45 : k0_chk45 v139), ∀ a x, ((![v139] : Fin 1 → IVec S16 32) a x).toNat < S32768.size a := fun v139 k0_hw45 => k0_hw45

def k0_chk46 (v146 : IVec S16 32) : Prop :=
  (∀ a x, ((![v146] : Fin 1 → IVec S16 32) a x).toNat < S32768.size a)
theorem k0_idx46_inb : ∀ (v146 : IVec S16 32) (k0_hw46 : k0_chk46 v146), ∀ a x, ((![v146] : Fin 1 → IVec S16 32) a x).toNat < S32768.size a := fun v146 k0_hw46 => k0_hw46

def k0_chk47 (v153 : IVec S16 32) : Prop :=
  (∀ a x, ((![v153] : Fin 1 → IVec S16 32) a x).toNat < S32768.size a)
theorem k0_idx47_inb : ∀ (v153 : IVec S16 32) (k0_hw47 : k0_chk47 v153), ∀ a x, ((![v153] : Fin 1 → IVec S16 32) a x).toNat < S32768.size a := fun v153 k0_hw47 => k0_hw47

def k0_chk48 (v160 : IVec S16 32) : Prop :=
  (∀ a x, ((![v160] : Fin 1 → IVec S16 32) a x).toNat < S32768.size a)
theorem k0_idx48_inb : ∀ (v160 : IVec S16 32) (k0_hw48 : k0_chk48 v160), ∀ a x, ((![v160] : Fin 1 → IVec S16 32) a x).toNat < S32768.size a := fun v160 k0_hw48 => k0_hw48

def k0_chk49 (v167 : IVec S16 32) : Prop :=
  (∀ a x, ((![v167] : Fin 1 → IVec S16 32) a x).toNat < S32768.size a)
theorem k0_idx49_inb : ∀ (v167 : IVec S16 32) (k0_hw49 : k0_chk49 v167), ∀ a x, ((![v167] : Fin 1 → IVec S16 32) a x).toNat < S32768.size a := fun v167 k0_hw49 => k0_hw49

def k0_chk50 (v174 : IVec S16 32) : Prop :=
  (∀ a x, ((![v174] : Fin 1 → IVec S16 32) a x).toNat < S32768.size a)
theorem k0_idx50_inb : ∀ (v174 : IVec S16 32) (k0_hw50 : k0_chk50 v174), ∀ a x, ((![v174] : Fin 1 → IVec S16 32) a x).toNat < S32768.size a := fun v174 k0_hw50 => k0_hw50

def k0_chk51 (v181 : IVec S16 32) : Prop :=
  (∀ a x, ((![v181] : Fin 1 → IVec S16 32) a x).toNat < S32768.size a)
theorem k0_idx51_inb : ∀ (v181 : IVec S16 32) (k0_hw51 : k0_chk51 v181), ∀ a x, ((![v181] : Fin 1 → IVec S16 32) a x).toNat < S32768.size a := fun v181 k0_hw51 => k0_hw51

def k0_chk52 (v188 : IVec S16 32) : Prop :=
  (∀ a x, ((![v188] : Fin 1 → IVec S16 32) a x).toNat < S32768.size a)
theorem k0_idx52_inb : ∀ (v188 : IVec S16 32) (k0_hw52 : k0_chk52 v188), ∀ a x, ((![v188] : Fin 1 → IVec S16 32) a x).toNat < S32768.size a := fun v188 k0_hw52 => k0_hw52

def k0_chk53 (v195 : IVec S16 32) : Prop :=
  (∀ a x, ((![v195] : Fin 1 → IVec S16 32) a x).toNat < S32768.size a)
theorem k0_idx53_inb : ∀ (v195 : IVec S16 32) (k0_hw53 : k0_chk53 v195), ∀ a x, ((![v195] : Fin 1 → IVec S16 32) a x).toNat < S32768.size a := fun v195 k0_hw53 => k0_hw53

def k0_chk54 (v202 : IVec S16 32) : Prop :=
  (∀ a x, ((![v202] : Fin 1 → IVec S16 32) a x).toNat < S32768.size a)
theorem k0_idx54_inb : ∀ (v202 : IVec S16 32) (k0_hw54 : k0_chk54 v202), ∀ a x, ((![v202] : Fin 1 → IVec S16 32) a x).toNat < S32768.size a := fun v202 k0_hw54 => k0_hw54

def k0_chk55 (v209 : IVec S16 32) : Prop :=
  (∀ a x, ((![v209] : Fin 1 → IVec S16 32) a x).toNat < S32768.size a)
theorem k0_idx55_inb : ∀ (v209 : IVec S16 32) (k0_hw55 : k0_chk55 v209), ∀ a x, ((![v209] : Fin 1 → IVec S16 32) a x).toNat < S32768.size a := fun v209 k0_hw55 => k0_hw55

def k0_chk56 (v216 : IVec S16 32) : Prop :=
  (∀ a x, ((![v216] : Fin 1 → IVec S16 32) a x).toNat < S32768.size a)
theorem k0_idx56_inb : ∀ (v216 : IVec S16 32) (k0_hw56 : k0_chk56 v216), ∀ a x, ((![v216] : Fin 1 → IVec S16 32) a x).toNat < S32768.size a := fun v216 k0_hw56 => k0_hw56

def k0_chk57 (v223 : IVec S16 32) : Prop :=
  (∀ a x, ((![v223] : Fin 1 → IVec S16 32) a x).toNat < S32768.size a)
theorem k0_idx57_inb : ∀ (v223 : IVec S16 32) (k0_hw57 : k0_chk57 v223), ∀ a x, ((![v223] : Fin 1 → IVec S16 32) a x).toNat < S32768.size a := fun v223 k0_hw57 => k0_hw57

def k0_chk58 (v230 : IVec S16 32) : Prop :=
  (∀ a x, ((![v230] : Fin 1 → IVec S16 32) a x).toNat < S32768.size a)
theorem k0_idx58_inb : ∀ (v230 : IVec S16 32) (k0_hw58 : k0_chk58 v230), ∀ a x, ((![v230] : Fin 1 → IVec S16 32) a x).toNat < S32768.size a := fun v230 k0_hw58 => k0_hw58

def k0_chk59 (v237 : IVec S16 32) : Prop :=
  (∀ a x, ((![v237] : Fin 1 → IVec S16 32) a x).toNat < S32768.size a)
theorem k0_idx59_inb : ∀ (v237 : IVec S16 32) (k0_hw59 : k0_chk59 v237), ∀ a x, ((![v237] : Fin 1 → IVec S16 32) a x).toNat < S32768.size a := fun v237 k0_hw59 => k0_hw59

def k0_chk60 (v244 : IVec S16 32) : Prop :=
  (∀ a x, ((![v244] : Fin 1 → IVec S16 32) a x).toNat < S32768.size a)
theorem k0_idx60_inb : ∀ (v244 : IVec S16 32) (k0_hw60 : k0_chk60 v244), ∀ a x, ((![v244] : Fin 1 → IVec S16 32) a x).toNat < S32768.size a := fun v244 k0_hw60 => k0_hw60

def k0_chk61 (v251 : IVec S16 32) : Prop :=
  (∀ a x, ((![v251] : Fin 1 → IVec S16 32) a x).toNat < S32768.size a)
theorem k0_idx61_inb : ∀ (v251 : IVec S16 32) (k0_hw61 : k0_chk61 v251), ∀ a x, ((![v251] : Fin 1 → IVec S16 32) a x).toNat < S32768.size a := fun v251 k0_hw61 => k0_hw61

def k0_chk62 (v258 : IVec S16 32) : Prop :=
  (∀ a x, ((![v258] : Fin 1 → IVec S16 32) a x).toNat < S32768.size a)
theorem k0_idx62_inb : ∀ (v258 : IVec S16 32) (k0_hw62 : k0_chk62 v258), ∀ a x, ((![v258] : Fin 1 → IVec S16 32) a x).toNat < S32768.size a := fun v258 k0_hw62 => k0_hw62

def k0_chk63 (v265 : IVec S16 32) : Prop :=
  (∀ a x, ((![v265] : Fin 1 → IVec S16 32) a x).toNat < S32768.size a)
theorem k0_idx63_inb : ∀ (v265 : IVec S16 32) (k0_hw63 : k0_chk63 v265), ∀ a x, ((![v265] : Fin 1 → IVec S16 32) a x).toNat < S32768.size a := fun v265 k0_hw63 => k0_hw63

def k0_chk64 (v272 : IVec S16 32) : Prop :=
  (∀ a x, ((![v272] : Fin 1 → IVec S16 32) a x).toNat < S32768.size a)
theorem k0_idx64_inb : ∀ (v272 : IVec S16 32) (k0_hw64 : k0_chk64 v272), ∀ a x, ((![v272] : Fin 1 → IVec S16 32) a x).toNat < S32768.size a := fun v272 k0_hw64 => k0_hw64

def k0_chk65 (v279 : IVec S16 32) : Prop :=
  (∀ a x, ((![v279] : Fin 1 → IVec S16 32) a x).toNat < S32768.size a)
theorem k0_idx65_inb : ∀ (v279 : IVec S16 32) (k0_hw65 : k0_chk65 v279), ∀ a x, ((![v279] : Fin 1 → IVec S16 32) a x).toNat < S32768.size a := fun v279 k0_hw65 => k0_hw65

def k0_chk66 (v286 : IVec S16 32) : Prop :=
  (∀ a x, ((![v286] : Fin 1 → IVec S16 32) a x).toNat < S32768.size a)
theorem k0_idx66_inb : ∀ (v286 : IVec S16 32) (k0_hw66 : k0_chk66 v286), ∀ a x, ((![v286] : Fin 1 → IVec S16 32) a x).toNat < S32768.size a := fun v286 k0_hw66 => k0_hw66

def k0_chk67 (v293 : IVec S16 32) : Prop :=
  (∀ a x, ((![v293] : Fin 1 → IVec S16 32) a x).toNat < S32768.size a)
theorem k0_idx67_inb : ∀ (v293 : IVec S16 32) (k0_hw67 : k0_chk67 v293), ∀ a x, ((![v293] : Fin 1 → IVec S16 32) a x).toNat < S32768.size a := fun v293 k0_hw67 => k0_hw67
def k0_off10 (k0_t3 : Fin k0_t3_loop.trips) : Fin 1 → Nat :=
  let c0_i32_20 : BitVec 32 := 0#32
  let c1_i32_22 : BitVec 32 := 1#32
  let arg15 : BitVec 32 := Scf.iv c0_i32_20 c1_i32_22 k0_t3
  let c16_i32_59 : BitVec 32 := 16#32
  let v299 : BitVec 32 := Scalar.muli arg15 c16_i32_59
  let v300 : Index := Scalar.indexCast v299
  ![v300.toNat]

def k0_chk68 (v371 : IVec S16 32) : Prop :=
  (∀ a x, ((![v371] : Fin 1 → IVec S16 32) a x).toNat < S528.size a)
theorem k0_idx68_inb : ∀ (v371 : IVec S16 32) (k0_hw68 : k0_chk68 v371), ∀ a x, ((![v371] : Fin 1 → IVec S16 32) a x).toNat < S528.size a := fun v371 k0_hw68 => k0_hw68

def k0_chk69 (v373 : IVec S16 32) : Prop :=
  (∀ a x, ((![v373] : Fin 1 → IVec S16 32) a x).toNat < S528.size a)
theorem k0_idx69_inb : ∀ (v373 : IVec S16 32) (k0_hw69 : k0_chk69 v373), ∀ a x, ((![v373] : Fin 1 → IVec S16 32) a x).toNat < S528.size a := fun v373 k0_hw69 => k0_hw69

def k0_chk70 (v375 : IVec S16 32) : Prop :=
  (∀ a x, ((![v375] : Fin 1 → IVec S16 32) a x).toNat < S528.size a)
theorem k0_idx70_inb : ∀ (v375 : IVec S16 32) (k0_hw70 : k0_chk70 v375), ∀ a x, ((![v375] : Fin 1 → IVec S16 32) a x).toNat < S528.size a := fun v375 k0_hw70 => k0_hw70
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "bound1" => some ((1 / 10 : ℝ) : EReal)
  | "bound2" => some ((1 / 5 : ℝ) : EReal)
  | "bound3" => some ((3 / 10 : ℝ) : EReal)
  | "bound4" => some ((2 / 5 : ℝ) : EReal)
  | "bound6" => some ((3 / 5 : ℝ) : EReal)
  | "bound7" => some ((7 / 10 : ℝ) : EReal)
  | "bound8" => some ((4 / 5 : ℝ) : EReal)
  | "bound9" => some ((9 / 10 : ℝ) : EReal)
  | _ => none
-- ==== ReferenceIdeal.lean ====
abbrev S2097152x32 : Shape := ⟨2, ![2097152, 32]⟩
abbrev S2097152 : Shape := ⟨1, ![2097152]⟩
abbrev S_ : Shape := ⟨0, ![]⟩
abbrev S10 : Shape := ⟨1, ![10]⟩
abbrev S1 : Shape := ⟨1, ![1]⟩
abbrev S11 : Shape := ⟨1, ![11]⟩

abbrev nBuf : Space → Nat
  | .hbm => 398
  | .vmem => 0
  | .smem => 0
  | _ => 0

abbrev hbmTy0_0 (i : Nat) : BufTy := match i % 128 with
  | 0 => ⟨S2097152x32, .f32⟩
  | 1 => ⟨S2097152, .i32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S10, .f32⟩
  | 10 => ⟨S_, .f32⟩
  | 11 => ⟨S10, .f32⟩
  | 12 => ⟨S10, .f32⟩
  | 13 => ⟨S1, .f32⟩
  | 14 => ⟨S_, .f32⟩
  | 15 => ⟨S10, .f32⟩
  | 16 => ⟨S10, .f32⟩
  | 17 => ⟨S10, .f32⟩
  | 18 => ⟨S10, .f32⟩
  | 19 => ⟨S1, .f32⟩
  | 20 => ⟨S10, .f32⟩
  | 21 => ⟨S10, .f32⟩
  | 22 => ⟨S10, .f32⟩
  | 23 => ⟨S1, .f32⟩
  | 24 => ⟨S11, .f32⟩
  | 25 => ⟨S10, .f32⟩
  | 26 => ⟨S10, .f32⟩
  | 27 => ⟨S_, .f32⟩
  | 28 => ⟨S2097152, .f32⟩
  | 29 => ⟨S2097152x32, .i32⟩
  | 30 => ⟨S_, .f32⟩
  | 31 => ⟨S_, .i32⟩
  | 32 => ⟨S2097152, .f32⟩
  | 33 => ⟨S2097152, .i32⟩
  | 34 => ⟨S2097152, .i1⟩
  | 35 => ⟨S2097152, .f32⟩
  | 36 => ⟨S_, .f32⟩
  | 37 => ⟨S1, .f32⟩
  | 38 => ⟨S1, .f32⟩
  | 39 => ⟨S_, .f32⟩
  | 40 => ⟨S1, .f32⟩
  | 41 => ⟨S_, .f32⟩
  | 42 => ⟨S2097152, .f32⟩
  | 43 => ⟨S2097152, .i1⟩
  | 44 => ⟨S2097152, .f32⟩
  | 45 => ⟨S2097152, .i1⟩
  | 46 => ⟨S2097152, .i1⟩
  | 47 => ⟨S2097152, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S2097152, .f32⟩
  | 57 => ⟨S_, .f32⟩
  | 58 => ⟨S_, .f32⟩
  | 59 => ⟨S_, .f32⟩
  | 60 => ⟨S2097152, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .i1⟩
  | 69 => ⟨S_, .f32⟩
  | 70 => ⟨S_, .f32⟩
  | 71 => ⟨S_, .f32⟩
  | 72 => ⟨S1, .f32⟩
  | 73 => ⟨S1, .f32⟩
  | 74 => ⟨S1, .f32⟩
  | 75 => ⟨S_, .f32⟩
  | 76 => ⟨S1, .f32⟩
  | 77 => ⟨S_, .f32⟩
  | 78 => ⟨S2097152, .f32⟩
  | 79 => ⟨S2097152, .i1⟩
  | 80 => ⟨S2097152, .f32⟩
  | 81 => ⟨S2097152, .i1⟩
  | 82 => ⟨S2097152, .i1⟩
  | 83 => ⟨S2097152, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S2097152, .f32⟩
  | 93 => ⟨S_, .f32⟩
  | 94 => ⟨S_, .f32⟩
  | 95 => ⟨S_, .f32⟩
  | 96 => ⟨S2097152, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S1, .f32⟩
  | 109 => ⟨S1, .f32⟩
  | 110 => ⟨S1, .f32⟩
  | 111 => ⟨S_, .f32⟩
  | 112 => ⟨S1, .f32⟩
  | 113 => ⟨S_, .f32⟩
  | 114 => ⟨S2097152, .f32⟩
  | 115 => ⟨S2097152, .i1⟩
  | 116 => ⟨S2097152, .f32⟩
  | 117 => ⟨S2097152, .i1⟩
  | 118 => ⟨S2097152, .i1⟩
  | 119 => ⟨S2097152, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2097152x32, .f32⟩

abbrev hbmTy0_1 (i : Nat) : BufTy := match i % 128 with
  | 0 => ⟨S2097152, .f32⟩
  | 1 => ⟨S_, .f32⟩
  | 2 => ⟨S_, .f32⟩
  | 3 => ⟨S_, .f32⟩
  | 4 => ⟨S2097152, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .i1⟩
  | 13 => ⟨S_, .f32⟩
  | 14 => ⟨S_, .f32⟩
  | 15 => ⟨S_, .f32⟩
  | 16 => ⟨S1, .f32⟩
  | 17 => ⟨S1, .f32⟩
  | 18 => ⟨S1, .f32⟩
  | 19 => ⟨S_, .f32⟩
  | 20 => ⟨S1, .f32⟩
  | 21 => ⟨S_, .f32⟩
  | 22 => ⟨S2097152, .f32⟩
  | 23 => ⟨S2097152, .i1⟩
  | 24 => ⟨S2097152, .f32⟩
  | 25 => ⟨S2097152, .i1⟩
  | 26 => ⟨S2097152, .i1⟩
  | 27 => ⟨S2097152, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S2097152, .f32⟩
  | 37 => ⟨S_, .f32⟩
  | 38 => ⟨S_, .f32⟩
  | 39 => ⟨S_, .f32⟩
  | 40 => ⟨S2097152, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S1, .f32⟩
  | 53 => ⟨S1, .f32⟩
  | 54 => ⟨S1, .f32⟩
  | 55 => ⟨S_, .f32⟩
  | 56 => ⟨S1, .f32⟩
  | 57 => ⟨S_, .f32⟩
  | 58 => ⟨S2097152, .f32⟩
  | 59 => ⟨S2097152, .i1⟩
  | 60 => ⟨S2097152, .f32⟩
  | 61 => ⟨S2097152, .i1⟩
  | 62 => ⟨S2097152, .i1⟩
  | 63 => ⟨S2097152, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S2097152, .f32⟩
  | 73 => ⟨S_, .f32⟩
  | 74 => ⟨S_, .f32⟩
  | 75 => ⟨S_, .f32⟩
  | 76 => ⟨S2097152, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S_, .f32⟩
  | 88 => ⟨S1, .f32⟩
  | 89 => ⟨S1, .f32⟩
  | 90 => ⟨S1, .f32⟩
  | 91 => ⟨S_, .f32⟩
  | 92 => ⟨S1, .f32⟩
  | 93 => ⟨S_, .f32⟩
  | 94 => ⟨S2097152, .f32⟩
  | 95 => ⟨S2097152, .i1⟩
  | 96 => ⟨S2097152, .f32⟩
  | 97 => ⟨S2097152, .i1⟩
  | 98 => ⟨S2097152, .i1⟩
  | 99 => ⟨S2097152, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S2097152, .f32⟩
  | 109 => ⟨S_, .f32⟩
  | 110 => ⟨S_, .f32⟩
  | 111 => ⟨S_, .f32⟩
  | 112 => ⟨S2097152, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S1, .f32⟩
  | 125 => ⟨S1, .f32⟩
  | 126 => ⟨S1, .f32⟩
  | 127 => ⟨S_, .f32⟩
  | _ => ⟨S2097152x32, .f32⟩

abbrev hbmTy0_2 (i : Nat) : BufTy := match i % 128 with
  | 0 => ⟨S1, .f32⟩
  | 1 => ⟨S_, .f32⟩
  | 2 => ⟨S2097152, .f32⟩
  | 3 => ⟨S2097152, .i1⟩
  | 4 => ⟨S2097152, .f32⟩
  | 5 => ⟨S2097152, .i1⟩
  | 6 => ⟨S2097152, .i1⟩
  | 7 => ⟨S2097152, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S2097152, .f32⟩
  | 17 => ⟨S_, .f32⟩
  | 18 => ⟨S_, .f32⟩
  | 19 => ⟨S_, .f32⟩
  | 20 => ⟨S2097152, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S1, .f32⟩
  | 33 => ⟨S1, .f32⟩
  | 34 => ⟨S1, .f32⟩
  | 35 => ⟨S_, .f32⟩
  | 36 => ⟨S1, .f32⟩
  | 37 => ⟨S_, .f32⟩
  | 38 => ⟨S2097152, .f32⟩
  | 39 => ⟨S2097152, .i1⟩
  | 40 => ⟨S2097152, .f32⟩
  | 41 => ⟨S2097152, .i1⟩
  | 42 => ⟨S2097152, .i1⟩
  | 43 => ⟨S2097152, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S2097152, .f32⟩
  | 53 => ⟨S_, .f32⟩
  | 54 => ⟨S_, .f32⟩
  | 55 => ⟨S_, .f32⟩
  | 56 => ⟨S2097152, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .i1⟩
  | 65 => ⟨S_, .f32⟩
  | 66 => ⟨S_, .f32⟩
  | 67 => ⟨S_, .f32⟩
  | 68 => ⟨S1, .f32⟩
  | 69 => ⟨S1, .f32⟩
  | 70 => ⟨S1, .f32⟩
  | 71 => ⟨S_, .f32⟩
  | 72 => ⟨S1, .f32⟩
  | 73 => ⟨S_, .f32⟩
  | 74 => ⟨S2097152, .f32⟩
  | 75 => ⟨S2097152, .i1⟩
  | 76 => ⟨S2097152, .f32⟩
  | 77 => ⟨S2097152, .i1⟩
  | 78 => ⟨S2097152, .i1⟩
  | 79 => ⟨S2097152, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S2097152, .f32⟩
  | 89 => ⟨S_, .f32⟩
  | 90 => ⟨S_, .f32⟩
  | 91 => ⟨S_, .f32⟩
  | 92 => ⟨S2097152, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S1, .f32⟩
  | 105 => ⟨S1, .f32⟩
  | 106 => ⟨S1, .f32⟩
  | 107 => ⟨S_, .f32⟩
  | 108 => ⟨S1, .f32⟩
  | 109 => ⟨S_, .f32⟩
  | 110 => ⟨S2097152, .f32⟩
  | 111 => ⟨S2097152, .i1⟩
  | 112 => ⟨S2097152, .f32⟩
  | 113 => ⟨S2097152, .i1⟩
  | 114 => ⟨S2097152, .i1⟩
  | 115 => ⟨S2097152, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S2097152, .f32⟩
  | 125 => ⟨S_, .f32⟩
  | 126 => ⟨S_, .f32⟩
  | 127 => ⟨S_, .f32⟩
  | _ => ⟨S2097152x32, .f32⟩

abbrev hbmTy0_3 (i : Nat) : BufTy := match i % 128 with
  | 0 => ⟨S2097152, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .i1⟩
  | 9 => ⟨S_, .f32⟩
  | 10 => ⟨S_, .f32⟩
  | 11 => ⟨S_, .f32⟩
  | 12 => ⟨S1, .f32⟩
  | 13 => ⟨S1, .f32⟩
  | _ => ⟨S2097152x32, .f32⟩

abbrev hbmTy (i : Nat) : BufTy := match i / 128 with
  | 0 => hbmTy0_0 i
  | 1 => hbmTy0_1 i
  | 2 => hbmTy0_2 i
  | 3 => hbmTy0_3 i
  | _ => ⟨S2097152x32, .f32⟩

abbrev bufTy : (tb : Table) → Fin (tcTables nBuf tb) → BufTy
  | .hbm, ⟨i, _⟩ => hbmTy i
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_call1_v0 : Ref sig .tc := ⟨.hbm, 29, rfl⟩
abbrev main_call1_cst : Ref sig .tc := ⟨.hbm, 30, rfl⟩
abbrev main_call1_c : Ref sig .tc := ⟨.hbm, 31, rfl⟩
abbrev main_call1_v1_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_2 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_cst_5 : Ref sig .tc := ⟨.hbm, 52, rfl⟩
abbrev main_v20 : Ref sig .tc := ⟨.hbm, 53, rfl⟩
abbrev main_cst_6 : Ref sig .tc := ⟨.hbm, 54, rfl⟩
abbrev main_v21 : Ref sig .tc := ⟨.hbm, 55, rfl⟩
abbrev main_v22 : Ref sig .tc := ⟨.hbm, 56, rfl⟩
abbrev main_cst_7 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_9 : Ref sig .tc := ⟨.hbm, 67, rfl⟩
abbrev main_v31 : Ref sig .tc := ⟨.hbm, 68, rfl⟩
abbrev main_cst_10 : Ref sig .tc := ⟨.hbm, 69, rfl⟩
abbrev main_call2_v0 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_cst_12 : Ref sig .tc := ⟨.hbm, 86, rfl⟩
abbrev main_v46 : Ref sig .tc := ⟨.hbm, 87, rfl⟩
abbrev main_cst_13 : Ref sig .tc := ⟨.hbm, 88, rfl⟩
abbrev main_v47 : Ref sig .tc := ⟨.hbm, 89, rfl⟩
abbrev main_cst_14 : Ref sig .tc := ⟨.hbm, 90, rfl⟩
abbrev main_v48 : Ref sig .tc := ⟨.hbm, 91, rfl⟩
abbrev main_v49 : Ref sig .tc := ⟨.hbm, 92, rfl⟩
abbrev main_cst_15 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_16 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_17 : Ref sig .tc := ⟨.hbm, 103, rfl⟩
abbrev main_v58 : Ref sig .tc := ⟨.hbm, 104, rfl⟩
abbrev main_cst_18 : Ref sig .tc := ⟨.hbm, 105, rfl⟩
abbrev main_call3_v0 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_19 : Ref sig .tc := ⟨.hbm, 120, rfl⟩
abbrev main_v72 : Ref sig .tc := ⟨.hbm, 121, rfl⟩
abbrev main_cst_20 : Ref sig .tc := ⟨.hbm, 122, rfl⟩
abbrev main_v73 : Ref sig .tc := ⟨.hbm, 123, rfl⟩
abbrev main_cst_21 : Ref sig .tc := ⟨.hbm, 124, rfl⟩
abbrev main_v74 : Ref sig .tc := ⟨.hbm, 125, rfl⟩
abbrev main_cst_22 : Ref sig .tc := ⟨.hbm, 126, rfl⟩
abbrev main_v75 : Ref sig .tc := ⟨.hbm, 127, rfl⟩
abbrev main_v76 : Ref sig .tc := ⟨.hbm, 128, rfl⟩
abbrev main_cst_23 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_24 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_25 : Ref sig .tc := ⟨.hbm, 139, rfl⟩
abbrev main_v85 : Ref sig .tc := ⟨.hbm, 140, rfl⟩
abbrev main_cst_26 : Ref sig .tc := ⟨.hbm, 141, rfl⟩
abbrev main_call4_v0 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_27 : Ref sig .tc := ⟨.hbm, 156, rfl⟩
abbrev main_v99 : Ref sig .tc := ⟨.hbm, 157, rfl⟩
abbrev main_cst_28 : Ref sig .tc := ⟨.hbm, 158, rfl⟩
abbrev main_v100 : Ref sig .tc := ⟨.hbm, 159, rfl⟩
abbrev main_cst_29 : Ref sig .tc := ⟨.hbm, 160, rfl⟩
abbrev main_v101 : Ref sig .tc := ⟨.hbm, 161, rfl⟩
abbrev main_cst_30 : Ref sig .tc := ⟨.hbm, 162, rfl⟩
abbrev main_v102 : Ref sig .tc := ⟨.hbm, 163, rfl⟩
abbrev main_v103 : Ref sig .tc := ⟨.hbm, 164, rfl⟩
abbrev main_cst_31 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_32 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_cst_33 : Ref sig .tc := ⟨.hbm, 175, rfl⟩
abbrev main_v112 : Ref sig .tc := ⟨.hbm, 176, rfl⟩
abbrev main_cst_34 : Ref sig .tc := ⟨.hbm, 177, rfl⟩
abbrev main_call5_v0 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_35 : Ref sig .tc := ⟨.hbm, 192, rfl⟩
abbrev main_v126 : Ref sig .tc := ⟨.hbm, 193, rfl⟩
abbrev main_cst_36 : Ref sig .tc := ⟨.hbm, 194, rfl⟩
abbrev main_v127 : Ref sig .tc := ⟨.hbm, 195, rfl⟩
abbrev main_cst_37 : Ref sig .tc := ⟨.hbm, 196, rfl⟩
abbrev main_v128 : Ref sig .tc := ⟨.hbm, 197, rfl⟩
abbrev main_cst_38 : Ref sig .tc := ⟨.hbm, 198, rfl⟩
abbrev main_v129 : Ref sig .tc := ⟨.hbm, 199, rfl⟩
abbrev main_v130 : Ref sig .tc := ⟨.hbm, 200, rfl⟩
abbrev main_cst_39 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_40 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_cst_41 : Ref sig .tc := ⟨.hbm, 211, rfl⟩
abbrev main_v139 : Ref sig .tc := ⟨.hbm, 212, rfl⟩
abbrev main_cst_42 : Ref sig .tc := ⟨.hbm, 213, rfl⟩
abbrev main_call6_v0 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_cst_43 : Ref sig .tc := ⟨.hbm, 228, rfl⟩
abbrev main_v153 : Ref sig .tc := ⟨.hbm, 229, rfl⟩
abbrev main_cst_44 : Ref sig .tc := ⟨.hbm, 230, rfl⟩
abbrev main_v154 : Ref sig .tc := ⟨.hbm, 231, rfl⟩
abbrev main_cst_45 : Ref sig .tc := ⟨.hbm, 232, rfl⟩
abbrev main_v155 : Ref sig .tc := ⟨.hbm, 233, rfl⟩
abbrev main_cst_46 : Ref sig .tc := ⟨.hbm, 234, rfl⟩
abbrev main_v156 : Ref sig .tc := ⟨.hbm, 235, rfl⟩
abbrev main_v157 : Ref sig .tc := ⟨.hbm, 236, rfl⟩
abbrev main_cst_47 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_cst_48 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_49 : Ref sig .tc := ⟨.hbm, 247, rfl⟩
abbrev main_v166 : Ref sig .tc := ⟨.hbm, 248, rfl⟩
abbrev main_cst_50 : Ref sig .tc := ⟨.hbm, 249, rfl⟩
abbrev main_call7_v0 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_cst_51 : Ref sig .tc := ⟨.hbm, 264, rfl⟩
abbrev main_v180 : Ref sig .tc := ⟨.hbm, 265, rfl⟩
abbrev main_cst_52 : Ref sig .tc := ⟨.hbm, 266, rfl⟩
abbrev main_v181 : Ref sig .tc := ⟨.hbm, 267, rfl⟩
abbrev main_cst_53 : Ref sig .tc := ⟨.hbm, 268, rfl⟩
abbrev main_v182 : Ref sig .tc := ⟨.hbm, 269, rfl⟩
abbrev main_cst_54 : Ref sig .tc := ⟨.hbm, 270, rfl⟩
abbrev main_v183 : Ref sig .tc := ⟨.hbm, 271, rfl⟩
abbrev main_v184 : Ref sig .tc := ⟨.hbm, 272, rfl⟩
abbrev main_cst_55 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_cst_56 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_cst_57 : Ref sig .tc := ⟨.hbm, 283, rfl⟩
abbrev main_v193 : Ref sig .tc := ⟨.hbm, 284, rfl⟩
abbrev main_cst_58 : Ref sig .tc := ⟨.hbm, 285, rfl⟩
abbrev main_call8_v0 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_cst_59 : Ref sig .tc := ⟨.hbm, 300, rfl⟩
abbrev main_v207 : Ref sig .tc := ⟨.hbm, 301, rfl⟩
abbrev main_cst_60 : Ref sig .tc := ⟨.hbm, 302, rfl⟩
abbrev main_v208 : Ref sig .tc := ⟨.hbm, 303, rfl⟩
abbrev main_cst_61 : Ref sig .tc := ⟨.hbm, 304, rfl⟩
abbrev main_v209 : Ref sig .tc := ⟨.hbm, 305, rfl⟩
abbrev main_cst_62 : Ref sig .tc := ⟨.hbm, 306, rfl⟩
abbrev main_v210 : Ref sig .tc := ⟨.hbm, 307, rfl⟩
abbrev main_v211 : Ref sig .tc := ⟨.hbm, 308, rfl⟩
abbrev main_cst_63 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_cst_64 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_cst_65 : Ref sig .tc := ⟨.hbm, 319, rfl⟩
abbrev main_v220 : Ref sig .tc := ⟨.hbm, 320, rfl⟩
abbrev main_cst_66 : Ref sig .tc := ⟨.hbm, 321, rfl⟩
abbrev main_call9_v0 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_cst_67 : Ref sig .tc := ⟨.hbm, 336, rfl⟩
abbrev main_v234 : Ref sig .tc := ⟨.hbm, 337, rfl⟩
abbrev main_cst_68 : Ref sig .tc := ⟨.hbm, 338, rfl⟩
abbrev main_v235 : Ref sig .tc := ⟨.hbm, 339, rfl⟩
abbrev main_cst_69 : Ref sig .tc := ⟨.hbm, 340, rfl⟩
abbrev main_v236 : Ref sig .tc := ⟨.hbm, 341, rfl⟩
abbrev main_cst_70 : Ref sig .tc := ⟨.hbm, 342, rfl⟩
abbrev main_v237 : Ref sig .tc := ⟨.hbm, 343, rfl⟩
abbrev main_v238 : Ref sig .tc := ⟨.hbm, 344, rfl⟩
abbrev main_cst_71 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_cst_72 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_cst_73 : Ref sig .tc := ⟨.hbm, 355, rfl⟩
abbrev main_v247 : Ref sig .tc := ⟨.hbm, 356, rfl⟩
abbrev main_cst_74 : Ref sig .tc := ⟨.hbm, 357, rfl⟩
abbrev main_call10_v0 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_cst_75 : Ref sig .tc := ⟨.hbm, 372, rfl⟩
abbrev main_v261 : Ref sig .tc := ⟨.hbm, 373, rfl⟩
abbrev main_cst_76 : Ref sig .tc := ⟨.hbm, 374, rfl⟩
abbrev main_v262 : Ref sig .tc := ⟨.hbm, 375, rfl⟩
abbrev main_cst_77 : Ref sig .tc := ⟨.hbm, 376, rfl⟩
abbrev main_v263 : Ref sig .tc := ⟨.hbm, 377, rfl⟩
abbrev main_cst_78 : Ref sig .tc := ⟨.hbm, 378, rfl⟩
abbrev main_v264 : Ref sig .tc := ⟨.hbm, 379, rfl⟩
abbrev main_v265 : Ref sig .tc := ⟨.hbm, 380, rfl⟩
abbrev main_cst_79 : Ref sig .tc := ⟨.hbm, 381, rfl⟩
abbrev main_v266 : Ref sig .tc := ⟨.hbm, 382, rfl⟩
abbrev main_v267 : Ref sig .tc := ⟨.hbm, 383, rfl⟩
abbrev main_v268 : Ref sig .tc := ⟨.hbm, 384, rfl⟩
abbrev main_cst_80 : Ref sig .tc := ⟨.hbm, 385, rfl⟩
abbrev main_v269 : Ref sig .tc := ⟨.hbm, 386, rfl⟩
abbrev main_v270 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_cst_81 : Ref sig .tc := ⟨.hbm, 391, rfl⟩
abbrev main_v274 : Ref sig .tc := ⟨.hbm, 392, rfl⟩
abbrev main_cst_82 : Ref sig .tc := ⟨.hbm, 393, rfl⟩
abbrev main_call11_v0 : Ref sig .tc := ⟨.hbm, 394, rfl⟩
abbrev main_v275 : Ref sig .tc := ⟨.hbm, 395, rfl⟩
abbrev main_v276 : Ref sig .tc := ⟨.hbm, 396, rfl⟩
abbrev main_v277 : Ref sig .tc := ⟨.hbm, 397, rfl⟩

abbrev nD : Nat := 1
abbrev τ : Topo := Topo.v7x

variable {F : FTy → Type} [FloatOps F]
-- ==== Proof.Rows.lean ====
/-
  What the kernel computes, lane by lane, with no memory in sight: the running maximum of a row of 32 scores and the
  first column that reaches it, the bin the maximum falls in, and the histogram a worker builds by adding, row after
  row, a one, a hit and the maximum into the slots of the row's bin. Stated over any float instance and any ten bounds.
-/
module

public import Idealize.ShloMosaic.PureOps
public import Idealize.ShloMosaic.Lib.Tactic

@[expose] public section

noncomputable section

namespace Cert.Ece

open Idealize.ShloMosaic

variable {F : FTy → Type} [FloatOps F]

/-! ## One row -/

/-- The greatest of the scores `a 0 … a n`, as the kernel keeps it: a later score replaces it when strictly greater. -/
def mx (a : ℕ → F .f32) : ℕ → F .f32
  | 0 => a 0
  | n + 1 => Scalar.select (FloatOps.cmpf .ogt (a (n + 1)) (mx a n)) (a (n + 1)) (mx a n)

/-- The column of that score. -/
def pr (a : ℕ → F .f32) : ℕ → BitVec 32
  | 0 => 0#32
  | n + 1 => Scalar.select (FloatOps.cmpf .ogt (a (n + 1)) (mx a n)) (BitVec.ofNat 32 (n + 1)) (pr a n)

/-- Minus one and how many of the first `n` bounds the score exceeds, as a word. -/
def cnt (bd : ℕ → F .f32) (s : F .f32) : ℕ → BitVec 32
  | 0 => 4294967295#32
  | n + 1 => IntOp.addi (cnt bd s n) (Scalar.select (FloatOps.cmpf .ogt s (bd n)) 1#32 0#32)

/-- The bin of a score: the count, or bin 10 when it is negative. -/
def bin (bd : ℕ → F .f32) (s : F .f32) : BitVec 32 :=
  Scalar.select (IntOp.cmpi .slt (cnt bd s 10) 0#32) 10#32 (cnt bd s 10)

/-- How many of the first `n` bounds the score exceeds. -/
def hits (bd : ℕ → F .f32) (s : F .f32) : ℕ → ℕ
  | 0 => 0
  | n + 1 => hits bd s n + if FloatOps.cmpf .ogt s (bd n) = 1 then 1 else 0

theorem hits_le (bd : ℕ → F .f32) (s : F .f32) (n : ℕ) : hits bd s n ≤ n := by
  induction n with
  | zero => exact le_rfl
  | succ n ih => unfold hits; split <;> omega

theorem cnt_eq (bd : ℕ → F .f32) (s : F .f32) (n : ℕ) :
    cnt bd s n = BitVec.ofNat 32 (hits bd s n) + 4294967295#32 := by
  induction n with
  | zero => simp only [cnt, hits, BitVec.ofNat_eq_ofNat, BitVec.zero_add]
  | succ n ih =>
    simp only [cnt, hits, Scalar.select, IntOp.addi]
    rw [ih]
    by_cases h : FloatOps.cmpf .ogt s (bd n) = 1
    · rw [if_pos h, if_pos h, BitVec.ofNat_add, BitVec.add_assoc, BitVec.add_assoc, BitVec.add_comm (4294967295#32)]
    · rw [if_neg h, if_neg h, Nat.add_zero, BitVec.add_zero]

theorem bin_of_hits : ∀ k : Fin 11,
    (Scalar.select (IntOp.cmpi .slt (BitVec.ofNat 32 k.val + 4294967295#32) 0#32) 10#32
      (BitVec.ofNat 32 k.val + 4294967295#32)).toNat = if k.val = 0 then 10 else k.val - 1 := by
  decide

/-- The bin as a number. -/
theorem bin_toNat (bd : ℕ → F .f32) (s : F .f32) :
    (bin bd s).toNat = if hits bd s 10 = 0 then 10 else hits bd s 10 - 1 := by
  have h := bin_of_hits ⟨hits bd s 10, Nat.lt_succ_of_le (hits_le bd s 10)⟩
  unfold bin; rw [cnt_eq]; exact h

theorem bin_le (bd : ℕ → F .f32) (s : F .f32) : (bin bd s).toNat ≤ 10 := by
  rw [bin_toNat]; have := hits_le bd s 10; split <;> omega

/-! ## The histogram -/

/-- The scores of row `ρ` of the flat table. -/
def rowOf (A : ℕ → F .f32) (ρ : ℕ) : ℕ → F .f32 := fun c => A (32 * ρ + c)

/-- The row's greatest score. -/
def conf (A : ℕ → F .f32) (ρ : ℕ) : F .f32 := mx (rowOf A ρ) 31

/-- One if the row's best column is its label, zero if not. -/
def hit (A : ℕ → F .f32) (Lb : ℕ → BitVec 32) (ρ : ℕ) : F .f32 :=
  Scalar.select (IntOp.cmpi .eq (pr (rowOf A ρ) 31) (Lb ρ)) (Scalar.ofBits .f32 0x3F800000#32) (Scalar.ofBits .f32 0x00000000#32)

/-- What row `ρ` adds into section `k` of the histogram. -/
def term (A : ℕ → F .f32) (Lb : ℕ → BitVec 32) (ρ : ℕ) : ℕ → F .f32
  | 0 => Scalar.ofBits .f32 0x3F800000#32
  | 1 => hit A Lb ρ
  | _ => conf A ρ

/-- The histogram after the sixteen rows from `r` on: slot `j` belongs to lane `j % 16`. -/
def step (bd : ℕ → F .f32) (A : ℕ → F .f32) (Lb : ℕ → BitVec 32) (r : ℕ) (h : ℕ → F .f32) : ℕ → F .f32 := fun j =>
  if (bin bd (conf A (r + j % 16))).toNat * 16 + j % 16 = j % 176
    then FloatOps.idxAddf (φ := .f32) (h j) (term A Lb (r + j % 16) (j / 176)) else h j

/-- The histogram after `n` groups of sixteen rows, the first at row `r`. -/
def hist (bd : ℕ → F .f32) (A : ℕ → F .f32) (Lb : ℕ → BitVec 32) (r : ℕ) : ℕ → ℕ → F .f32
  | 0 => fun _ => Scalar.ofBits .f32 0x00000000#32
  | n + 1 => step bd A Lb (r + 16 * n) (hist bd A Lb r n)

/-! ## Scattered adds at distinct lanes -/

abbrev T16 : Shape := ⟨1, ![16]⟩
abbrev T528 : Shape := ⟨1, ![528]⟩

/-- Lane `n % 16` of a vector. -/
def lane (n : ℕ) : T16.Idx := fun a => ⟨n % 16, by obtain rfl : a = 0 := Subsingleton.elim _ _; exact Nat.mod_lt n (by omega : 16 > 0)⟩

theorem lane_val (x : T16.Idx) : lane (x 0).val = x := by
  funext a; obtain rfl : a = 0 := Subsingleton.elim _ _
  apply Fin.ext; exact (Nat.mod_eq_of_lt (x 0).isLt : (x 0).val % 16 = (x 0).val)

/-- A fold of updates, each touching at most the places its key names, read at a place only one key can name. -/
theorem foldl_once {α ι β : Type} [DecidableEq ι] (cond : ι → α → Prop) [∀ k j, Decidable (cond k j)] (upd : ι → (α → β) → α → β)
    (st : (α → β) → ι → (α → β)) (hst : ∀ g k j, st g k j = if cond k j then upd k g j else g j)
    (j : α) (k₀ : ι) (hk : ∀ k, cond k j → k = k₀) (hu : ∀ g g', g j = g' j → upd k₀ g j = upd k₀ g' j) (l : List ι) (hl : l.Nodup) (f : α → β) :
    l.foldl st f j = if k₀ ∈ l ∧ cond k₀ j then upd k₀ f j else f j := by
  induction l generalizing f with
  | nil => simp
  | cons k l ih =>
    rw [List.foldl_cons, ih (List.nodup_cons.1 hl).2]
    have hn := (List.nodup_cons.1 hl).1
    by_cases hc : cond k₀ j
    · by_cases hkk : k = k₀
      · subst hkk
        rw [if_neg (fun h => hn h.1), if_pos ⟨List.mem_cons_self, hc⟩, hst, if_pos hc]
      · have hs : st f k j = f j := by rw [hst, if_neg (fun h => hkk (hk k h))]
        by_cases hm : k₀ ∈ l
        · rw [if_pos ⟨hm, hc⟩, if_pos ⟨List.mem_cons_of_mem _ hm, hc⟩]; exact hu _ _ hs
        · rw [if_neg (fun h => hm h.1), if_neg (fun h => (List.mem_cons.1 h.1).elim (fun e => hkk e.symm) hm), hs]
    · have hs : st f k j = f j := by
        rw [hst, if_neg (fun h => hc (hk k h ▸ h))]
      rw [if_neg (fun h => hc h.2), if_neg (fun h => hc h.2), hs]

/-- A scattered add whose lane `x` names a slot that is `x` modulo 16: each slot receives its own lane's value, if that
    lane names it, and no other. -/
theorem storeIdx_lanes (f : Vec F T528 .f32) (v : IVec T16 32) (u : Vec F T16 .f32)
    (h : ∀ a x, ((![v] : Fin 1 → IVec T16 32) a x).toNat < T528.size a) (hv : ∀ x, (v x).toNat % 16 = (x 0).val) (j : T528.Idx) :
    storeIdx (d := ![16]) f ![v] u (fun _ => 1#1) true h j
      = if (v (lane (j 0).val)).toNat = (j 0).val then FloatOps.idxAddf (φ := .f32) (f j) (u (lane (j 0).val)) else f j := by
  have hlane : ∀ k : Fin 16, (Shape.ofLane (d := ![16]) k) = lane k.val := by
    intro k; funext a; obtain rfl : a = 0 := Subsingleton.elim _ _
    apply Fin.ext; exact ((Nat.mod_eq_of_lt k.isLt).symm : k.val = k.val % 16)
  unfold storeIdx
  refine (foldl_once (α := T528.Idx) (ι := Fin 16) (β := F .f32) (fun k j => (v (lane k.val)).toNat = (j 0).val)
    (fun k g j => FloatOps.idxAddf (φ := .f32) (g j) (u (lane k.val))) _ ?hst j
    ⟨(j 0).val % 16, Nat.mod_lt _ (by omega)⟩ ?hk ?hu (List.finRange 16) (List.nodup_finRange _) f).trans ?_
  rotate_left 3
  · have e : lane ((j 0).val % 16) = lane (j 0).val := by funext a; apply Fin.ext; exact Nat.mod_mod _ _
    simp only [e]
    by_cases hc : (v (lane (j 0).val)).toNat = (j 0).val
    · rw [if_pos hc]
      rw [if_pos ⟨List.mem_finRange _, hc⟩]
    · rw [if_neg hc, if_neg fun h => hc h.2]
  case hst =>
    intro g k j
    have hs : (∀ a : Fin T528.rank, (j a).val = (idxAt (s := T528) ![v] h (Shape.ofLane (d := ![16]) k) a).val) ↔ (v (lane k.val)).toNat = (j 0).val := by
      constructor
      · intro hh; have := hh 0; rw [this]; show _ = (v (Shape.ofLane (d := ![16]) k)).toNat; rw [hlane]
      · intro hh a; obtain rfl : a = 0 := Subsingleton.elim _ _
        show _ = (v (Shape.ofLane (d := ![16]) k)).toNat; rw [hlane, hh]
    refine (congrFun (if_pos (rfl : (1#1 : BitVec 1) = 1)) j).trans ?_
    dsimp only
    by_cases hc : (v (lane k.val)).toNat = (j 0).val
    · rw [if_pos hc, if_pos (hs.2 hc)]
      have e : idxAt (s := T528) ![v] h (Shape.ofLane (d := ![16]) k) = j := by
        funext a; apply Fin.ext; exact ((hs.2 hc) a).symm
      rw [e, hlane, if_pos rfl]; rfl
    · rw [if_neg hc]; exact if_neg (fun hh => hc (hs.1 hh))
  case hk =>
    intro k hk
    apply Fin.ext
    have := hv (lane k.val)
    rw [hk] at this
    show k.val = (j 0).val % 16
    rw [this]; exact (Nat.mod_eq_of_lt k.isLt).symm
  case hu => intro g g' hg; simp only [hg]

end Cert.Ece
-- ==== Proof.IBase.lean ====
/-
  The kernel's program as the launch theorem sees it: its configuration, its resource algebra (the handshakes' rounds
  beside the transfers' counters), its arrays and buffers, and the ten bounds of its bins.
-/
module

public import proofs.«01_k».proof.Defs
public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen Cert.Ece

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The assertions of the proof. -/
abbrev MM (F : FTy → Type) : Type := MT nD τ sig (HIx 1) (Elt F) ℕ UU ℕ

/-- The handshakes' rounds: the left factor. The transfers' counters, the right one, are found by instance. -/
abbrev EH : Emb UH (MM F) := embL

/-! ## The arrays and the buffers -/

/-- The scores (flat), the labels, the table of histograms: as locations of device `d`. -/
abbrev xLoc (d : Dev nD) : Loc nD τ sig := (SparseCore.T d).loc main_v0
abbrev lLoc (d : Dev nD) : Loc nD τ sig := (SparseCore.T d).loc main_arg1
abbrev oLoc (d : Dev nD) : Loc nD τ sig := (SparseCore.T d).loc main_v1

abbrev xW : Memref sig .scVector .hbm S67108864 .f32 := Memref.whole main_v0_scv
abbrev lW : Memref sig .scVector .hbm S2097152 .i32 := Memref.whole main_arg1_scv
abbrev oW : Memref sig .scVector .hbm S32x528 .f32 := Memref.whole main_v1_scv
/-- The two staging buffers for scores, the two for labels, the histogram. -/
abbrev xb0 : Memref sig .scVector .vmem S32768 .f32 := Memref.whole cc0_scratch0
abbrev xb1 : Memref sig .scVector .vmem S32768 .f32 := Memref.whole cc0_scratch1
abbrev lb0 : Memref sig .scVector .vmem S1024 .i32 := Memref.whole cc0_scratch2
abbrev lb1 : Memref sig .scVector .vmem S1024 .i32 := Memref.whole cc0_scratch3
abbrev hb : Memref sig .scVector .vmem S528 .f32 := Memref.whole cc0_scratch4

abbrev cV (L : grid0.Coords) : Fin τ.nSC := (L 0).castLE hcore0
abbrev jV (L : grid0.Coords) : Fin τ.nSub := (L 1).castLE hsub0
/-- The thread of the vector subcore at `L`. -/
abbrev thr (d : Dev nD) (L : grid0.Coords) : Thread nD τ := V d (cV L) (jV L)

/-- A buffer of words or floats whose place `n` holds `a n`. -/
abbrev arrX (a : ℕ → F .f32) : S32768.Idx → F .f32 := fun j => a (j 0).val
abbrev arrL (l : ℕ → BitVec 32) : S1024.Idx → BitVec 32 := fun j => l (j 0).val
abbrev arrH (h : ℕ → F .f32) : S528.Idx → F .f32 := fun j => h (j 0).val

variable [FloatOps F] [Named F]

/-- The bounds of the bins, as the kernel writes them. -/
def bd : ℕ → F .f32
  | 0 => Scalar.ofBits .f32 0x00000000#32
  | 1 => Named.named κ "bound1" 0x3DCCCCCD#32
  | 2 => Named.named κ "bound2" 0x3E4CCCCD#32
  | 3 => Named.named κ "bound3" 0x3E99999A#32
  | 4 => Named.named κ "bound4" 0x3ECCCCCD#32
  | 5 => Scalar.ofBits .f32 0x3F000000#32
  | 6 => Named.named κ "bound6" 0x3F19999A#32
  | 7 => Named.named κ "bound7" 0x3F333333#32
  | 8 => Named.named κ "bound8" 0x3F4CCCCD#32
  | _ => Named.named κ "bound9" 0x3F666666#32

end Cert.Proof.KernelIdealRun

end
-- ==== Proof.IGroup.lean ====
/-
  One group of sixteen rows: the gathers of its 32 columns out of a staging buffer (running maximum and argmax), its
  labels, its bins, and the three scattered adds into the histogram. The two staging buffers' loops run the same steps
  over different buffers.
-/
module

public import proofs.«01_k».proof.Proof.IBase

@[expose] public section

noncomputable section

namespace Cert.Proof.KernelIdealRun

open Cert.KernelIdeal Cert.KernelIdeal.Gen Cert.Ece

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (d : Dev nD) (L : grid0.Coords)

local notation "𝕄" => MT nD τ sig (HIx 1) (Elt F) ℕ UU ℕ
/-- Programs of the vector subcore at `L`. -/
abbrev TP (F : FTy → Type) (L : grid0.Coords) (β : Type) : Type 1 :=
  Prog (TpuEff nD τ sig (Elt F) Λ₀ (.scVector ((L 0).castLE hcore0) ((L 1).castLE hsub0))) β

/-- What running `p` on the subcore at `L` needs for the post `Q`. -/
abbrev W {β : Type} (p : TP F L β) (Q : β → sProp 𝕄) : sProp 𝕄 :=
  wp Idealize.ShloMosaic.frame (wpE (defs₀ (F := F)) 𝒱₀ (thr d L) none) Set.univ p Q

/-- Column `c` of group `g` in a buffer of row-major rows of 32. -/
abbrev colV (a : ℕ → F .f32) (g c : ℕ) : Vec F S16 .f32 := fun x => a (512 * g + 32 * (x 0).val + c)
/-- The scores of lane `x`'s row. -/
abbrev laneRow (a : ℕ → F .f32) (g : ℕ) (x : S16.Idx) : ℕ → F .f32 := fun c => a (512 * g + 32 * (x 0).val + c)
abbrev mxV (a : ℕ → F .f32) (g n : ℕ) : Vec F S16 .f32 := fun x => mx (laneRow a g x) n
abbrev prV (a : ℕ → F .f32) (g n : ℕ) : IVec S16 32 := fun x => pr (laneRow a g x) n
/-- The places of the rows' first scores, and of their scores in column `c`. -/
abbrev placeV (g : ℕ) : IVec S16 32 := fun x => BitVec.ofNat 32 (512 * g + 32 * (x 0).val)
abbrev placeC (g c : ℕ) : IVec S16 32 := fun x => BitVec.ofNat 32 (512 * g + 32 * (x 0).val + c)

omit [FloatOps F] in
theorem placeC_toNat {g c : ℕ} (hg : g < 64) (hc : c < 32) (x : S16.Idx) : (placeC g c x).toNat = 512 * g + 32 * (x 0).val + c := by
  have hx : (x 0).val < 16 := (x 0).isLt
  rw [BitVec.toNat_ofNat]; exact Nat.mod_eq_of_lt (by omega)

theorem placeV_add (g c : ℕ) : (addi (placeV g) (broadcast S16 (BitVec.ofNat 32 c)) : IVec S16 32) = placeC g c :=
  funext fun x => (BitVec.ofNat_add _ _).symm

/-- Lane `x` names place 32 x, and the loop's variable the group. -/
theorem lanes_mul (g : ℕ) : (addi (k0_pay217 : IVec S16 32) (broadcast S16 (Scalar.muli (Scf.iv 0#32 1#32 g) 512#32)) : IVec S16 32) = placeV g := by
  funext x
  have h5 : (k0_pay217 : IVec S16 32) x = BitVec.ofNat 32 (32 * (x 0).val) := by
    have : ∀ k : Fin 16, (k0_pay217 : IVec S16 32) (fun a => Fin.cast (by obtain rfl : a = 0 := Subsingleton.elim _ _; rfl) k) = BitVec.ofNat 32 (32 * k.val) := by
      decide +kernel
    have hx : x = fun a => Fin.cast (by obtain rfl : a = 0 := Subsingleton.elim _ _; rfl) (x 0 : Fin 16) := by
      funext a; obtain rfl : a = 0 := Subsingleton.elim _ _; rfl
    rw [hx]; exact this _
  show IntOp.addi ((k0_pay217 : IVec S16 32) x) (Scalar.muli (Scf.iv 0#32 1#32 g) 512#32) = _
  rw [h5]
  show BitVec.ofNat 32 (32 * (x 0).val) + (0#32 + BitVec.ofNat 32 g * 1#32) * 512#32 = BitVec.ofNat 32 (512 * g + 32 * (x 0).val)
  rw [BitVec.zero_add, BitVec.mul_one, BitVec.ofNat_add, BitVec.add_comm, BitVec.ofNat_mul (x := 512), BitVec.mul_comm (512#32)]

/-- A finished program meets its post. -/
theorem ret_wp {β : Type} {x : β} {Q : β → sProp 𝕄} {P : sProp 𝕄} (h : P ⊢ Q x) : P ⊢ W d L (Prog.ret x) Q := by
  unfold W; rw [wp_ret]; iintro H; imodintro; iapply h; iexact H

/-! ## Holding a buffer -/

abbrev holdX0 (a : ℕ → F .f32) : sProp 𝕄 := (xb0.view.loc (thr d L)) ↦{fullShare} (arrX a)
abbrev holdL0 (l : ℕ → BitVec 32) : sProp 𝕄 := (lb0.view.loc (thr d L)) ↦{fullShare} (arrL l)

/-- A checked gather of column `c` out of buffer 0. -/
theorem gather0 {a : ℕ → F .f32} {g c : ℕ} (hg : g < 64) (hc : c < 32) {v : IVec S16 32} (hv : v = placeC g c)
    {P : Prop} {dP : Decidable P} (hP : (∀ i x, ((![v] : Fin 1 → IVec S16 32) i x).toNat < S32768.size i) → P)
    {hi : P → ∀ i x, ((![v] : Fin 1 → IVec S16 32) i x).toNat < S32768.size i} {hl : xb0.view.Loads}
    {β : Type} {k : Vec F S16 .f32 → TP F L β} {Q : β → sProp 𝕄} {R : sProp 𝕄}
    (h : iprop(holdX0 d L a ∗ R) ⊢ W d L (k (colV a g c)) Q) :
    iprop(holdX0 d L a ∗ R) ⊢ W d L (Prog.op (.assume P dP) fun hh => SparseCore.vectorLoadIdx xb0 ![v] (hi hh.down) hl >>= k) Q := by
  subst hv
  have hin : ∀ i x, ((![placeC g c] : Fin 1 → IVec S16 32) i x).toNat < S32768.size i := by
    intro i x; obtain rfl : i = 0 := Subsingleton.elim _ _
    have hx : (x 0).val < 16 := (x 0).isLt
    show (placeC g c x).toNat < 32768
    rw [placeC_toNat hg hc]; omega
  unfold W
  rw [wp_assume_of 𝒱₀ (thr d L) none Set.univ (hP hin)]
  iintro ⟨Hx, HR⟩
  iapply (SparseCore.wp_vectorLoadIdx 𝒱₀ (thr d L) none Set.univ (base := xb0) (S := Finset.univ) (Finset.subset_univ _)) $$ Hx
  iintro Hx
  have hval : loadIdx ((xb0.access (.whole S32768)).read (Elt F) (arrX a)) ![placeC g c] (hi (hP hin)) = colV a g c := by
    funext x
    show ((xb0.access (.whole S32768)).read (Elt F) (arrX a)) (idxAt ![placeC g c] (hi (hP hin)) x) = _
    rw [show (xb0.access (.whole S32768)).read (Elt F) (arrX a) = arrX a from Memref.read_access_whole _ _ _]
    show a (placeC g c x).toNat = _
    rw [placeC_toNat hg hc]
  rw [hval]
  iapply h
  isplitl [Hx]; · iexact Hx
  iexact HR

abbrev holdX1 (a : ℕ → F .f32) : sProp 𝕄 := (xb1.view.loc (thr d L)) ↦{fullShare} (arrX a)
abbrev holdL1 (l : ℕ → BitVec 32) : sProp 𝕄 := (lb1.view.loc (thr d L)) ↦{fullShare} (arrL l)

/-- A checked gather of column `c` out of buffer 1. -/
theorem gather1 {a : ℕ → F .f32} {g c : ℕ} (hg : g < 64) (hc : c < 32) {v : IVec S16 32} (hv : v = placeC g c)
    {P : Prop} {dP : Decidable P} (hP : (∀ i x, ((![v] : Fin 1 → IVec S16 32) i x).toNat < S32768.size i) → P)
    {hi : P → ∀ i x, ((![v] : Fin 1 → IVec S16 32) i x).toNat < S32768.size i} {hl : xb1.view.Loads}
    {β : Type} {k : Vec F S16 .f32 → TP F L β} {Q : β → sProp 𝕄} {R : sProp 𝕄}
    (h : iprop(holdX1 d L a ∗ R) ⊢ W d L (k (colV a g c)) Q) :
    iprop(holdX1 d L a ∗ R) ⊢ W d L (Prog.op (.assume P dP) fun hh => SparseCore.vectorLoadIdx xb1 ![v] (hi hh.down) hl >>= k) Q := by
  subst hv
  have hin : ∀ i x, ((![placeC g c] : Fin 1 → IVec S16 32) i x).toNat < S32768.size i := by
    intro i x; obtain rfl : i = 0 := Subsingleton.elim _ _
    have hx : (x 0).val < 16 := (x 0).isLt
    show (placeC g c x).toNat < 32768
    rw [placeC_toNat hg hc]; omega
  unfold W
  rw [wp_assume_of 𝒱₀ (thr d L) none Set.univ (hP hin)]
  iintro ⟨Hx, HR⟩
  iapply (SparseCore.wp_vectorLoadIdx 𝒱₀ (thr d L) none Set.univ (base := xb1) (S := Finset.univ) (Finset.subset_univ _)) $$ Hx
  iintro Hx
  have hval : loadIdx ((xb1.access (.whole S32768)).read (Elt F) (arrX a)) ![placeC g c] (hi (hP hin)) = colV a g c := by
    funext x
    show ((xb1.access (.whole S32768)).read (Elt F) (arrX a)) (idxAt ![placeC g c] (hi (hP hin)) x) = _
    rw [show (xb1.access (.whole S32768)).read (Elt F) (arrX a) = arrX a from Memref.read_access_whole _ _ _]
    show a (placeC g c x).toNat = _
    rw [placeC_toNat hg hc]
  rw [hval]
  iapply h
  isplitl [Hx]; · iexact Hx
  iexact HR

theorem part1_wp (a : ℕ → F .f32) (g : Fin k0_t2_loop.trips) (hg : g.val < 64) {Q : (Σ' (_ : BitVec 32) (_ : IVec S16 32) (_ : Vec F S16 .f32) (_ : IVec S16 32), BitVec 32) → sProp 𝕄} {R : sProp 𝕄}
    (h : iprop(holdX0 d L a ∗ R) ⊢ Q ⟨Scf.iv 0#32 1#32 g.val, placeV g.val, mxV a g.val 5, prV a g.val 5, 6#32⟩) :
    iprop(holdX0 d L a ∗ R) ⊢ W d L (k0_part1 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 k0_pay217 0#32 1#32 g) Q := by
  rw [k0_part1_eq_skeleton]; unfold k0_part1_skel
  simp only [Prog.lift, Prog.bind_op, Prog.bind_ret, Prog.pure_eq_ret]
  refine gather0 d L (c := 0) hg (by omega) (lanes_mul g.val) (fun h => h) ?_
  refine gather0 d L (c := 1) hg (by omega) ((congrArg (fun v => addi v (broadcast S16 1#32)) (lanes_mul g.val)).trans (placeV_add g.val 1)) (fun h => h) ?_
  refine gather0 d L (c := 2) hg (by omega) ((congrArg (fun v => addi v (broadcast S16 2#32)) (lanes_mul g.val)).trans (placeV_add g.val 2)) (fun h => h) ?_
  refine gather0 d L (c := 3) hg (by omega) ((congrArg (fun v => addi v (broadcast S16 3#32)) (lanes_mul g.val)).trans (placeV_add g.val 3)) (fun h => h) ?_
  refine gather0 d L (c := 4) hg (by omega) ((congrArg (fun v => addi v (broadcast S16 4#32)) (lanes_mul g.val)).trans (placeV_add g.val 4)) (fun h => h) ?_
  refine gather0 d L (c := 5) hg (by omega) ((congrArg (fun v => addi v (broadcast S16 5#32)) (lanes_mul g.val)).trans (placeV_add g.val 5)) (fun h => h) ?_
  refine ret_wp d L ?_
  rw [show k0_pay1 k0_pay217 0#32 1#32 g = placeV g.val from lanes_mul g.val]
  exact h

theorem part2_wp (a : ℕ → F .f32) (g : Fin k0_t2_loop.trips) (hg : g.val < 64) {Q : (Σ' (_ : Vec F S16 .f32) (_ : IVec S16 32), BitVec 32) → sProp 𝕄} {R : sProp 𝕄}
    (h : iprop(holdX0 d L a ∗ R) ⊢ Q ⟨mxV a g.val 11, prV a g.val 11, 12#32⟩) :
    iprop(holdX0 d L a ∗ R) ⊢ W d L (k0_part2 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 5) (prV a g.val 5) 6#32) Q := by
  rw [k0_part2_eq_skeleton]; unfold k0_part2_skel
  simp only [Prog.lift, Prog.bind_op, Prog.bind_ret, Prog.pure_eq_ret]
  refine gather0 d L (c := 6) hg (by omega) (placeV_add g.val 6) (fun h => h) ?_
  refine gather0 d L (c := 7) hg (by omega) (placeV_add g.val 7) (fun h => h) ?_
  refine gather0 d L (c := 8) hg (by omega) (placeV_add g.val 8) (fun h => h) ?_
  refine gather0 d L (c := 9) hg (by omega) (placeV_add g.val 9) (fun h => h) ?_
  refine gather0 d L (c := 10) hg (by omega) (placeV_add g.val 10) (fun h => h) ?_
  refine gather0 d L (c := 11) hg (by omega) (placeV_add g.val 11) (fun h => h) ?_
  refine ret_wp d L ?_
  exact h

theorem part3_wp (a : ℕ → F .f32) (g : Fin k0_t2_loop.trips) (hg : g.val < 64) {Q : (Σ' (_ : Vec F S16 .f32) (_ : IVec S16 32), BitVec 32) → sProp 𝕄} {R : sProp 𝕄}
    (h : iprop(holdX0 d L a ∗ R) ⊢ Q ⟨mxV a g.val 17, prV a g.val 17, 18#32⟩) :
    iprop(holdX0 d L a ∗ R) ⊢ W d L (k0_part3 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 11) (prV a g.val 11) 12#32) Q := by
  rw [k0_part3_eq_skeleton]; unfold k0_part3_skel
  simp only [Prog.lift, Prog.bind_op, Prog.bind_ret, Prog.pure_eq_ret]
  refine gather0 d L (c := 12) hg (by omega) (placeV_add g.val 12) (fun h => h) ?_
  refine gather0 d L (c := 13) hg (by omega) (placeV_add g.val 13) (fun h => h) ?_
  refine gather0 d L (c := 14) hg (by omega) (placeV_add g.val 14) (fun h => h) ?_
  refine gather0 d L (c := 15) hg (by omega) (placeV_add g.val 15) (fun h => h) ?_
  refine gather0 d L (c := 16) hg (by omega) (placeV_add g.val 16) (fun h => h) ?_
  refine gather0 d L (c := 17) hg (by omega) (placeV_add g.val 17) (fun h => h) ?_
  refine ret_wp d L ?_
  exact h

theorem part4_wp (a : ℕ → F .f32) (g : Fin k0_t2_loop.trips) (hg : g.val < 64) {Q : (Σ' (_ : Vec F S16 .f32) (_ : IVec S16 32), BitVec 32) → sProp 𝕄} {R : sProp 𝕄}
    (h : iprop(holdX0 d L a ∗ R) ⊢ Q ⟨mxV a g.val 23, prV a g.val 23, 24#32⟩) :
    iprop(holdX0 d L a ∗ R) ⊢ W d L (k0_part4 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 17) (prV a g.val 17) 18#32) Q := by
  rw [k0_part4_eq_skeleton]; unfold k0_part4_skel
  simp only [Prog.lift, Prog.bind_op, Prog.bind_ret, Prog.pure_eq_ret]
  refine gather0 d L (c := 18) hg (by omega) (placeV_add g.val 18) (fun h => h) ?_
  refine gather0 d L (c := 19) hg (by omega) (placeV_add g.val 19) (fun h => h) ?_
  refine gather0 d L (c := 20) hg (by omega) (placeV_add g.val 20) (fun h => h) ?_
  refine gather0 d L (c := 21) hg (by omega) (placeV_add g.val 21) (fun h => h) ?_
  refine gather0 d L (c := 22) hg (by omega) (placeV_add g.val 22) (fun h => h) ?_
  refine gather0 d L (c := 23) hg (by omega) (placeV_add g.val 23) (fun h => h) ?_
  refine ret_wp d L ?_
  exact h

theorem part5_wp (a : ℕ → F .f32) (g : Fin k0_t2_loop.trips) (hg : g.val < 64) {Q : (Σ' (_ : Vec F S16 .f32) (_ : IVec S16 32), BitVec 32) → sProp 𝕄} {R : sProp 𝕄}
    (h : iprop(holdX0 d L a ∗ R) ⊢ Q ⟨mxV a g.val 29, prV a g.val 29, 30#32⟩) :
    iprop(holdX0 d L a ∗ R) ⊢ W d L (k0_part5 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 23) (prV a g.val 23) 24#32) Q := by
  rw [k0_part5_eq_skeleton]; unfold k0_part5_skel
  simp only [Prog.lift, Prog.bind_op, Prog.bind_ret, Prog.pure_eq_ret]
  refine gather0 d L (c := 24) hg (by omega) (placeV_add g.val 24) (fun h => h) ?_
  refine gather0 d L (c := 25) hg (by omega) (placeV_add g.val 25) (fun h => h) ?_
  refine gather0 d L (c := 26) hg (by omega) (placeV_add g.val 26) (fun h => h) ?_
  refine gather0 d L (c := 27) hg (by omega) (placeV_add g.val 27) (fun h => h) ?_
  refine gather0 d L (c := 28) hg (by omega) (placeV_add g.val 28) (fun h => h) ?_
  refine gather0 d L (c := 29) hg (by omega) (placeV_add g.val 29) (fun h => h) ?_
  refine ret_wp d L ?_
  exact h

theorem part8_wp (a : ℕ → F .f32) (g : Fin k0_t3_loop.trips) (hg : g.val < 64) {Q : (Σ' (_ : BitVec 32) (_ : IVec S16 32) (_ : Vec F S16 .f32) (_ : IVec S16 32), BitVec 32) → sProp 𝕄} {R : sProp 𝕄}
    (h : iprop(holdX1 d L a ∗ R) ⊢ Q ⟨Scf.iv 0#32 1#32 g.val, placeV g.val, mxV a g.val 5, prV a g.val 5, 6#32⟩) :
    iprop(holdX1 d L a ∗ R) ⊢ W d L (k0_part8 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 k0_pay217 0#32 1#32 g) Q := by
  rw [k0_part8_eq_skeleton]; unfold k0_part8_skel
  simp only [Prog.lift, Prog.bind_op, Prog.bind_ret, Prog.pure_eq_ret]
  refine gather1 d L (c := 0) hg (by omega) (lanes_mul g.val) (fun h => h) ?_
  refine gather1 d L (c := 1) hg (by omega) ((congrArg (fun v => addi v (broadcast S16 1#32)) (lanes_mul g.val)).trans (placeV_add g.val 1)) (fun h => h) ?_
  refine gather1 d L (c := 2) hg (by omega) ((congrArg (fun v => addi v (broadcast S16 2#32)) (lanes_mul g.val)).trans (placeV_add g.val 2)) (fun h => h) ?_
  refine gather1 d L (c := 3) hg (by omega) ((congrArg (fun v => addi v (broadcast S16 3#32)) (lanes_mul g.val)).trans (placeV_add g.val 3)) (fun h => h) ?_
  refine gather1 d L (c := 4) hg (by omega) ((congrArg (fun v => addi v (broadcast S16 4#32)) (lanes_mul g.val)).trans (placeV_add g.val 4)) (fun h => h) ?_
  refine gather1 d L (c := 5) hg (by omega) ((congrArg (fun v => addi v (broadcast S16 5#32)) (lanes_mul g.val)).trans (placeV_add g.val 5)) (fun h => h) ?_
  refine ret_wp d L ?_
  rw [show k0_pay106 k0_pay217 0#32 1#32 g = placeV g.val from lanes_mul g.val]
  exact h

theorem part9_wp (a : ℕ → F .f32) (g : Fin k0_t3_loop.trips) (hg : g.val < 64) {Q : (Σ' (_ : Vec F S16 .f32) (_ : IVec S16 32), BitVec 32) → sProp 𝕄} {R : sProp 𝕄}
    (h : iprop(holdX1 d L a ∗ R) ⊢ Q ⟨mxV a g.val 11, prV a g.val 11, 12#32⟩) :
    iprop(holdX1 d L a ∗ R) ⊢ W d L (k0_part9 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 5) (prV a g.val 5) 6#32) Q := by
  rw [k0_part9_eq_skeleton]; unfold k0_part9_skel
  simp only [Prog.lift, Prog.bind_op, Prog.bind_ret, Prog.pure_eq_ret]
  refine gather1 d L (c := 6) hg (by omega) (placeV_add g.val 6) (fun h => h) ?_
  refine gather1 d L (c := 7) hg (by omega) (placeV_add g.val 7) (fun h => h) ?_
  refine gather1 d L (c := 8) hg (by omega) (placeV_add g.val 8) (fun h => h) ?_
  refine gather1 d L (c := 9) hg (by omega) (placeV_add g.val 9) (fun h => h) ?_
  refine gather1 d L (c := 10) hg (by omega) (placeV_add g.val 10) (fun h => h) ?_
  refine gather1 d L (c := 11) hg (by omega) (placeV_add g.val 11) (fun h => h) ?_
  refine ret_wp d L ?_
  exact h

theorem part10_wp (a : ℕ → F .f32) (g : Fin k0_t3_loop.trips) (hg : g.val < 64) {Q : (Σ' (_ : Vec F S16 .f32) (_ : IVec S16 32), BitVec 32) → sProp 𝕄} {R : sProp 𝕄}
    (h : iprop(holdX1 d L a ∗ R) ⊢ Q ⟨mxV a g.val 17, prV a g.val 17, 18#32⟩) :
    iprop(holdX1 d L a ∗ R) ⊢ W d L (k0_part10 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 11) (prV a g.val 11) 12#32) Q := by
  rw [k0_part10_eq_skeleton]; unfold k0_part10_skel
  simp only [Prog.lift, Prog.bind_op, Prog.bind_ret, Prog.pure_eq_ret]
  refine gather1 d L (c := 12) hg (by omega) (placeV_add g.val 12) (fun h => h) ?_
  refine gather1 d L (c := 13) hg (by omega) (placeV_add g.val 13) (fun h => h) ?_
  refine gather1 d L (c := 14) hg (by omega) (placeV_add g.val 14) (fun h => h) ?_
  refine gather1 d L (c := 15) hg (by omega) (placeV_add g.val 15) (fun h => h) ?_
  refine gather1 d L (c := 16) hg (by omega) (placeV_add g.val 16) (fun h => h) ?_
  refine gather1 d L (c := 17) hg (by omega) (placeV_add g.val 17) (fun h => h) ?_
  refine ret_wp d L ?_
  exact h

theorem part11_wp (a : ℕ → F .f32) (g : Fin k0_t3_loop.trips) (hg : g.val < 64) {Q : (Σ' (_ : Vec F S16 .f32) (_ : IVec S16 32), BitVec 32) → sProp 𝕄} {R : sProp 𝕄}
    (h : iprop(holdX1 d L a ∗ R) ⊢ Q ⟨mxV a g.val 23, prV a g.val 23, 24#32⟩) :
    iprop(holdX1 d L a ∗ R) ⊢ W d L (k0_part11 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 17) (prV a g.val 17) 18#32) Q := by
  rw [k0_part11_eq_skeleton]; unfold k0_part11_skel
  simp only [Prog.lift, Prog.bind_op, Prog.bind_ret, Prog.pure_eq_ret]
  refine gather1 d L (c := 18) hg (by omega) (placeV_add g.val 18) (fun h => h) ?_
  refine gather1 d L (c := 19) hg (by omega) (placeV_add g.val 19) (fun h => h) ?_
  refine gather1 d L (c := 20) hg (by omega) (placeV_add g.val 20) (fun h => h) ?_
  refine gather1 d L (c := 21) hg (by omega) (placeV_add g.val 21) (fun h => h) ?_
  refine gather1 d L (c := 22) hg (by omega) (placeV_add g.val 22) (fun h => h) ?_
  refine gather1 d L (c := 23) hg (by omega) (placeV_add g.val 23) (fun h => h) ?_
  refine ret_wp d L ?_
  exact h

theorem part12_wp (a : ℕ → F .f32) (g : Fin k0_t3_loop.trips) (hg : g.val < 64) {Q : (Σ' (_ : Vec F S16 .f32) (_ : IVec S16 32), BitVec 32) → sProp 𝕄} {R : sProp 𝕄}
    (h : iprop(holdX1 d L a ∗ R) ⊢ Q ⟨mxV a g.val 29, prV a g.val 29, 30#32⟩) :
    iprop(holdX1 d L a ∗ R) ⊢ W d L (k0_part12 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 (placeV g.val) (mxV a g.val 23) (prV a g.val 23) 24#32) Q := by
  rw [k0_part12_eq_skeleton]; unfold k0_part12_skel
  simp only [Prog.lift, Prog.bind_op, Prog.bind_ret, Prog.pure_eq_ret]
  refine gather1 d L (c := 24) hg (by omega) (placeV_add g.val 24) (fun h => h) ?_
  refine gather1 d L (c := 25) hg (by omega) (placeV_add g.val 25) (fun h => h) ?_
  refine gather1 d L (c := 26) hg (by omega) (placeV_add g.val 26) (fun h => h) ?_
  refine gather1 d L (c := 27) hg (by omega) (placeV_add g.val 27) (fun h => h) ?_
  refine gather1 d L (c := 28) hg (by omega) (placeV_add g.val 28) (fun h => h) ?_
  refine gather1 d L (c := 29) hg (by omega) (placeV_add g.val 29) (fun h => h) ?_
  refine ret_wp d L ?_
  exact h

/-! ## The scattered adds -/

abbrev holdH (h : ℕ → F .f32) : sProp 𝕄 := (hb.view.loc (thr d L)) ↦{fullShare} (arrH h)

omit [FloatOps F] in
theorem perm1 {A B C R : sProp 𝕄} : iprop(A ∗ B ∗ C ∗ R) ⊢ iprop(C ∗ A ∗ B ∗ R) := by
  iintro ⟨HA, HB, HC, HR⟩
  isplitl [HC]; · iexact HC
  isplitl [HA]; · iexact HA
  isplitl [HB]; · iexact HB
  iexact HR
omit [FloatOps F] in
theorem perm2 {A B C R : sProp 𝕄} : iprop(C ∗ A ∗ B ∗ R) ⊢ iprop(A ∗ B ∗ C ∗ R) := by
  iintro ⟨HC, HA, HB, HR⟩
  isplitl [HA]; · iexact HA
  isplitl [HB]; · iexact HB
  isplitl [HC]; · iexact HC
  iexact HR

/-- Running one program and then another. -/
theorem bind_wp {α β : Type} {p : TP F L α} {k : α → TP F L β} {Q : β → sProp 𝕄} {P : sProp 𝕄}
    (h : P ⊢ W d L p (fun x => W d L (k x) Q)) : P ⊢ W d L (p >>= k) Q := by
  unfold W at h ⊢; rw [wp_bind]; exact h

/-- A checked scatter that adds at slots congruent to their lanes. -/
theorem scatter (f : ℕ → F .f32) {v : IVec S16 32} (hlt : ∀ x, (v x).toNat < 528) (hl : ∀ x, (v x).toNat % 16 = (x 0).val)
    {u : Vec F S16 .f32} {P : Prop} {dP : Decidable P} (hP : (∀ i x, ((![v] : Fin 1 → IVec S16 32) i x).toNat < S528.size i) → P)
    {hi : P → ∀ i x, ((![v] : Fin 1 → IVec S16 32) i x).toNat < S528.size i} {hs : (hb.access (.whole S528)).Stores Finset.univ}
    {β : Type} {k : PUnit → TP F L β} {Q : β → sProp 𝕄} {R : sProp 𝕄}
    (h : iprop(holdH d L (fun j => if (v (lane j)).toNat = j then FloatOps.idxAddf (φ := .f32) (f j) (u (lane j)) else f j) ∗ R) ⊢ W d L (k ⟨⟩) Q) :
    iprop(holdH d L f ∗ R) ⊢ W d L (Prog.op (.assume P dP) fun hh =>
      SparseCore.vectorStoreIdx hb ![v] u (fun _ => 1#1) true (hi hh.down) hs >>= k) Q := by
  have hin : ∀ i x, ((![v] : Fin 1 → IVec S16 32) i x).toNat < S528.size i := by
    intro i x; obtain rfl : i = 0 := Subsingleton.elim _ _
    exact hlt x
  have hset : (hb.access (.whole S528)).set = Finset.univ := Memref.set_access_whole _
  have hval : (hb.access (.whole S528)).write (Elt F) (arrH f)
      (storeIdx ((hb.access (.whole S528)).read (Elt F) (arrH f)) ![v] u (fun _ => 1#1) true (hi (hP hin))) Finset.univ
      = arrH (fun j => if (v (lane j)).toNat = j then FloatOps.idxAddf (φ := .f32) (f j) (u (lane j)) else f j) := by
    rw [show (hb.access (.whole S528)).read (Elt F) (arrH f) = arrH f from Memref.read_access_whole _ _ _]
    refine (Memref.write_access_whole_univ _ _ _ _).trans ?_
    funext j
    exact storeIdx_lanes (arrH f) v u (hi (hP hin)) hl j
  have key := SparseCore.wp_vectorStoreIdx (defs := defs₀ (F := F)) 𝒱₀ (thr d L) none Set.univ (base := hb) (idxs := ![v]) (v := u) (mask := fun _ => 1#1)
    (add := true) (h := hi (hP hin)) (hs := hs) (k := k) (f := arrH f) (Q := Q)
  rw [hset, hval] at key
  unfold W at h ⊢
  rw [wp_assume_of 𝒱₀ (thr d L) none Set.univ (hP hin)]
  iintro ⟨Hh, HR⟩
  iapply key $$ Hh
  iintro Hh
  iapply h
  isplitl [Hh]; · iexact Hh
  iexact HR

/-- The lanes' numbers. -/
abbrev lanesV : IVec S16 32 := iota .scVector S16 32 [0] iota_S16_d0_w32_scVector

theorem lanesV_apply (x : S16.Idx) : (lanesV x) = BitVec.ofNat 32 (x 0).val := by
  have : ∀ k : Fin 16, lanesV (fun a => Fin.cast (by obtain rfl : a = 0 := Subsingleton.elim _ _; rfl) k) = BitVec.ofNat 32 k.val := by
    decide +kernel
  have hx : x = fun a => Fin.cast (by obtain rfl : a = 0 := Subsingleton.elim _ _; rfl) (x 0 : Fin 16) := by
    funext a; obtain rfl : a = 0 := Subsingleton.elim _ _; rfl
  rw [hx]; exact this _

/-- The slot of a lane's row in the first section. -/
abbrev slotV (a : ℕ → F .f32) (g : ℕ) : IVec S16 32 := fun x => IntOp.addi (IntOp.muli (bin bd (mxV a g 31 x)) 16#32) (lanesV x)
abbrev slotK (a : ℕ → F .f32) (g k : ℕ) : IVec S16 32 := fun x => IntOp.addi (slotV a g x) (BitVec.ofNat 32 k)

theorem slotV_toNat (a : ℕ → F .f32) (g : ℕ) (x : S16.Idx) :
    (slotV a g x).toNat = (bin bd (mxV a g 31 x)).toNat * 16 + (x 0).val := by
  have hx : (x 0).val < 16 := (x 0).isLt
  have hb := bin_le bd (mxV a g 31 x)
  show (bin bd (mxV a g 31 x) * 16#32 + lanesV x).toNat = _
  rw [lanesV_apply, BitVec.toNat_add, BitVec.toNat_mul, BitVec.toNat_ofNat, BitVec.toNat_ofNat]
  omega

theorem slotK_toNat (a : ℕ → F .f32) (g k : ℕ) (hk : k < 1000) (x : S16.Idx) :
    (slotK a g k x).toNat = (bin bd (mxV a g 31 x)).toNat * 16 + (x 0).val + k := by
  have hx : (x 0).val < 16 := (x 0).isLt
  have hb := bin_le bd (mxV a g 31 x)
  show (slotV a g x + BitVec.ofNat 32 k).toNat = _
  rw [BitVec.toNat_add, slotV_toNat, BitVec.toNat_ofNat]
  omega

/-- Whether the lanes' rows are hits. -/
abbrev hitV (a : ℕ → F .f32) (l : ℕ → BitVec 32) (g : ℕ) : Vec F S16 .f32 := fun x =>
  Scalar.select (IntOp.cmpi .eq (prV a g 31 x) (l (16 * g + (x 0).val))) (Scalar.ofBits .f32 0x3F800000#32) (Scalar.ofBits .f32 0x00000000#32)

/-- The three scattered adds make one step of the histogram. -/
theorem adds_eq (a : ℕ → F .f32) (l : ℕ → BitVec 32) (g : ℕ) (h : ℕ → F .f32) :
    arrH (fun j => if (slotK a g 352 (lane j)).toNat = j then FloatOps.idxAddf (φ := .f32)
        (if (slotK a g 176 (lane j)).toNat = j then FloatOps.idxAddf (φ := .f32)
          (if (slotV a g (lane j)).toNat = j then FloatOps.idxAddf (φ := .f32) (h j) ((k0_pay219 : FVec F S16 .f32) (lane j)) else h j)
          (hitV a l g (lane j)) else
          (if (slotV a g (lane j)).toNat = j then FloatOps.idxAddf (φ := .f32) (h j) ((k0_pay219 : FVec F S16 .f32) (lane j)) else h j))
        (mxV a g 31 (lane j)) else
        (if (slotK a g 176 (lane j)).toNat = j then FloatOps.idxAddf (φ := .f32)
          (if (slotV a g (lane j)).toNat = j then FloatOps.idxAddf (φ := .f32) (h j) ((k0_pay219 : FVec F S16 .f32) (lane j)) else h j)
          (hitV a l g (lane j)) else
          (if (slotV a g (lane j)).toNat = j then FloatOps.idxAddf (φ := .f32) (h j) ((k0_pay219 : FVec F S16 .f32) (lane j)) else h j)))
      = arrH (step bd a l (16 * g) h) := by
  funext j
  have hj : (j 0).val < 528 := (j 0).isLt
  simp only [arrH]
  generalize (j 0).val = J at hj ⊢
  have hrow : laneRow a g (lane J) = rowOf a (16 * g + J % 16) := by
    funext c; show a (512 * g + 32 * (J % 16) + c) = a (32 * (16 * g + J % 16) + c)
    rw [Nat.mul_add, ← Nat.mul_assoc]
  have hm : mxV a g 31 (lane J) = conf a (16 * g + J % 16) := congrArg (fun r => mx r 31) hrow
  have hh : hitV a l g (lane J) = hit a l (16 * g + J % 16) := by
    show Scalar.select (IntOp.cmpi .eq (pr (laneRow a g (lane J)) 31) (l (16 * g + J % 16))) _ _ = _
    rw [hrow]; rfl
  rw [slotK_toNat _ _ _ (by omega), slotK_toNat _ _ _ (by omega), slotV_toNat, hm, hh]
  have hb := bin_le bd (conf a (16 * g + J % 16))
  show _ = (if (bin bd (conf a (16 * g + J % 16))).toNat * 16 + J % 16 = J % 176
    then FloatOps.idxAddf (φ := .f32) (h J) (term a l (16 * g + J % 16) (J / 176)) else h J)
  change (if (bin bd (conf a (16 * g + J % 16))).toNat * 16 + J % 16 + 352 = J then FloatOps.idxAddf (φ := .f32)
    (if (bin bd (conf a (16 * g + J % 16))).toNat * 16 + J % 16 + 176 = J then FloatOps.idxAddf (φ := .f32)
      (if (bin bd (conf a (16 * g + J % 16))).toNat * 16 + J % 16 = J then _ else _) _ else
      (if (bin bd (conf a (16 * g + J % 16))).toNat * 16 + J % 16 = J then _ else _)) _ else
    (if (bin bd (conf a (16 * g + J % 16))).toNat * 16 + J % 16 + 176 = J then FloatOps.idxAddf (φ := .f32)
      (if (bin bd (conf a (16 * g + J % 16))).toNat * 16 + J % 16 = J then _ else _) _ else
      (if (bin bd (conf a (16 * g + J % 16))).toNat * 16 + J % 16 = J then _ else _))) = _
  generalize (bin bd (conf a (16 * g + J % 16))).toNat = B at hb
  by_cases h1 : J < 176
  · rw [if_neg (by omega : ¬ B * 16 + J % 16 + 352 = J), if_neg (by omega : ¬ B * 16 + J % 16 + 176 = J),
      Nat.mod_eq_of_lt h1, Nat.div_eq_of_lt h1]; rfl
  · by_cases h2 : J < 352
    · rw [if_neg (by omega : ¬ B * 16 + J % 16 + 352 = J), if_neg (by omega : ¬ B * 16 + J % 16 = J),
        show J / 176 = 1 by omega]
      by_cases hc : B * 16 + J % 16 + 176 = J
      · rw [if_pos hc, if_pos (by omega)]; rfl
      · rw [if_neg hc, if_neg (by omega)]
    · rw [if_neg (by omega : ¬ B * 16 + J % 16 + 176 = J), if_neg (by omega : ¬ B * 16 + J % 16 = J),
        show J / 176 = 2 by omega]
      by_cases hc : B * 16 + J % 16 + 352 = J
      · rw [if_pos hc, if_pos (by omega)]; rfl
      · rw [if_neg hc, if_neg (by omega)]

/-! ## A whole group, buffer 0 -/

/-- The load of a group's labels. -/
theorem labels0 (l : ℕ → BitVec 32) (g : Fin k0_t2_loop.trips) :
    lb0.view.readAt (Elt F) (Rect.unit (s := S1024) (k0_off7 g) S16.size (k0_off7_inb g)).toLoadRect (arrL l)
      = fun x => l (16 * g.val + (x 0).val) := by
  funext x
  refine congrArg l ?_
  show k0_off7 g 0 + 1 * (x 0).val = _
  rw [Nat.one_mul, congrFun (k0_off7_eq g) 0]; rfl

theorem part6_wp (a : ℕ → F .f32) (l : ℕ → BitVec 32) (g : Fin k0_t2_loop.trips) (hg : g.val < 64) (c15 : BitVec 32)
    {Q : (Σ' (_ : Vec F S16 .f32) (_ : FVec F S16 .f32) (_ : IVec S16 32) (_ : IVec S16 1) (_ : BitVec 32), IVec S16 32) → sProp 𝕄} {R : sProp 𝕄}
    (h : iprop(holdX0 d L a ∗ holdL0 d L l ∗ R) ⊢ Q ⟨mxV a g.val 31, hitV a l g.val,
      k0_pay101 (mxV a g.val 29) (colV a g.val 30) (colV a g.val 31), k0_pay102 (mxV a g.val 29) (colV a g.val 30) (colV a g.val 31), 0#32, k0_pay103⟩) :
    iprop(holdX0 d L a ∗ holdL0 d L l ∗ R) ⊢ W d L (k0_part6 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 k0_pay218 k0_pay219 g c15 (placeV g.val) (mxV a g.val 29) (prV a g.val 29) 30#32) Q := by
  rw [k0_part6_eq_skeleton]; unfold k0_part6_skel
  simp only [Prog.lift, Prog.bind_op, Prog.bind_ret, Prog.pure_eq_ret]
  refine gather0 d L (c := 30) hg (by omega) (placeV_add g.val 30) (fun h => h) ?_
  refine gather0 d L (c := 31) hg (by omega) (placeV_add g.val 31) (fun h => h) ?_
  have h' : iprop(holdX0 d L a ∗ holdL0 d L l ∗ R) ⊢ W d L (Prog.ret (_ : Σ' (_ : Vec F S16 .f32) (_ : FVec F S16 .f32) (_ : IVec S16 32) (_ : IVec S16 1) (_ : BitVec 32), IVec S16 32)) Q := ret_wp d L h
  unfold W at h' ⊢
  iintro ⟨Hx, Hl, HR⟩
  iapply (wp_load 𝒱₀ (thr d L) none Set.univ (m := lb0) (S := Finset.univ) (Finset.subset_univ _)) $$ Hl
  iintro Hl
  rw [labels0]
  iapply h'
  isplitl [Hx]; · iexact Hx
  isplitl [Hl]; · iexact Hl
  iexact HR

/-- The group's slots, out of the counts of the bounds its maxima exceed. -/
theorem slots0 (a : ℕ → F .f32) (g : ℕ) :
    k0_pay211 lanesV (k0_pay104 (mxV a g 31) (k0_pay101 (mxV a g 29) (colV a g 30) (colV a g 31)) (k0_pay102 (mxV a g 29) (colV a g 30) (colV a g 31)) 0#32 k0_pay103)
      (k0_pay105 (mxV a g 31) (k0_pay101 (mxV a g 29) (colV a g 30) (colV a g 31)) (k0_pay102 (mxV a g 29) (colV a g 30) (colV a g 31)) 0#32 k0_pay103)
      = slotV a g := rfl

/-- One trip of the inner loop: one step of the histogram. -/
theorem k0_t2_body_wp (a : ℕ → F .f32) (l : ℕ → BitVec 32) (h : ℕ → F .f32) (v2 c0 c1 : BitVec 32) (t1 : Fin k0_t1_loop.trips)
    (g : Fin k0_t2_loop.trips) (hg : g.val < 64) {Q : Unit → sProp 𝕄} {R : sProp 𝕄}
    (hQ : iprop(holdX0 d L a ∗ holdL0 d L l ∗ holdH d L (step bd a l (16 * g.val) h) ∗ R) ⊢ Q ()) :
    iprop(holdX0 d L a ∗ holdL0 d L l ∗ holdH d L h ∗ R)
      ⊢ W d L (k0_t2_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219 c0 c1 t1 g ()) Q := by
  unfold k0_t2_body
  refine bind_wp d L (part1_wp d L a g hg ?_)
  refine bind_wp d L (part2_wp d L a g hg ?_)
  refine bind_wp d L (part3_wp d L a g hg ?_)
  refine bind_wp d L (part4_wp d L a g hg ?_)
  refine bind_wp d L (part5_wp d L a g hg ?_)
  refine bind_wp d L (part6_wp d L a l g hg _ ?_)
  refine bind_wp d L ?_
  rw [k0_part7_eq_skeleton]; unfold k0_part7_skel
  simp only [Prog.pure_eq_ret]
  refine ret_wp d L ?_
  dsimp only
  rw [slots0]
  simp only [Prog.lift, Prog.bind_op, Prog.bind_ret, Prog.pure_eq_ret]
  have hb : ∀ x : S16.Idx, (bin bd (mxV a g.val 31 x)).toNat ≤ 10 := fun x => bin_le bd _
  have hx : ∀ x : S16.Idx, (x 0).val < 16 := fun x => (x 0).isLt
  refine perm1.trans ?_
  refine scatter d L h (fun x => by rw [slotV_toNat]; have := hb x; have := hx x; omega)
    (fun x => by rw [slotV_toNat]; have := hx x; omega) (fun h => h) ?_
  rw [show k0_pay212 (slotV a g.val) = slotK a g.val 176 from rfl]
  refine scatter d L _ (fun x => by rw [slotK_toNat _ _ _ (by omega)]; have := hb x; have := hx x; omega)
    (fun x => by rw [slotK_toNat _ _ _ (by omega)]; have := hx x; omega) (fun h => h) ?_
  rw [show k0_pay213 (slotV a g.val) = slotK a g.val 352 from rfl]
  refine scatter d L _ (fun x => by rw [slotK_toNat _ _ _ (by omega)]; have := hb x; have := hx x; omega)
    (fun x => by rw [slotK_toNat _ _ _ (by omega)]; have := hx x; omega) (fun h => h) ?_
  refine ret_wp d L ?_
  unfold holdH
  rw [adds_eq a l g.val h]
  exact perm2.trans hQ

/-! ## A whole group, buffer 1 -/

/-- The load of a group's labels. -/
theorem labels1 (l : ℕ → BitVec 32) (g : Fin k0_t3_loop.trips) :
    lb1.view.readAt (Elt F) (Rect.unit (s := S1024) (k0_off10 g) S16.size (k0_off10_inb g)).toLoadRect (arrL l)
      = fun x => l (16 * g.val + (x 0).val) := by
  funext x
  refine congrArg l ?_
  show k0_off10 g 0 + 1 * (x 0).val = _
  rw [Nat.one_mul, congrFun (k0_off10_eq g) 0]; rfl

theorem part13_wp (a : ℕ → F .f32) (l : ℕ → BitVec 32) (g : Fin k0_t3_loop.trips) (hg : g.val < 64) (c15 : BitVec 32)
    {Q : (Σ' (_ : Vec F S16 .f32) (_ : FVec F S16 .f32) (_ : IVec S16 32) (_ : IVec S16 1) (_ : BitVec 32), IVec S16 32) → sProp 𝕄} {R : sProp 𝕄}
    (h : iprop(holdX1 d L a ∗ holdL1 d L l ∗ R) ⊢ Q ⟨mxV a g.val 31, hitV a l g.val,
      k0_pay206 (mxV a g.val 29) (colV a g.val 30) (colV a g.val 31), k0_pay207 (mxV a g.val 29) (colV a g.val 30) (colV a g.val 31), 0#32, k0_pay208⟩) :
    iprop(holdX1 d L a ∗ holdL1 d L l ∗ R) ⊢ W d L (k0_part13 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 k0_pay218 k0_pay219 g c15 (placeV g.val) (mxV a g.val 29) (prV a g.val 29) 30#32) Q := by
  rw [k0_part13_eq_skeleton]; unfold k0_part13_skel
  simp only [Prog.lift, Prog.bind_op, Prog.bind_ret, Prog.pure_eq_ret]
  refine gather1 d L (c := 30) hg (by omega) (placeV_add g.val 30) (fun h => h) ?_
  refine gather1 d L (c := 31) hg (by omega) (placeV_add g.val 31) (fun h => h) ?_
  have h' : iprop(holdX1 d L a ∗ holdL1 d L l ∗ R) ⊢ W d L (Prog.ret (_ : Σ' (_ : Vec F S16 .f32) (_ : FVec F S16 .f32) (_ : IVec S16 32) (_ : IVec S16 1) (_ : BitVec 32), IVec S16 32)) Q := ret_wp d L h
  unfold W at h' ⊢
  iintro ⟨Hx, Hl, HR⟩
  iapply (wp_load 𝒱₀ (thr d L) none Set.univ (m := lb1) (S := Finset.univ) (Finset.subset_univ _)) $$ Hl
  iintro Hl
  rw [labels1]
  iapply h'
  isplitl [Hx]; · iexact Hx
  isplitl [Hl]; · iexact Hl
  iexact HR

/-- The group's slots, out of the counts of the bounds its maxima exceed. -/
theorem slots1 (a : ℕ → F .f32) (g : ℕ) :
    k0_pay214 lanesV (k0_pay209 (mxV a g 31) (k0_pay206 (mxV a g 29) (colV a g 30) (colV a g 31)) (k0_pay207 (mxV a g 29) (colV a g 30) (colV a g 31)) 0#32 k0_pay208)
      (k0_pay210 (mxV a g 31) (k0_pay206 (mxV a g 29) (colV a g 30) (colV a g 31)) (k0_pay207 (mxV a g 29) (colV a g 30) (colV a g 31)) 0#32 k0_pay208)
      = slotV a g := rfl

/-- One trip of the inner loop: one step of the histogram. -/
theorem k0_t3_body_wp (a : ℕ → F .f32) (l : ℕ → BitVec 32) (h : ℕ → F .f32) (v2 c0 c1 : BitVec 32) (t1 : Fin k0_t1_loop.trips)
    (g : Fin k0_t3_loop.trips) (hg : g.val < 64) {Q : Unit → sProp 𝕄} {R : sProp 𝕄}
    (hQ : iprop(holdX1 d L a ∗ holdL1 d L l ∗ holdH d L (step bd a l (16 * g.val) h) ∗ R) ⊢ Q ()) :
    iprop(holdX1 d L a ∗ holdL1 d L l ∗ holdH d L h ∗ R)
      ⊢ W d L (k0_t3_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219 c0 c1 t1 g ()) Q := by
  unfold k0_t3_body
  refine bind_wp d L (part8_wp d L a g hg ?_)
  refine bind_wp d L (part9_wp d L a g hg ?_)
  refine bind_wp d L (part10_wp d L a g hg ?_)
  refine bind_wp d L (part11_wp d L a g hg ?_)
  refine bind_wp d L (part12_wp d L a g hg ?_)
  refine bind_wp d L (part13_wp d L a l g hg _ ?_)
  refine bind_wp d L ?_
  rw [k0_part14_eq_skeleton]; unfold k0_part14_skel
  simp only [Prog.pure_eq_ret]
  refine ret_wp d L ?_
  dsimp only
  rw [slots1]
  simp only [Prog.lift, Prog.bind_op, Prog.bind_ret, Prog.pure_eq_ret]
  have hb : ∀ x : S16.Idx, (bin bd (mxV a g.val 31 x)).toNat ≤ 10 := fun x => bin_le bd _
  have hx : ∀ x : S16.Idx, (x 0).val < 16 := fun x => (x 0).isLt
  refine perm1.trans ?_
  refine scatter d L h (fun x => by rw [slotV_toNat]; have := hb x; have := hx x; omega)
    (fun x => by rw [slotV_toNat]; have := hx x; omega) (fun h => h) ?_
  rw [show k0_pay215 (slotV a g.val) = slotK a g.val 176 from rfl]
  refine scatter d L _ (fun x => by rw [slotK_toNat _ _ _ (by omega)]; have := hb x; have := hx x; omega)
    (fun x => by rw [slotK_toNat _ _ _ (by omega)]; have := hx x; omega) (fun h => h) ?_
  rw [show k0_pay216 (slotV a g.val) = slotK a g.val 352 from rfl]
  refine scatter d L _ (fun x => by rw [slotK_toNat _ _ _ (by omega)]; have := hb x; have := hx x; omega)
    (fun x => by rw [slotK_toNat _ _ _ (by omega)]; have := hx x; omega) (fun h => h) ?_
  refine ret_wp d L ?_
  unfold holdH
  rw [adds_eq a l g.val h]
  exact perm2.trans hQ

end Cert.Proof.KernelIdealRun

end
-- ==== Proof.ITile1.lean ====
/-
  A subcore's run: it clears its histogram, streams its 64 chunks of 1024 rows through two pairs of staging buffers, adds
  each chunk's groups into the histogram and copies the histogram to its row of the table.
-/
module

public import proofs.«01_k».proof.Proof.IGroup
public import Idealize.ShloMosaic.Lib.SparseCore.FromWhole
public import Idealize.ShloMosaic.Lib.Pipeline.Value

@[expose] public section

noncomputable section

namespace Cert.Proof.KernelIdealRun

open Cert.KernelIdeal Cert.KernelIdeal.Gen Cert.Ece

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (d : Dev nD) (L : grid0.Coords)

local notation "𝕄" => MT nD τ sig (HIx 1) (Elt F) ℕ UU ℕ

/-! ## Clearing the histogram -/

abbrev zero : F .f32 := Scalar.ofBits .f32 0x00000000#32

/-- The histogram buffer at any contents. -/
abbrev rawH (f : S528.Idx → F .f32) : sProp 𝕄 := (hb.view.loc (thr d L)) ↦{fullShare} f

theorem zero_val {o : ℕ} {f : S528.Idx → F .f32} (hf : ∀ j : S528.Idx, (j 0).val < o → f j = zero)
    {inb : ∀ a, (![o] : Fin 1 → ℕ) a + S16.size a ≤ S528.size a} (j : S528.Idx) (hj : (j 0).val < o + 16) :
    (hb.access (Rect.unit (s := S528) ![o] S16.size inb)).write (Elt F) f (k0_pay218 (F := F)) Finset.univ j = zero := by
  rw [show (hb.access (Rect.unit (s := S528) ![o] S16.size inb)).write (Elt F) f (k0_pay218 (F := F)) Finset.univ
    = updateSlice f (k0_pay218 (F := F)) ![o] ⟨rfl, inb⟩ from View.write_whole_slice_unit (Val := Elt F) cc0_scratch4 ![o] S16.size inb f (k0_pay218 (F := F))]
  unfold updateSlice
  split
  · rfl
  · next hin =>
    refine hf j (Nat.lt_of_not_le fun hle => hin ?_)
    intro a; obtain rfl : a = 0 := Subsingleton.elim _ _
    exact ⟨hle, hj⟩

theorem load_hb {r : Rect S528} {f : S528.Idx → F .f32} {hl : hb.view.LoadsAt r.toLoadRect}
    {β : Type} {k : (r.toLoadRect.shape.Idx → Elt F .f32) → TP F L β} {Q : β → sProp 𝕄} {R : sProp 𝕄}
    (h : ∀ v, iprop(rawH d L f ∗ R) ⊢ W d L (k v) Q) :
    iprop(rawH d L f ∗ R) ⊢ W d L (Prog.op (.load hb r.toLoadRect hl) k) Q := by
  have st : rawH d L f ⊢ iprop((rawH d L f -∗ W d L (k _) Q) -∗ W d L (Prog.op (.load hb r.toLoadRect hl) k) Q) :=
    wp_load 𝒱₀ (thr d L) none Set.univ (m := hb) (S := Finset.univ) (Finset.subset_univ _)
  have h' := h (hb.view.readAt (Elt F) r.toLoadRect f)
  iintro ⟨Hh, HR⟩
  iapply st $$ Hh
  iintro Hh
  iapply h'
  isplitl [Hh]; · iexact Hh
  iexact HR

theorem store_hb {r : Rect S528} {f : S528.Idx → F .f32} {w : r.shape.Idx → Elt F .f32} {hs : (hb.access r).Stores Finset.univ}
    {hx : (Finset.univ : Finset r.shape.Idx) = Finset.univ ∨ ∀ a, r.stride a = 1}
    {β : Type} {k : PUnit → TP F L β} {Q : β → sProp 𝕄} {R : sProp 𝕄}
    (h : iprop(rawH d L ((hb.access r).write (Elt F) f w Finset.univ) ∗ R) ⊢ W d L (k ⟨⟩) Q) :
    iprop(rawH d L f ∗ R) ⊢ W d L (Prog.op (.store hb r w Finset.univ hs hx) k) Q := by
  have st := wp_store (defs := defs₀ (F := F)) 𝒱₀ (thr d L) none (Γ := .empty) Set.univ (m := hb) (r := r) (w := w) (Mk := Finset.univ) (hx := hs) (hm := hx)
    (k := k) (S := Finset.univ) (f := f) (Q := Q) (Finset.subset_univ _)
  unfold W at h ⊢
  iintro ⟨Hh, HR⟩
  iapply st $$ Hh
  iintro Hh
  iapply h
  isplitl [Hh]; · iexact Hh
  iexact HR

/-- One vector of sixteen zeros stored at place `o`, everything before it zero already. -/
theorem zero_step {o : ℕ} {f : S528.Idx → F .f32} (hf : ∀ j : S528.Idx, (j 0).val < o → f j = zero)
    {inb : ∀ a, (![o] : Fin 1 → ℕ) a + S16.size a ≤ S528.size a}
    {hl : hb.view.LoadsAt (Rect.unit (s := S528) ![o] S16.size inb).toLoadRect} {hs : (hb.access (Rect.unit (s := S528) ![o] S16.size inb)).Stores Finset.univ}
    {hx : (Finset.univ : Finset (Rect.unit (s := S528) ![o] S16.size inb).shape.Idx) = Finset.univ ∨ ∀ a, (Rect.unit (s := S528) ![o] S16.size inb).stride a = 1}
    {β : Type} {k : PUnit → TP F L β} {Q : β → sProp 𝕄} {R : sProp 𝕄}
    (h : ∀ f' : S528.Idx → F .f32, (∀ j : S528.Idx, (j 0).val < o + 16 → f' j = zero) → (iprop(rawH d L f' ∗ R) ⊢ W d L (k ⟨⟩) Q)) :
    iprop(rawH d L f ∗ R) ⊢ W d L (Prog.op (.load hb (Rect.unit (s := S528) ![o] S16.size inb).toLoadRect hl) fun _ =>
      Prog.op (.store hb (Rect.unit (s := S528) ![o] S16.size inb) (k0_pay218 (F := F)) Finset.univ hs hx) k) Q := by
  exact load_hb d L fun v => store_hb d L (h _ (zero_val (F := F) hf (inb := inb)))

/-- The first row of the subcore, as the program's word. -/
abbrev w2 : BitVec 32 := Scalar.muli (Scalar.addi (Scalar.muli (BitVec.ofNat 32 (L 1).val) 2#32) (BitVec.ofNat 32 (L 0).val)) 65536#32

theorem part16_wp (f : S528.Idx → F .f32)
    {Q : (Σ' (_ : BitVec 32) (_ : IVec S16 32) (_ : IVec S16 32) (_ : FVec F S16 .f32), FVec F S16 .f32) → sProp 𝕄} {R : sProp 𝕄}
    (h : ∀ f' : S528.Idx → F .f32, (∀ j : S528.Idx, (j 0).val < 240 → f' j = zero) →
      (iprop(rawH d L f' ∗ R) ⊢ Q ⟨w2 L, lanesV, k0_pay217, k0_pay218, k0_pay219⟩)) :
    iprop(rawH d L f ∗ R) ⊢ W d L (k0_part16 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0) Q := by
  rw [k0_part16_eq_skeleton]; unfold k0_part16_skel
  simp only [Prog.lift, Prog.bind_op, Prog.bind_ret, Prog.pure_eq_ret]
  refine zero_step d L (o := 0) (hx := .inl rfl) (fun j hj => absurd hj (Nat.not_lt_zero _)) (fun f hf => ?_)
  refine zero_step d L (o := 16) (hx := .inl rfl) hf (fun f hf => ?_)
  refine zero_step d L (o := 32) (hx := .inl rfl) hf (fun f hf => ?_)
  refine zero_step d L (o := 48) (hx := .inl rfl) hf (fun f hf => ?_)
  refine zero_step d L (o := 64) (hx := .inl rfl) hf (fun f hf => ?_)
  refine zero_step d L (o := 80) (hx := .inl rfl) hf (fun f hf => ?_)
  refine zero_step d L (o := 96) (hx := .inl rfl) hf (fun f hf => ?_)
  refine zero_step d L (o := 112) (hx := .inl rfl) hf (fun f hf => ?_)
  refine zero_step d L (o := 128) (hx := .inl rfl) hf (fun f hf => ?_)
  refine zero_step d L (o := 144) (hx := .inl rfl) hf (fun f hf => ?_)
  refine zero_step d L (o := 160) (hx := .inl rfl) hf (fun f hf => ?_)
  refine zero_step d L (o := 176) (hx := .inl rfl) hf (fun f hf => ?_)
  refine zero_step d L (o := 192) (hx := .inl rfl) hf (fun f hf => ?_)
  refine zero_step d L (o := 208) (hx := .inl rfl) hf (fun f hf => ?_)
  refine zero_step d L (o := 224) (hx := .inl rfl) hf (fun f hf => ?_)
  exact ret_wp d L (h _ hf)

theorem part17_wp (v2 : BitVec 32) (f : S528.Idx → F .f32) (hf : ∀ j : S528.Idx, (j 0).val < 240 → f j = zero) {Q : PUnit → sProp 𝕄} {R : sProp 𝕄}
    (h : iprop(holdH d L (fun _ => zero) ∗ R) ⊢ Q ⟨⟩) :
    iprop(rawH d L f ∗ R) ⊢ W d L (k0_part17 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 k0_pay218) Q := by
  rw [k0_part17_eq_skeleton]; unfold k0_part17_skel
  simp only [Prog.lift, Prog.bind_op, Prog.bind_ret, Prog.pure_eq_ret]
  refine zero_step d L (o := 240) (hx := .inl rfl) hf (fun f hf => ?_)
  refine zero_step d L (o := 256) (hx := .inl rfl) hf (fun f hf => ?_)
  refine zero_step d L (o := 272) (hx := .inl rfl) hf (fun f hf => ?_)
  refine zero_step d L (o := 288) (hx := .inl rfl) hf (fun f hf => ?_)
  refine zero_step d L (o := 304) (hx := .inl rfl) hf (fun f hf => ?_)
  refine zero_step d L (o := 320) (hx := .inl rfl) hf (fun f hf => ?_)
  refine zero_step d L (o := 336) (hx := .inl rfl) hf (fun f hf => ?_)
  refine zero_step d L (o := 352) (hx := .inl rfl) hf (fun f hf => ?_)
  refine zero_step d L (o := 368) (hx := .inl rfl) hf (fun f hf => ?_)
  refine zero_step d L (o := 384) (hx := .inl rfl) hf (fun f hf => ?_)
  refine zero_step d L (o := 400) (hx := .inl rfl) hf (fun f hf => ?_)
  refine zero_step d L (o := 416) (hx := .inl rfl) hf (fun f hf => ?_)
  refine zero_step d L (o := 432) (hx := .inl rfl) hf (fun f hf => ?_)
  refine zero_step d L (o := 448) (hx := .inl rfl) hf (fun f hf => ?_)
  refine zero_step d L (o := 464) (hx := .inl rfl) hf (fun f hf => ?_)
  refine zero_step d L (o := 480) (hx := .inl rfl) hf (fun f hf => ?_)
  refine zero_step d L (o := 496) (hx := .inl rfl) hf (fun f hf => ?_)
  refine zero_step d L (o := 512) (hx := .inl rfl) hf (fun f hf => ?_)
  have e : (fun j => f j) = arrH (fun _ => (zero : F .f32)) := funext fun j => hf j (j 0).isLt
  refine ret_wp d L ?_
  rw [show f = arrH (fun _ => (zero : F .f32)) from e]
  exact h

/-! ## The copies in -/

/-- The flat scores and the labels, as the arrays hold them. -/
abbrev flatX (A : ℕ → F .f32) : S67108864.Idx → F .f32 := fun j => A (j 0).val
abbrev flatL (Lb : ℕ → BitVec 32) : S2097152.Idx → BitVec 32 := fun j => Lb (j 0).val

/-- The first row of the subcore at `L`, and of its chunk `c`. -/
abbrev row0 : ℕ := 131072 * (L 1).val + 65536 * (L 0).val
abbrev rowC (c : ℕ) : ℕ := row0 L + 1024 * c
abbrev bufX (A : ℕ → F .f32) (c : ℕ) : ℕ → F .f32 := fun n => A (32 * rowC L c + n)
abbrev bufL (Lb : ℕ → BitVec 32) (c : ℕ) : ℕ → BitVec 32 := fun n => Lb (rowC L c + n)

abbrev shX (A : ℕ → F .f32) (q : PosShare TreeShare) : sProp 𝕄 := (xW.view.loc (thr d L)) ↦{q} (flatX A)
abbrev shL (Lb : ℕ → BitVec 32) (q : PosShare TreeShare) : sProp 𝕄 := (lW.view.loc (thr d L)) ↦{q} (flatL Lb)

abbrev chX (off : Fin 1 → ℕ) (inb : ∀ a, off a + S32768.size a ≤ S67108864.size a) : Memref sig .scVector .hbm S32768 .f32 :=
  xW.slice (Rect.unit (s := S67108864) off S32768.size inb) (fun _ => rfl)
abbrev chL (off : Fin 1 → ℕ) (inb : ∀ a, off a + S1024.size a ≤ S2097152.size a) : Memref sig .scVector .hbm S1024 .i32 :=
  lW.slice (Rect.unit (s := S2097152) off S1024.size inb) (fun _ => rfl)

/-! ### Buffer pair 0 -/

abbrev flX0 (A : ℕ → F .f32) (q : PosShare TreeShare) (c : ℕ) : sProp 𝕄 :=
  Transfers.Flight (countersEmb (U := UU)) (thr d L) (.dma (cc0_scratch5.sem)) (none : HIx 1) (xb0.view.amount (.dma (cc0_scratch5.sem)))
    iprop(holdX0 d L (bufX L A c) ∗ shX d L A q)
abbrev flL0 (Lb : ℕ → BitVec 32) (q : PosShare TreeShare) (c : ℕ) : sProp 𝕄 :=
  Transfers.Flight (countersEmb (U := UU)) (thr d L) (.dma (cc0_scratch7.sem)) (none : HIx 1) (lb0.view.amount (.dma (cc0_scratch7.sem)))
    iprop(holdL0 d L (bufL L Lb c) ∗ shL d L Lb q)

/-- Starting the copy of chunk `c`'s scores. -/
theorem startX0 (A : ℕ → F .f32) (q : PosShare TreeShare) (c : ℕ) {off : Fin 1 → ℕ} (hoff : off = ![32 * rowC L c])
    {inb : ∀ a, off a + S32768.size a ≤ S67108864.size a} {f : S32768.Idx → F .f32}
    {h1 : (chX off inb).view.WordExact} {h2 : xb0.view.WordExact} {h3 : DmaTarget.Typed (nD := nD) .hbm (.dma (cc0_scratch5.sem)) (.here (p := Proc.scVector (τ := τ) (cV L) (jV L)) xb0)}
    {β : Type} {k : PUnit → TP F L β} {Q : β → sProp 𝕄} :
    iprop(shX d L A q ∗ ((xb0.view.loc (thr d L)) ↦{fullShare} f) ∗ semVal (thr d L, .dma (cc0_scratch5.sem)) 0)
      ⊢ iprop((flX0 d L A q c -∗ W d L (k ⟨⟩) Q) -∗ W d L (Prog.op (.enqueueDma (chX off inb) (.here xb0) (.dma (cc0_scratch5.sem)) h1 h2 h3) k) Q) := by
  subst hoff
  have hval : xb0.view.write (Elt F) f ((ReadAs.same (Val := Elt F)).apply ((chX ![32 * rowC L c] inb).view.read (Elt F) (flatX A))) Finset.univ = arrX (bufX L A c) := by
    refine (View.write_whole_univ _ _ _).trans ?_
    funext j
    refine congrArg A ?_
    show 32 * rowC L c + 1 * (j 0).val = _
    rw [Nat.one_mul]
  have key := Transfers.wp_dmaFromWhole (defs := defs₀ (F := F)) (countersEmb (U := UU)) 𝒱₀ (thr d L) none (src := chX ![32 * rowC L c] inb) (via := .same) (dst := xb0)
    (sm := .dma (cc0_scratch5.sem)) (hsrc := h1) (hdst := h2) (hsem := h3) (k := k) (q := q) (fs := flatX A) (Sd := Finset.univ) (fd := f) (Q := Q)
    (none : HIx 1) _ rfl (View.amount_pos _ _ (show 0 < S32768.numel by decide)) (Finset.subset_univ _)
  rw [hval] at key
  exact key

/-- Starting the copy of chunk `c`'s labels. -/
theorem startL0 (Lb : ℕ → BitVec 32) (q : PosShare TreeShare) (c : ℕ) {off : Fin 1 → ℕ} (hoff : off = ![rowC L c])
    {inb : ∀ a, off a + S1024.size a ≤ S2097152.size a} {f : S1024.Idx → BitVec 32}
    {h1 : (chL off inb).view.WordExact} {h2 : lb0.view.WordExact} {h3 : DmaTarget.Typed (nD := nD) .hbm (.dma (cc0_scratch7.sem)) (.here (p := Proc.scVector (τ := τ) (cV L) (jV L)) lb0)}
    {β : Type} {k : PUnit → TP F L β} {Q : β → sProp 𝕄} :
    iprop(shL d L Lb q ∗ ((lb0.view.loc (thr d L)) ↦{fullShare} f) ∗ semVal (thr d L, .dma (cc0_scratch7.sem)) 0)
      ⊢ iprop((flL0 d L Lb q c -∗ W d L (k ⟨⟩) Q) -∗ W d L (Prog.op (.enqueueDma (chL off inb) (.here lb0) (.dma (cc0_scratch7.sem)) h1 h2 h3) k) Q) := by
  subst hoff
  have hval : lb0.view.write (Elt F) f ((ReadAs.same (Val := Elt F)).apply ((chL ![rowC L c] inb).view.read (Elt F) (flatL Lb))) Finset.univ = arrL (bufL L Lb c) := by
    refine (View.write_whole_univ _ _ _).trans ?_
    funext j
    refine congrArg Lb ?_
    show rowC L c + 1 * (j 0).val = _
    rw [Nat.one_mul]
  have key := Transfers.wp_dmaFromWhole (defs := defs₀ (F := F)) (countersEmb (U := UU)) 𝒱₀ (thr d L) none (src := chL ![rowC L c] inb) (via := .same) (dst := lb0)
    (sm := .dma (cc0_scratch7.sem)) (hsrc := h1) (hdst := h2) (hsem := h3) (k := k) (q := q) (fs := flatL Lb) (Sd := Finset.univ) (fd := f) (Q := Q)
    (none : HIx 1) _ rfl (View.amount_pos _ _ (show 0 < S1024.numel by decide)) (Finset.subset_univ _)
  rw [hval] at key
  exact key

variable {O : CellTallies nD τ sig (HIx 1)} {Ws : Waits sig (HIx 1)}

/-- Waiting for the scores, -/
theorem awaitX0 (A : ℕ → F .f32) (q : PosShare TreeShare) (c : ℕ) {src : Memref sig .scVector .hbm S32768 .f32}
    {h1 : src.view.WordExact} {h2 : xb0.view.WordExact} {β : Type} {k : PUnit → TP F L β} {Q : β → sProp 𝕄} :
    iprop(flX0 d L A q c ∗ owes (thr d L) O Ws ∗ Transfers.MayWaits (thr d L) (none : HIx 1) O)
      ⊢ iprop((iprop((holdX0 d L (bufX L A c) ∗ shX d L A q) ∗ semVal (thr d L, .dma (cc0_scratch5.sem)) 0
            ∗ owes (thr d L) O (insert (SemLoc.dma (cc0_scratch5.sem), (none : HIx 1)) Ws)) -∗ W d L (k ⟨⟩) Q)
          -∗ W d L (Prog.op (.waitDma2 (cc0_scratch5.sem) src xb0 h1 h2) k) Q) := by
  iintro ⟨Hf, HO, Hm⟩
  iapply (Transfers.wp_waitLocalO (defs := defs₀ (F := F)) (countersEmb (U := UU)) 𝒱₀ (thr d L) none (none : HIx 1) (dstw := xb0) (sem := cc0_scratch5.sem) rfl)
  isplitl [Hf]; · iexact Hf
  isplitl [HO]; · iexact HO
  iapply (Transfers.MayWaits.elim (SemLoc.dma (cc0_scratch5.sem))) $$ Hm

/-- and for the labels. -/
theorem awaitL0 (Lb : ℕ → BitVec 32) (q : PosShare TreeShare) (c : ℕ) {src : Memref sig .scVector .hbm S1024 .i32}
    {h1 : src.view.WordExact} {h2 : lb0.view.WordExact} {β : Type} {k : PUnit → TP F L β} {Q : β → sProp 𝕄} :
    iprop(flL0 d L Lb q c ∗ owes (thr d L) O Ws ∗ Transfers.MayWaits (thr d L) (none : HIx 1) O)
      ⊢ iprop((iprop((holdL0 d L (bufL L Lb c) ∗ shL d L Lb q) ∗ semVal (thr d L, .dma (cc0_scratch7.sem)) 0
            ∗ owes (thr d L) O (insert (SemLoc.dma (cc0_scratch7.sem), (none : HIx 1)) Ws)) -∗ W d L (k ⟨⟩) Q)
          -∗ W d L (Prog.op (.waitDma2 (cc0_scratch7.sem) src lb0 h1 h2) k) Q) := by
  iintro ⟨Hf, HO, Hm⟩
  iapply (Transfers.wp_waitLocalO (defs := defs₀ (F := F)) (countersEmb (U := UU)) 𝒱₀ (thr d L) none (none : HIx 1) (dstw := lb0) (sem := cc0_scratch7.sem) rfl)
  isplitl [Hf]; · iexact Hf
  isplitl [HO]; · iexact HO
  iapply (Transfers.MayWaits.elim (SemLoc.dma (cc0_scratch7.sem))) $$ Hm

/-! ### Buffer pair 1 -/

abbrev flX1 (A : ℕ → F .f32) (q : PosShare TreeShare) (c : ℕ) : sProp 𝕄 :=
  Transfers.Flight (countersEmb (U := UU)) (thr d L) (.dma (cc0_scratch6.sem)) (none : HIx 1) (xb1.view.amount (.dma (cc0_scratch6.sem)))
    iprop(holdX1 d L (bufX L A c) ∗ shX d L A q)
abbrev flL1 (Lb : ℕ → BitVec 32) (q : PosShare TreeShare) (c : ℕ) : sProp 𝕄 :=
  Transfers.Flight (countersEmb (U := UU)) (thr d L) (.dma (cc0_scratch8.sem)) (none : HIx 1) (lb1.view.amount (.dma (cc0_scratch8.sem)))
    iprop(holdL1 d L (bufL L Lb c) ∗ shL d L Lb q)

/-- Starting the copy of chunk `c`'s scores. -/
theorem startX1 (A : ℕ → F .f32) (q : PosShare TreeShare) (c : ℕ) {off : Fin 1 → ℕ} (hoff : off = ![32 * rowC L c])
    {inb : ∀ a, off a + S32768.size a ≤ S67108864.size a} {f : S32768.Idx → F .f32}
    {h1 : (chX off inb).view.WordExact} {h2 : xb1.view.WordExact} {h3 : DmaTarget.Typed (nD := nD) .hbm (.dma (cc0_scratch6.sem)) (.here (p := Proc.scVector (τ := τ) (cV L) (jV L)) xb1)}
    {β : Type} {k : PUnit → TP F L β} {Q : β → sProp 𝕄} :
    iprop(shX d L A q ∗ ((xb1.view.loc (thr d L)) ↦{fullShare} f) ∗ semVal (thr d L, .dma (cc0_scratch6.sem)) 0)
      ⊢ iprop((flX1 d L A q c -∗ W d L (k ⟨⟩) Q) -∗ W d L (Prog.op (.enqueueDma (chX off inb) (.here xb1) (.dma (cc0_scratch6.sem)) h1 h2 h3) k) Q) := by
  subst hoff
  have hval : xb1.view.write (Elt F) f ((ReadAs.same (Val := Elt F)).apply ((chX ![32 * rowC L c] inb).view.read (Elt F) (flatX A))) Finset.univ = arrX (bufX L A c) := by
    refine (View.write_whole_univ _ _ _).trans ?_
    funext j
    refine congrArg A ?_
    show 32 * rowC L c + 1 * (j 0).val = _
    rw [Nat.one_mul]
  have key := Transfers.wp_dmaFromWhole (defs := defs₀ (F := F)) (countersEmb (U := UU)) 𝒱₀ (thr d L) none (src := chX ![32 * rowC L c] inb) (via := .same) (dst := xb1)
    (sm := .dma (cc0_scratch6.sem)) (hsrc := h1) (hdst := h2) (hsem := h3) (k := k) (q := q) (fs := flatX A) (Sd := Finset.univ) (fd := f) (Q := Q)
    (none : HIx 1) _ rfl (View.amount_pos _ _ (show 0 < S32768.numel by decide)) (Finset.subset_univ _)
  rw [hval] at key
  exact key

/-- Starting the copy of chunk `c`'s labels. -/
theorem startL1 (Lb : ℕ → BitVec 32) (q : PosShare TreeShare) (c : ℕ) {off : Fin 1 → ℕ} (hoff : off = ![rowC L c])
    {inb : ∀ a, off a + S1024.size a ≤ S2097152.size a} {f : S1024.Idx → BitVec 32}
    {h1 : (chL off inb).view.WordExact} {h2 : lb1.view.WordExact} {h3 : DmaTarget.Typed (nD := nD) .hbm (.dma (cc0_scratch8.sem)) (.here (p := Proc.scVector (τ := τ) (cV L) (jV L)) lb1)}
    {β : Type} {k : PUnit → TP F L β} {Q : β → sProp 𝕄} :
    iprop(shL d L Lb q ∗ ((lb1.view.loc (thr d L)) ↦{fullShare} f) ∗ semVal (thr d L, .dma (cc0_scratch8.sem)) 0)
      ⊢ iprop((flL1 d L Lb q c -∗ W d L (k ⟨⟩) Q) -∗ W d L (Prog.op (.enqueueDma (chL off inb) (.here lb1) (.dma (cc0_scratch8.sem)) h1 h2 h3) k) Q) := by
  subst hoff
  have hval : lb1.view.write (Elt F) f ((ReadAs.same (Val := Elt F)).apply ((chL ![rowC L c] inb).view.read (Elt F) (flatL Lb))) Finset.univ = arrL (bufL L Lb c) := by
    refine (View.write_whole_univ _ _ _).trans ?_
    funext j
    refine congrArg Lb ?_
    show rowC L c + 1 * (j 0).val = _
    rw [Nat.one_mul]
  have key := Transfers.wp_dmaFromWhole (defs := defs₀ (F := F)) (countersEmb (U := UU)) 𝒱₀ (thr d L) none (src := chL ![rowC L c] inb) (via := .same) (dst := lb1)
    (sm := .dma (cc0_scratch8.sem)) (hsrc := h1) (hdst := h2) (hsem := h3) (k := k) (q := q) (fs := flatL Lb) (Sd := Finset.univ) (fd := f) (Q := Q)
    (none : HIx 1) _ rfl (View.amount_pos _ _ (show 0 < S1024.numel by decide)) (Finset.subset_univ _)
  rw [hval] at key
  exact key

/-- Waiting for the scores, -/
theorem awaitX1 (A : ℕ → F .f32) (q : PosShare TreeShare) (c : ℕ) {src : Memref sig .scVector .hbm S32768 .f32}
    {h1 : src.view.WordExact} {h2 : xb1.view.WordExact} {β : Type} {k : PUnit → TP F L β} {Q : β → sProp 𝕄} :
    iprop(flX1 d L A q c ∗ owes (thr d L) O Ws ∗ Transfers.MayWaits (thr d L) (none : HIx 1) O)
      ⊢ iprop((iprop((holdX1 d L (bufX L A c) ∗ shX d L A q) ∗ semVal (thr d L, .dma (cc0_scratch6.sem)) 0
            ∗ owes (thr d L) O (insert (SemLoc.dma (cc0_scratch6.sem), (none : HIx 1)) Ws)) -∗ W d L (k ⟨⟩) Q)
          -∗ W d L (Prog.op (.waitDma2 (cc0_scratch6.sem) src xb1 h1 h2) k) Q) := by
  iintro ⟨Hf, HO, Hm⟩
  iapply (Transfers.wp_waitLocalO (defs := defs₀ (F := F)) (countersEmb (U := UU)) 𝒱₀ (thr d L) none (none : HIx 1) (dstw := xb1) (sem := cc0_scratch6.sem) rfl)
  isplitl [Hf]; · iexact Hf
  isplitl [HO]; · iexact HO
  iapply (Transfers.MayWaits.elim (SemLoc.dma (cc0_scratch6.sem))) $$ Hm

/-- and for the labels. -/
theorem awaitL1 (Lb : ℕ → BitVec 32) (q : PosShare TreeShare) (c : ℕ) {src : Memref sig .scVector .hbm S1024 .i32}
    {h1 : src.view.WordExact} {h2 : lb1.view.WordExact} {β : Type} {k : PUnit → TP F L β} {Q : β → sProp 𝕄} :
    iprop(flL1 d L Lb q c ∗ owes (thr d L) O Ws ∗ Transfers.MayWaits (thr d L) (none : HIx 1) O)
      ⊢ iprop((iprop((holdL1 d L (bufL L Lb c) ∗ shL d L Lb q) ∗ semVal (thr d L, .dma (cc0_scratch8.sem)) 0
            ∗ owes (thr d L) O (insert (SemLoc.dma (cc0_scratch8.sem), (none : HIx 1)) Ws)) -∗ W d L (k ⟨⟩) Q)
          -∗ W d L (Prog.op (.waitDma2 (cc0_scratch8.sem) src lb1 h1 h2) k) Q) := by
  iintro ⟨Hf, HO, Hm⟩
  iapply (Transfers.wp_waitLocalO (defs := defs₀ (F := F)) (countersEmb (U := UU)) 𝒱₀ (thr d L) none (none : HIx 1) (dstw := lb1) (sem := cc0_scratch8.sem) rfl)
  isplitl [Hf]; · iexact Hf
  isplitl [HO]; · iexact HO
  iapply (Transfers.MayWaits.elim (SemLoc.dma (cc0_scratch8.sem))) $$ Hm

/-- The histogram of a chunk's buffers steps as the whole table's does. -/
theorem step_chunk (A : ℕ → F .f32) (Lb : ℕ → BitVec 32) (c g : ℕ) (h : ℕ → F .f32) :
    step bd (bufX L A c) (bufL L Lb c) (16 * g) h = step bd A Lb (rowC L c + 16 * g) h := by
  have hr : ∀ ρ, rowOf (bufX L A c) ρ = rowOf A (rowC L c + ρ) := by
    intro ρ; funext n
    show A (32 * rowC L c + (32 * ρ + n)) = A (32 * (rowC L c + ρ) + n)
    rw [Nat.mul_add 32 (rowC L c) ρ, Nat.add_assoc]
  have hc : ∀ ρ, conf (bufX L A c) ρ = conf A (rowC L c + ρ) := fun ρ => congrArg (fun r => mx r 31) (hr ρ)
  have ht : ∀ ρ k, term (bufX L A c) (bufL L Lb c) ρ k = term A Lb (rowC L c + ρ) k := by
    intro ρ k
    rcases k with _ | _ | k
    · rfl
    · show hit _ _ _ = hit _ _ _
      unfold hit; rw [hr]
    · exact hc ρ
  funext j
  unfold step
  rw [hc, ht, ← Nat.add_assoc]

theorem hist_chunk (A : ℕ → F .f32) (Lb : ℕ → BitVec 32) (c g : ℕ) :
    step bd (bufX L A c) (bufL L Lb c) (16 * g) (hist bd A Lb (row0 L) (64 * c + g)) = hist bd A Lb (row0 L) (64 * c + (g + 1)) := by
  rw [step_chunk]
  show _ = step bd A Lb (row0 L + 16 * (64 * c + g)) _
  rw [show rowC L c + 16 * g = row0 L + 16 * (64 * c + g) from by show row0 L + 1024 * c + 16 * g = _; omega]
  rfl

/-- The loop over a chunk in buffer pair 0: its 64 groups into the histogram. -/
theorem chunk0_wp (A : ℕ → F .f32) (Lb : ℕ → BitVec 32) (c : ℕ) (v2 c0 c1 : BitVec 32) (t1 : Fin k0_t1_loop.trips)
    {β : Type} {kk : Unit → TP F L β} {Q : β → sProp 𝕄} :
    iprop(holdX0 d L (bufX L A c) ∗ holdL0 d L (bufL L Lb c) ∗ holdH d L (hist bd A Lb (row0 L) (64 * c)))
      ⊢ iprop((iprop(holdX0 d L (bufX L A c) ∗ holdL0 d L (bufL L Lb c) ∗ holdH d L (hist bd A Lb (row0 L) (64 * c + 64))) -∗ W d L (kk ()) Q)
        -∗ W d L (Scf.Loop.for k0_t2_loop k0_t2_ok ⟨⟩ (k0_t2_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219 c0 c1 t1) >>= kk) Q) := by
  have ht : k0_t2_loop.trips = 64 := by decide
  have key := Scf.wp_for_bind Idealize.ShloMosaic.frame (wpE (defs₀ (F := F)) 𝒱₀ (thr d L) none) Set.univ _ _ _ k0_t2_ok ()
    (k0_t2_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219 c0 c1 t1)
    (fun g _ => (iprop(holdX0 d L (bufX L A c) ∗ holdL0 d L (bufL L Lb c) ∗ holdH d L (hist bd A Lb (row0 L) (64 * c + g)) ∗ emp) : sProp 𝕄))
    (fun g acc => by
      refine k0_t2_body_wp d L (bufX L A c) (bufL L Lb c) _ v2 c0 c1 t1 g (ht ▸ g.isLt) ?_
      rw [hist_chunk]) (kk := kk) (Q := Q)
  rw [show Scf.trips k0_t2_loop.lb k0_t2_loop.ub k0_t2_loop.st = 64 from ht] at key
  iintro ⟨Hx, Hl, Hh⟩ Hk
  iapply key $$ [Hx Hl Hh]
  · isplitl [Hx]; · iexact Hx
    isplitl [Hl]; · iexact Hl
    isplitl [Hh]; · iexact Hh
    iempintro
  iintro %acc ⟨Hx, Hl, Hh, -⟩
  iapply Hk
  isplitl [Hx]; · iexact Hx
  isplitl [Hl]; · iexact Hl
  iexact Hh

/-- The loop over a chunk in buffer pair 1: its 64 groups into the histogram. -/
theorem chunk1_wp (A : ℕ → F .f32) (Lb : ℕ → BitVec 32) (c : ℕ) (v2 c0 c1 : BitVec 32) (t1 : Fin k0_t1_loop.trips)
    {β : Type} {kk : Unit → TP F L β} {Q : β → sProp 𝕄} :
    iprop(holdX1 d L (bufX L A c) ∗ holdL1 d L (bufL L Lb c) ∗ holdH d L (hist bd A Lb (row0 L) (64 * c)))
      ⊢ iprop((iprop(holdX1 d L (bufX L A c) ∗ holdL1 d L (bufL L Lb c) ∗ holdH d L (hist bd A Lb (row0 L) (64 * c + 64))) -∗ W d L (kk ()) Q)
        -∗ W d L (Scf.Loop.for k0_t3_loop k0_t3_ok ⟨⟩ (k0_t3_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219 c0 c1 t1) >>= kk) Q) := by
  have ht : k0_t3_loop.trips = 64 := by decide
  have key := Scf.wp_for_bind Idealize.ShloMosaic.frame (wpE (defs₀ (F := F)) 𝒱₀ (thr d L) none) Set.univ _ _ _ k0_t3_ok ()
    (k0_t3_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219 c0 c1 t1)
    (fun g _ => (iprop(holdX1 d L (bufX L A c) ∗ holdL1 d L (bufL L Lb c) ∗ holdH d L (hist bd A Lb (row0 L) (64 * c + g)) ∗ emp) : sProp 𝕄))
    (fun g acc => by
      refine k0_t3_body_wp d L (bufX L A c) (bufL L Lb c) _ v2 c0 c1 t1 g (ht ▸ g.isLt) ?_
      rw [hist_chunk]) (kk := kk) (Q := Q)
  rw [show Scf.trips k0_t3_loop.lb k0_t3_loop.ub k0_t3_loop.st = 64 from ht] at key
  iintro ⟨Hx, Hl, Hh⟩ Hk
  iapply key $$ [Hx Hl Hh]
  · isplitl [Hx]; · iexact Hx
    isplitl [Hl]; · iexact Hl
    isplitl [Hh]; · iexact Hh
    iempintro
  iintro %acc ⟨Hx, Hl, Hh, -⟩
  iapply Hk
  isplitl [Hx]; · iexact Hx
  isplitl [Hl]; · iexact Hl
  iexact Hh

end Cert.Proof.KernelIdealRun

end
-- ==== Proof.ITile2.lean ====
/-
  A subcore's run, put together: the loop over pairs of chunks, the clearing before it, and the histogram's copy to
  the subcore's row of the table after it.
-/
module

public import proofs.«01_k».proof.Proof.ITile1

@[expose] public section

noncomputable section

namespace Cert.Proof.KernelIdealRun

open Cert.KernelIdeal Cert.KernelIdeal.Gen Cert.Ece

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (d : Dev nD) (L : grid0.Coords)

local notation "𝕄" => MT nD τ sig (HIx 1) (Elt F) ℕ UU ℕ

/-! ## Where the copies read -/

theorem off1_at : k0_off1 L = ![32 * rowC L 0] := by
  funext a; obtain rfl : a = 0 := Subsingleton.elim _ _
  rw [congrFun (k0_off1_eq L) 0]; simp only [Matrix.cons_val_zero, Matrix.cons_val_fin_one, rowC, row0]; omega
theorem off2_at : k0_off2 L = ![rowC L 0] := by
  funext a; obtain rfl : a = 0 := Subsingleton.elim _ _
  rw [congrFun (k0_off2_eq L) 0]; simp only [Matrix.cons_val_zero, Matrix.cons_val_fin_one, rowC, row0]; omega
theorem off3_at (t : Fin k0_t1_loop.trips) : k0_off3 L t = ![32 * rowC L (2 * t.val + 1)] := by
  funext a; obtain rfl : a = 0 := Subsingleton.elim _ _
  rw [congrFun (k0_off3_eq L t) 0]; simp only [Matrix.cons_val_zero, Matrix.cons_val_fin_one, rowC, row0]; omega
theorem off4_at (t : Fin k0_t1_loop.trips) : k0_off4 L t = ![rowC L (2 * t.val + 1)] := by
  funext a; obtain rfl : a = 0 := Subsingleton.elim _ _
  rw [congrFun (k0_off4_eq L t) 0]; simp only [Matrix.cons_val_zero, Matrix.cons_val_fin_one, rowC, row0]; omega
theorem off8_at (t : Fin k0_t1_loop.trips) : k0_off8 L t = ![32 * rowC L (2 * (t.val + 1))] := by
  funext a; obtain rfl : a = 0 := Subsingleton.elim _ _
  rw [congrFun (k0_off8_eq L t) 0]; simp only [Matrix.cons_val_zero, Matrix.cons_val_fin_one, rowC, row0]; omega
theorem off9_at (t : Fin k0_t1_loop.trips) : k0_off9 L t = ![rowC L (2 * (t.val + 1))] := by
  funext a; obtain rfl : a = 0 := Subsingleton.elim _ _
  rw [congrFun (k0_off9_eq L t) 0]; simp only [Matrix.cons_val_zero, Matrix.cons_val_fin_one, rowC, row0]; omega

theorem more_iff : ∀ t : Fin k0_t1_loop.trips, k0_cond1 t = 1#1 ↔ t.val + 1 < 32 := by decide

/-! ## The loop over pairs of chunks -/

variable (O : CellTallies nD τ sig (HIx 1)) (Ws : Waits sig (HIx 1))
variable (A : ℕ → F .f32) (Lb : ℕ → BitVec 32) (qx0 qx1 ql0 ql1 : PosShare TreeShare)

/-- The record of waits grown by waits of the kernel's own. -/
abbrev owed : sProp 𝕄 := iprop(∃ W', ⌜∀ p ∈ W', p ∈ Ws ∨ p.2 = none⌝ ∗ owes (thr d L) O W')

/-- Buffer pair 0 at rest. -/
abbrev rest0 : sProp 𝕄 := iprop(shX d L A qx0 ∗ (∃ f : S32768.Idx → F .f32, (xb0.view.loc (thr d L)) ↦{fullShare} f) ∗ semVal (thr d L, .dma (cc0_scratch5.sem)) 0
  ∗ shL d L Lb ql0 ∗ (∃ f : S1024.Idx → BitVec 32, (lb0.view.loc (thr d L)) ↦{fullShare} f) ∗ semVal (thr d L, .dma (cc0_scratch7.sem)) 0)
/-- Buffer pair 1 at rest. -/
abbrev rest1 : sProp 𝕄 := iprop(shX d L A qx1 ∗ (∃ f : S32768.Idx → F .f32, (xb1.view.loc (thr d L)) ↦{fullShare} f) ∗ semVal (thr d L, .dma (cc0_scratch6.sem)) 0
  ∗ shL d L Lb ql1 ∗ (∃ f : S1024.Idx → BitVec 32, (lb1.view.loc (thr d L)) ↦{fullShare} f) ∗ semVal (thr d L, .dma (cc0_scratch8.sem)) 0)

/-- Buffer pair 0 before pair of chunks `p`: filling with chunk `2 p`, or at rest after the last. -/
def slot (p : ℕ) : sProp 𝕄 := if p < 32 then iprop(flX0 d L A qx0 (2 * p) ∗ flL0 d L Lb ql0 (2 * p)) else rest0 d L A Lb qx0 ql0

theorem slot_lt {p : ℕ} (h : p < 32) : slot d L A Lb qx0 ql0 p = iprop(flX0 d L A qx0 (2 * p) ∗ flL0 d L Lb ql0 (2 * p)) := if_pos h
theorem slot_ge {p : ℕ} (h : ¬ p < 32) : slot d L A Lb qx0 ql0 p = rest0 d L A Lb qx0 ql0 := if_neg h

/-- What holds before pair of chunks `p`. -/
abbrev inv (p : ℕ) : sProp 𝕄 := iprop(slot d L A Lb qx0 ql0 p ∗ rest1 d L A Lb qx1 ql1
  ∗ holdH d L (hist bd A Lb (row0 L) (128 * p)) ∗ owed d L O Ws)

theorem owed_close {W' : Waits sig (HIx 1)} (h : ∀ p ∈ W', p ∈ Ws ∨ p.2 = none) (a b c e : SemLoc sig) :
    owes (thr d L) O (insert (a, (none : HIx 1)) (insert (b, (none : HIx 1)) (insert (c, (none : HIx 1)) (insert (e, (none : HIx 1)) W')))) ⊢ (owed d L O Ws : sProp 𝕄) := by
  iintro HO
  iexists _
  isplitr
  swap; · iexact HO
  ipureintro; intro p hp
  simp only [Finset.mem_insert] at hp
  rcases hp with rfl | rfl | rfl | rfl | hp
  · exact .inr rfl
  · exact .inr rfl
  · exact .inr rfl
  · exact .inr rfl
  · exact h p hp

theorem pair_wp (t : Fin k0_t1_loop.trips) (ht : t.val < 32) (v2 c0 c1 : BitVec 32) :
    iprop(Transfers.MayWaits (thr d L) (none : HIx 1) O ∗ inv d L O Ws A Lb qx0 qx1 ql0 ql1 t.val)
      ⊢ W d L (k0_part15 L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219 c0 c1 t) (fun _ => iprop(Transfers.MayWaits (thr d L) (none : HIx 1) O ∗ inv d L O Ws A Lb qx0 qx1 ql0 ql1 (t.val + 1))) := by
  rw [k0_part15_eq_skeleton]; unfold k0_part15_skel inv
  rw [slot_lt d L A Lb qx0 ql0 ht, show 128 * t.val = 64 * (2 * t.val) by omega, show 128 * (t.val + 1) = 64 * (2 * t.val + 1) + 64 by omega]
  by_cases hm : k0_cond1 t = 1#1
  · rw [slot_lt d L A Lb qx0 ql0 ((more_iff t).mp hm)]
    simp only [dif_pos hm, Prog.lift, Prog.bind_op, Prog.bind_ret, Prog.pure_eq_ret]
    iintro ⟨#Hm, ⟨Hfx, Hfl⟩, ⟨Hx1, ⟨%f1, Hb1⟩, Hs6, Hl1, ⟨%f2, Hb2⟩, Hs8⟩, Hh, ⟨%W', %hW, HO⟩⟩
    iapply (startX1 d L A qx1 (2 * t.val + 1) (off3_at L t)) $$ [Hx1 Hb1 Hs6]
    · isplitl [Hx1]; · iexact Hx1
      isplitl [Hb1] <;> iassumption
    iintro Hf1
    iapply (startL1 d L Lb ql1 (2 * t.val + 1) (off4_at L t)) $$ [Hl1 Hb2 Hs8]
    · isplitl [Hl1]; · iexact Hl1
      isplitl [Hb2] <;> iassumption
    iintro Hf2
    iapply (awaitX0 d L A qx0 (2 * t.val)) $$ [Hfx HO]
    · isplitl [Hfx]; · iexact Hfx
      isplitl [HO]; · iexact HO
      iexact Hm
    iintro ⟨⟨Hx, Hsx⟩, Hs5, HO⟩
    iapply (awaitL0 d L Lb ql0 (2 * t.val)) $$ [Hfl HO]
    · isplitl [Hfl]; · iexact Hfl
      isplitl [HO]; · iexact HO
      iexact Hm
    iintro ⟨⟨Hl, Hsl⟩, Hs7, HO⟩
    iapply (chunk0_wp d L A Lb (2 * t.val) v2 c0 c1 t) $$ [Hx Hl Hh]
    · isplitl [Hx]; · iexact Hx
      isplitl [Hl] <;> iassumption
    iintro ⟨Hx, Hl, Hh⟩
    iapply (startX0 d L A qx0 (2 * (t.val + 1)) (off8_at L t)) $$ [Hsx Hx Hs5]
    · isplitl [Hsx]; · iexact Hsx
      isplitl [Hx] <;> iassumption
    iintro Hfx
    iapply (startL0 d L Lb ql0 (2 * (t.val + 1)) (off9_at L t)) $$ [Hsl Hl Hs7]
    · isplitl [Hsl]; · iexact Hsl
      isplitl [Hl] <;> iassumption
    iintro Hfl
    iapply (awaitX1 d L A qx1 (2 * t.val + 1)) $$ [Hf1 HO]
    · isplitl [Hf1]; · iexact Hf1
      isplitl [HO]; · iexact HO
      iexact Hm
    iintro ⟨⟨Hx, Hx1⟩, Hs6, HO⟩
    iapply (awaitL1 d L Lb ql1 (2 * t.val + 1)) $$ [Hf2 HO]
    · isplitl [Hf2]; · iexact Hf2
      isplitl [HO]; · iexact HO
      iexact Hm
    iintro ⟨⟨Hl, Hl1⟩, Hs8, HO⟩
    iapply (chunk1_wp d L A Lb (2 * t.val + 1) v2 c0 c1 t) $$ [Hx Hl Hh]
    · isplitl [Hx]; · iexact Hx
      isplitl [Hl]; · iexact Hl
      rw [show 64 * (2 * t.val + 1) = 64 * (2 * t.val) + 64 by omega]; iexact Hh
    iintro ⟨Hx, Hl, Hh⟩
    unfold W; rw [wp_ret]; imodintro
    isplitr; · iexact Hm
    isplitl [Hfx Hfl]
    · isplitl [Hfx] <;> iassumption
    isplitl [Hx1 Hx Hs6 Hl1 Hl Hs8]
    · isplitl [Hx1]; · iexact Hx1
      isplitl [Hx]; · iexists _; iexact Hx
      isplitl [Hs6]; · iexact Hs6
      isplitl [Hl1]; · iexact Hl1
      isplitl [Hl]; · iexists _; iexact Hl
      iexact Hs8
    isplitl [Hh]; · iexact Hh
    iapply (owed_close d L O Ws hW _ _ _ _); iexact HO
  · rw [slot_ge d L A Lb qx0 ql0 (fun h => hm ((more_iff t).mpr h))]
    simp only [dif_neg hm, Prog.lift, Prog.bind_op, Prog.bind_ret, Prog.pure_eq_ret]
    iintro ⟨#Hm, ⟨Hfx, Hfl⟩, ⟨Hx1, ⟨%f1, Hb1⟩, Hs6, Hl1, ⟨%f2, Hb2⟩, Hs8⟩, Hh, ⟨%W', %hW, HO⟩⟩
    iapply (startX1 d L A qx1 (2 * t.val + 1) (off3_at L t)) $$ [Hx1 Hb1 Hs6]
    · isplitl [Hx1]; · iexact Hx1
      isplitl [Hb1] <;> iassumption
    iintro Hf1
    iapply (startL1 d L Lb ql1 (2 * t.val + 1) (off4_at L t)) $$ [Hl1 Hb2 Hs8]
    · isplitl [Hl1]; · iexact Hl1
      isplitl [Hb2] <;> iassumption
    iintro Hf2
    iapply (awaitX0 d L A qx0 (2 * t.val)) $$ [Hfx HO]
    · isplitl [Hfx]; · iexact Hfx
      isplitl [HO]; · iexact HO
      iexact Hm
    iintro ⟨⟨Hx, Hsx⟩, Hs5, HO⟩
    iapply (awaitL0 d L Lb ql0 (2 * t.val)) $$ [Hfl HO]
    · isplitl [Hfl]; · iexact Hfl
      isplitl [HO]; · iexact HO
      iexact Hm
    iintro ⟨⟨Hl, Hsl⟩, Hs7, HO⟩
    iapply (chunk0_wp d L A Lb (2 * t.val) v2 c0 c1 t) $$ [Hx Hl Hh]
    · isplitl [Hx]; · iexact Hx
      isplitl [Hl] <;> iassumption
    iintro ⟨Hx0, Hl0, Hh⟩
    iapply (awaitX1 d L A qx1 (2 * t.val + 1)) $$ [Hf1 HO]
    · isplitl [Hf1]; · iexact Hf1
      isplitl [HO]; · iexact HO
      iexact Hm
    iintro ⟨⟨Hx, Hx1⟩, Hs6, HO⟩
    iapply (awaitL1 d L Lb ql1 (2 * t.val + 1)) $$ [Hf2 HO]
    · isplitl [Hf2]; · iexact Hf2
      isplitl [HO]; · iexact HO
      iexact Hm
    iintro ⟨⟨Hl, Hl1⟩, Hs8, HO⟩
    iapply (chunk1_wp d L A Lb (2 * t.val + 1) v2 c0 c1 t) $$ [Hx Hl Hh]
    · isplitl [Hx]; · iexact Hx
      isplitl [Hl]; · iexact Hl
      rw [show 64 * (2 * t.val + 1) = 64 * (2 * t.val) + 64 by omega]; iexact Hh
    iintro ⟨Hx, Hl, Hh⟩
    unfold W; rw [wp_ret]; imodintro
    isplitr; · iexact Hm
    isplitl [Hsx Hx0 Hs5 Hsl Hl0 Hs7]
    · isplitl [Hsx]; · iexact Hsx
      isplitl [Hx0]; · iexists _; iexact Hx0
      isplitl [Hs5]; · iexact Hs5
      isplitl [Hsl]; · iexact Hsl
      isplitl [Hl0]; · iexists _; iexact Hl0
      iexact Hs7
    isplitl [Hx1 Hx Hs6 Hl1 Hl Hs8]
    · isplitl [Hx1]; · iexact Hx1
      isplitl [Hx]; · iexists _; iexact Hx
      isplitl [Hs6]; · iexact Hs6
      isplitl [Hl1]; · iexact Hl1
      isplitl [Hl]; · iexists _; iexact Hl
      iexact Hs8
    isplitl [Hh]; · iexact Hh
    iapply (owed_close d L O Ws hW _ _ _ _); iexact HO

/-- All the pairs. -/
theorem pairs_wp (v2 : BitVec 32) {β : Type} {kk : Unit → TP F L β} {Q : β → sProp 𝕄} :
    iprop(Transfers.MayWaits (thr d L) (none : HIx 1) O ∗ inv d L O Ws A Lb qx0 qx1 ql0 ql1 0)
      ⊢ iprop((inv d L O Ws A Lb qx0 qx1 ql0 ql1 32 -∗ W d L (kk ()) Q)
        -∗ W d L (Scf.Loop.for k0_t1_loop k0_t1_ok ⟨⟩ (k0_t1_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219) >>= kk) Q) := by
  have ht : k0_t1_loop.trips = 32 := by decide
  have key := Scf.wp_for_bind Idealize.ShloMosaic.frame (wpE (defs₀ (F := F)) 𝒱₀ (thr d L) none) Set.univ _ _ _ k0_t1_ok ()
    (k0_t1_body L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0 v2 lanesV k0_pay217 k0_pay218 k0_pay219)
    (fun p _ => (iprop(Transfers.MayWaits (thr d L) (none : HIx 1) O ∗ inv d L O Ws A Lb qx0 qx1 ql0 ql1 p) : sProp 𝕄))
    (fun p acc => by
      unfold k0_t1_body
      refine bind_wp d L ?_
      exact (pair_wp d L O Ws A Lb qx0 qx1 ql0 ql1 p (lt_of_lt_of_eq p.isLt ht) v2 0#32 1#32).trans (wp_mono _ _ _ fun _ => ret_wp d L .rfl)) (kk := kk) (Q := Q)
  rw [show Scf.trips k0_t1_loop.lb k0_t1_loop.ub k0_t1_loop.st = 32 from ht] at key
  iintro ⟨Hm, Hi⟩ Hk
  iapply key $$ [Hm Hi]
  · isplitl [Hm] <;> iassumption
  iintro %acc ⟨-, Hi⟩
  iapply Hk; iexact Hi

/-! ## The subcore's row of the table -/

/-- Row `w` of the table of histograms. -/
def rowSet (w : ℕ) : Finset S32x528.Idx := Finset.univ.filter fun j => (j 0).val = w

/-- The row of the subcore at `L`. -/
abbrev rowN : ℕ := 2 * (L 1).val + (L 0).val

/-- What the kernel leaves in the table: row `w` holds the histogram of rows `65536 w` on. -/
def outF : S32x528.Idx → F .f32 := fun j => hist bd A Lb (65536 * (j 0).val) 4096 (j 1).val

abbrev oRow : Memref sig .scVector .hbm S528 .f32 :=
  ((oW.slice (Rect.unit (s := S32x528) (k0_off11 L) S1x528.size (k0_off11_inb L)) (fun _ => rfl)).squeeze S528 squeezes_S1x528_S528)

theorem oRow_emb (x : S528.Idx) : (((oRow L).view.emb x : S32x528.Idx) 0).val = rowN L ∧ (((oRow L).view.emb x : S32x528.Idx) 1).val = (x 0).val := by
  have e : (Shape.reshapeEquiv squeezes_S1x528_S528.numel_eq x : S1x528.Idx) = Fin.cons (⟨0, Nat.one_pos⟩ : Fin 1) x :=
    Shape.reshapeEquiv_cons_one squeezes_S1x528_S528.numel_eq x
  constructor
  · show k0_off11 L 0 + 1 * ((Shape.reshapeEquiv squeezes_S1x528_S528.numel_eq x : S1x528.Idx) 0).val = _
    rw [e, congrFun (k0_off11_eq L) 0]
    simp [rowN]
    rfl
  · show k0_off11 L 1 + 1 * ((Shape.reshapeEquiv squeezes_S1x528_S528.numel_eq x : S1x528.Idx) 1).val = _
    rw [e, congrFun (k0_off11_eq L) 1]
    simp
    rfl

theorem rowN_lt : rowN L < 32 := by
  have h0 : (L 0).val < 2 := (L 0).isLt
  have h1 : (L 1).val < 16 := (L 1).isLt
  unfold rowN; omega

theorem oRow_at {j : S32x528.Idx} (h : (j 0).val = rowN L) : ∃ x : S528.Idx, (oRow L).view.emb x = j := by
  refine ⟨fun | 0 => j 1, ?_⟩
  have hx := oRow_emb L (fun | 0 => j 1)
  funext a
  match a with
  | 0 => exact Fin.ext (hx.1.trans h.symm)
  | 1 => exact Fin.ext hx.2

theorem set_oRow : (oRow L).view.set = rowSet (rowN L) := by
  ext j
  unfold rowSet
  rw [Finset.mem_filter]
  constructor
  · intro h
    obtain ⟨x, -, rfl⟩ := Finset.mem_map.mp h
    exact ⟨Finset.mem_univ _, (oRow_emb L x).1⟩
  · rintro ⟨-, h⟩
    obtain ⟨x, rfl⟩ := oRow_at L h
    exact View.emb_mem_set _ x

/-- The row after the copy. -/
theorem row_written (f : S32x528.Idx → F .f32) :
    (((oRow L).view.loc (thr d L)) ↦[(oRow L).view.set]{fullShare} ((oRow L).view.write (Elt F) f (arrH (hist bd A Lb (row0 L) 4096)) Finset.univ) : sProp 𝕄)
      = oLoc d ↦[rowSet (rowN L)]{fullShare} (outF A Lb) := by
  rw [set_oRow]
  refine pointsTo_congr fun j hj => ?_
  obtain ⟨x, rfl⟩ := oRow_at L (Finset.mem_filter.mp hj).2
  refine (View.write_emb_of_mem _ _ (Finset.mem_univ x)).trans ?_
  show hist bd A Lb (row0 L) 4096 (x 0).val = hist bd A Lb (65536 * _) 4096 _
  rw [(oRow_emb L x).1, (oRow_emb L x).2]
  congr 1
  unfold row0 rowN; omega

/-! ## The kernel -/

theorem hist_none (i : ℕ) : hist bd A Lb i 0 = fun _ => (zero : F .f32) := rfl

/-- What the kernel leaves. -/
abbrev left : sProp 𝕄 := iprop(rest0 d L A Lb qx0 ql0 ∗ rest1 d L A Lb qx1 ql1
  ∗ (∃ f : S528.Idx → F .f32, rawH d L f) ∗ semVal (thr d L, .dma (cc0_scoped0.sem)) 0
  ∗ (oLoc d ↦[rowSet (rowN L)]{fullShare} (outF A Lb)) ∗ owed d L O Ws)

theorem copy_wp (f : S32x528.Idx → F .f32) {h1 h2 h3 h4 h5} :
    iprop(Transfers.MayWaits (thr d L) (none : HIx 1) O ∗ rest0 d L A Lb qx0 ql0 ∗ rest1 d L A Lb qx1 ql1
        ∗ holdH d L (hist bd A Lb (row0 L) 4096) ∗ semVal (thr d L, .dma (cc0_scoped0.sem)) 0
        ∗ (oLoc d ↦[rowSet (rowN L)]{fullShare} f) ∗ owed d L O Ws)
      ⊢ W d L (Prog.op (.enqueueDma hb (.here (p := Proc.scVector (τ := τ) (cV L) (jV L)) (oRow L)) (.dma cc0_scoped0.sem) h1 h2 h3) fun _ =>
          Prog.op (.waitDma2 cc0_scoped0.sem hb (oRow L) h4 h5) fun _ => Prog.ret PUnit.unit)
        (fun _ => left d L O Ws A Lb qx0 qx1 ql0 ql1) := by
  iintro ⟨#Hm, H0, H1, Hh, Hs, Ho, ⟨%W', %hW, HO⟩⟩
  have eo : (oLoc d ↦[rowSet (rowN L)]{fullShare} f : sProp 𝕄) = (((oRow L).view.loc (thr d L)) ↦[(oRow L).view.set]{fullShare} f) := by rw [set_oRow]
  ihave Ho := (Entails.of_eq eo) $$ Ho
  iapply (Transfers.wp_dmaFromWhole (defs := defs₀ (F := F)) (countersEmb (U := UU)) 𝒱₀ (thr d L) none (src := hb) (via := .same) (dst := oRow L)
    (sm := .dma (cc0_scoped0.sem)) (q := fullShare) (fs := arrH (hist bd A Lb (row0 L) 4096)) (Sd := (oRow L).view.set) (fd := f)
    (none : HIx 1) _ rfl (View.amount_pos _ _ (show 0 < S528.numel by decide)) (Finset.Subset.refl _)) $$ [Hh Ho Hs]
  · isplitl [Hh]; · iexact Hh
    isplitl [Ho] <;> iassumption
  iintro Hf
  iapply (Transfers.wp_waitLocalO (defs := defs₀ (F := F)) (countersEmb (U := UU)) 𝒱₀ (thr d L) none (none : HIx 1) (dstw := oRow L) (sem := cc0_scoped0.sem) rfl) $$ [Hf HO]
  · isplitl [Hf]; · iexact Hf
    isplitl [HO]; · iexact HO
    iapply (Transfers.MayWaits.elim (SemLoc.dma (cc0_scoped0.sem))) $$ Hm
  iintro ⟨⟨Ho, Hh⟩, Hs, HO⟩
  rw [wp_ret]; imodintro
  isplitl [H0]; · iexact H0
  isplitl [H1]; · iexact H1
  isplitl [Hh]; · iexists _; iexact Hh
  isplitl [Hs]; · iexact Hs
  isplitl [Ho]
  · iapply (Entails.of_eq (row_written d L A Lb f)); iexact Ho
  iexists _
  isplitr
  swap; · iexact HO
  ipureintro; intro p hp
  rcases Finset.mem_insert.mp hp with rfl | hp
  · exact .inr rfl
  · exact hW p hp

theorem cleared_wp (fh : S528.Idx → F .f32) (f : S32x528.Idx → F .f32) :
    iprop(rawH d L fh ∗ (Transfers.MayWaits (thr d L) (none : HIx 1) O ∗ rest0 d L A Lb qx0 ql0 ∗ rest1 d L A Lb qx1 ql1
        ∗ semVal (thr d L, .dma (cc0_scoped0.sem)) 0 ∗ (oLoc d ↦[rowSet (rowN L)]{fullShare} f) ∗ owed d L O Ws))
      ⊢ W d L (cc0_hist_kernel L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0) (fun _ => left d L O Ws A Lb qx0 qx1 ql0 ql1) := by
  rw [cc0_hist_kernel_eq_skeleton]; unfold cc0_hist_kernel_skel
  refine bind_wp d L (part16_wp d L fh fun f' hf' => ?_)
  dsimp only
  refine bind_wp d L (part17_wp d L _ f' hf' ?_)
  simp only [Prog.lift, Prog.bind_op, Prog.bind_ret, Prog.pure_eq_ret]
  iintro ⟨Hh, #Hm, ⟨Hx0, ⟨%f1, Hb1⟩, Hs5, Hl0, ⟨%f2, Hb2⟩, Hs7⟩, H1, Hs, Ho, HO⟩
  iapply (startX0 d L A qx0 0 (off1_at L)) $$ [Hx0 Hb1 Hs5]
  · isplitl [Hx0]; · iexact Hx0
    isplitl [Hb1] <;> iassumption
  iintro Hf1
  iapply (startL0 d L Lb ql0 0 (off2_at L)) $$ [Hl0 Hb2 Hs7]
  · isplitl [Hl0]; · iexact Hl0
    isplitl [Hb2] <;> iassumption
  iintro Hf2
  iapply (pairs_wp d L O Ws A Lb qx0 qx1 ql0 ql1) $$ [Hf1 Hf2 H1 Hh HO]
  · isplitr; · iexact Hm
    unfold inv
    rw [slot_lt d L A Lb qx0 ql0 (by decide : 0 < 32)]
    isplitl [Hf1 Hf2]
    · isplitl [Hf1] <;> iassumption
    isplitl [H1]; · iexact H1
    isplitl [Hh]; · iexact Hh
    iexact HO
  unfold inv
  rw [slot_ge d L A Lb qx0 ql0 (by decide : ¬ 32 < 32)]
  iintro ⟨H0, H1, Hh, HO⟩
  iapply (copy_wp d L O Ws A Lb qx0 qx1 ql0 ql1 f)
  isplitr; · iexact Hm
  isplitl [H0]; · iexact H0
  isplitl [H1]; · iexact H1
  isplitl [Hh]; · iexact Hh
  isplitl [Hs]; · iexact Hs
  isplitl [Ho] <;> iassumption

/-- The kernel on one subcore. -/
theorem kernel_wp (f : S32x528.Idx → F .f32) :
    iprop(Transfers.MayWaits (thr d L) (none : HIx 1) O ∗ rest0 d L A Lb qx0 ql0 ∗ rest1 d L A Lb qx1 ql1
        ∗ (∃ f : S528.Idx → F .f32, rawH d L f) ∗ semVal (thr d L, .dma (cc0_scoped0.sem)) 0
        ∗ (oLoc d ↦[rowSet (rowN L)]{fullShare} f) ∗ owed d L O Ws)
      ⊢ W d L (cc0_hist_kernel L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0) (fun _ => left d L O Ws A Lb qx0 qx1 ql0 ql1) := by
  iintro ⟨Hm, H0, H1, ⟨%fh, Hh⟩, Hs, Ho, HO⟩
  iapply (cleared_wp d L O Ws A Lb qx0 qx1 ql0 ql1 fh f)
  isplitl [Hh]; · iexact Hh
  isplitl [Hm]; · iexact Hm
  isplitl [H0]; · iexact H0
  isplitl [H1]; · iexact H1
  isplitl [Hs]; · iexact Hs
  isplitl [Ho] <;> iassumption

end Cert.Proof.KernelIdealRun

end
-- ==== Proof.ILaunch1.lean ====
/-
  The launch's obligations: what the call hands each SparseCore and each of its subcores, and what comes back.
  The scores and the labels are read by all: each core has a share of them, each subcore a share of its core's.
  The table of histograms is divided by rows.
-/
module

public import proofs.«01_k».proof.Proof.ITile2

@[expose] public section

noncomputable section

namespace Cert.Proof.KernelIdealRun

open Cert.KernelIdeal Cert.KernelIdeal.Gen Cert.Ece

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks)

variable {F : FTy → Type} [FloatOps F] [Named F]
variable (d : Dev nD) (L : grid0.Coords)

local notation "𝕄" => MT nD τ sig (HIx 1) (Elt F) ℕ UU ℕ

/-! ## A subcore's own buffers and semaphores -/

abbrev cell5 (d : Dev nD) (L : grid0.Coords) : GSem nD τ sig := (thr d L, .dma (cc0_scratch5.sem))
abbrev cell6 (d : Dev nD) (L : grid0.Coords) : GSem nD τ sig := (thr d L, .dma (cc0_scratch6.sem))
abbrev cell7 (d : Dev nD) (L : grid0.Coords) : GSem nD τ sig := (thr d L, .dma (cc0_scratch7.sem))
abbrev cell8 (d : Dev nD) (L : grid0.Coords) : GSem nD τ sig := (thr d L, .dma (cc0_scratch8.sem))
abbrev cellC (d : Dev nD) (L : grid0.Coords) : GSem nD τ sig := (thr d L, .dma (cc0_scoped0.sem))

/-- The five semaphores are among the subcore's own: they are them, at zero, and the rest. -/
theorem ownSems0_V :
    (ownSems0 (thr d L) : sProp 𝕄)
      = iprop(semVal (cell5 d L) 0 ∗ semVal (cell6 d L) 0 ∗ semVal (cell7 d L) 0 ∗ semVal (cell8 d L) 0 ∗ semVal (cellC d L) 0
          ∗ bigSep ((((((((((ownCells (thr d L)).erase (cell5 d L))).erase (cell6 d L))).erase (cell7 d L))).erase (cell8 d L))).erase (cellC d L)) fun g => semVal g 0) := by
  unfold SparseCore.Cfg.ownSems0
  rw [SparseCore.bigSep_erase' ((mem_ownCells (g := (cell5 d L))).mpr ⟨rfl, by show (SemLoc.dma (cc0_scratch5.sem) : SemLoc sig).isScoped .scVector = true; decide⟩),
    SparseCore.bigSep_erase' (Finset.mem_erase.mpr ⟨by simp [cell5, cell6]; decide, (mem_ownCells (g := (cell6 d L))).mpr ⟨rfl, by show (SemLoc.dma (cc0_scratch6.sem) : SemLoc sig).isScoped .scVector = true; decide⟩⟩),
    SparseCore.bigSep_erase' (Finset.mem_erase.mpr ⟨by simp [cell6, cell7]; decide, Finset.mem_erase.mpr ⟨by simp [cell5, cell7]; decide, (mem_ownCells (g := (cell7 d L))).mpr ⟨rfl, by show (SemLoc.dma (cc0_scratch7.sem) : SemLoc sig).isScoped .scVector = true; decide⟩⟩⟩),
    SparseCore.bigSep_erase' (Finset.mem_erase.mpr ⟨by simp [cell7, cell8]; decide, Finset.mem_erase.mpr ⟨by simp [cell6, cell8]; decide, Finset.mem_erase.mpr ⟨by simp [cell5, cell8]; decide, (mem_ownCells (g := (cell8 d L))).mpr ⟨rfl, by show (SemLoc.dma (cc0_scratch8.sem) : SemLoc sig).isScoped .scVector = true; decide⟩⟩⟩⟩),
    SparseCore.bigSep_erase' (Finset.mem_erase.mpr ⟨by simp [cell8, cellC]; decide, Finset.mem_erase.mpr ⟨by simp [cell7, cellC]; decide, Finset.mem_erase.mpr ⟨by simp [cell6, cellC]; decide, Finset.mem_erase.mpr ⟨by simp [cell5, cellC]; decide, (mem_ownCells (g := (cellC d L))).mpr ⟨rfl, by show (SemLoc.dma (cc0_scoped0.sem) : SemLoc sig).isScoped .scVector = true; decide⟩⟩⟩⟩⟩)]

/-- The five buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((((((ownRefs (τ := τ) (.scVector (cV L) (jV L))).erase ((Proc.scVector (cV L) (jV L)).devRef cc0_scratch0))).erase ((Proc.scVector (cV L) (jV L)).devRef cc0_scratch1))).erase ((Proc.scVector (cV L) (jV L)).devRef cc0_scratch2))).erase ((Proc.scVector (cV L) (jV L)).devRef cc0_scratch3))).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-! ## Shares and rows -/

/-- Core `c`'s share of an array all read, and its subcore `i`'s. -/
def coreQ (c : Fin 2) : PosShare TreeShare := shareTok fullShare 2 c
def tileQ (c : Fin 2) (i : Fin 16) : PosShare TreeShare := shareTok (coreQ c) 16 i

/-- A share is its two halves. -/
theorem halves {ℓ : Loc nD τ sig} {I : Finset (Idx ℓ)} (q : PosShare TreeShare) (f : Buf (Elt F) ℓ) :
    (ℓ ↦[I]{q} f : sProp 𝕄) ⊣⊢ iprop((ℓ ↦[I]{q.left} f) ∗ ℓ ↦[I]{q.right} f) :=
  pointsTo_share (PosShare.mem_left_op_right _)

/-- The table's rows for core `c`: those of its parity. -/
def coreSet (c : ℕ) : Finset S32x528.Idx := Finset.univ.filter fun j => (j 0).val % 2 = c

theorem coreSet_eq (c : Fin 2) : coreSet c.val = (Finset.univ : Finset (Fin 16)).biUnion fun i => rowSet (2 * i.val + c.val) := by
  ext j
  have hj : (j 0).val < 32 := (j 0).isLt
  have hc := c.isLt
  simp only [coreSet, rowSet, Finset.mem_filter, Finset.mem_univ, true_and, Finset.mem_biUnion]
  constructor
  · intro h; exact ⟨⟨(j 0).val / 2, by omega⟩, by simp only; omega⟩
  · rintro ⟨i, h⟩; omega

theorem rows_disjoint (c : Fin 2) : ∀ i ∈ (Finset.univ : Finset (Fin 16)), ∀ j ∈ (Finset.univ : Finset (Fin 16)), i ≠ j →
    Disjoint (rowSet (2 * i.val + c.val)) (rowSet (2 * j.val + c.val)) := by
  intro i _ j _ h
  rw [Finset.disjoint_left]
  intro x hx hx'
  simp only [rowSet, Finset.mem_filter, Finset.mem_univ, true_and] at hx hx'
  exact h (Fin.ext (by omega))

theorem cores_disjoint : Disjoint (coreSet 0) (coreSet 1) := by
  rw [Finset.disjoint_left]
  intro x hx hx'
  simp only [coreSet, Finset.mem_filter, Finset.mem_univ, true_and] at hx hx'
  omega
theorem cores_cover : coreSet 0 ∪ coreSet 1 = Finset.univ := by
  ext x
  simp only [coreSet, Finset.mem_filter, Finset.mem_univ, true_and, Finset.mem_union, iff_true]
  omega

/-! ## One subcore, from what it is handed to what it gives back -/

variable (A : ℕ → F .f32) (Lb : ℕ → BitVec 32)

/-- The scores and labels at share `q`, the rows `I` of the table at `f`. -/
def part (q : PosShare TreeShare) (I : Finset S32x528.Idx) (f : S32x528.Idx → F .f32) : sProp 𝕄 :=
  iprop((xLoc d ↦{q} (flatX A)) ∗ (lLoc d ↦{q} (flatL Lb)) ∗ (oLoc d ↦[I]{fullShare} f))

theorem pts_x (q : PosShare TreeShare) : (xLoc d ↦{q} (flatX A) : sProp 𝕄) = shX d L A q := rfl
theorem pts_l (q : PosShare TreeShare) : (lLoc d ↦{q} (flatL Lb) : sProp 𝕄) = shL d L Lb q := rfl

instance part_storable (q : PosShare TreeShare) (I : Finset S32x528.Idx) (f : S32x528.Idx → F .f32) :
    BI.Storable (upEmb : UEmb _ 𝕄) (part d A Lb q I f) := by
  unfold part; infer_instance

theorem tile_body (hF : (K (F := F)).Facts) (q : PosShare TreeShare) (f : S32x528.Idx → F .f32)
    (O : CellTallies nD τ sig (HIx 1)) (W : Waits sig (HIx 1)) (hO : ∀ g, O g none = 0) :
    iprop(levAts (K (F := F)).L (K (F := F)).lev ∗ emp ∗ part d A Lb q (rowSet (rowN L)) f
        ∗ scopedBufs (thr d L) ∗ scopedSems0 (thr d L) ∗ owes (thr d L) O W)
      ⊢ wp frame (wpE (defs₀ (F := F)) 𝒱₀ (thr d L) none) Set.univ
          (cc0_hist_kernel L xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0)
          fun _ => iprop(part d A Lb q (rowSet (rowN L)) (outF A Lb)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold part
  iintro ⟨#Hlv, -, ⟨Hx, Hl, Ho⟩, ⟨Hb0, Hb1, Hb2, Hb3, ⟨%fh, Hb4⟩, Hbufs⟩, ⟨Hs5, Hs6, Hs7, Hs8, HsC, Hsems⟩, HO⟩
  ihave Hmw := (show levAts (K (F := F)).L (K (F := F)).lev ⊢ Transfers.MayWaits (thr d L) (none : HIx 1) O from
    (K (F := F)).mayWaits_none (thr := thr d L) hO) $$ Hlv
  ihave Hx2 := (halves q (flatX A)).1 $$ Hx
  ihave Hl2 := (halves q (flatL Lb)).1 $$ Hl
  icases Hx2 with ⟨Hx0, Hx1⟩
  icases Hl2 with ⟨Hl0, Hl1⟩
  have run := (kernel_wp d L O W A Lb q.left q.right q.left q.right f)
  unfold Cert.Proof.KernelIdealRun.W at run
  iapply (wp_wand Idealize.ShloMosaic.frame _ _) $$ [Hx0 Hx1 Hl0 Hl1 Ho Hb0 Hb1 Hb2 Hb3 Hb4 Hs5 Hs6 Hs7 Hs8 HsC HO]
  · iapply run
    unfold rest0 rest1 owed
    isplitr; · iexact Hmw
    isplitl [Hx0 Hl0 Hb0 Hb2 Hs5 Hs7]
    · isplitl [Hx0]; · iexact Hx0
      isplitl [Hb0]; · iexact Hb0
      isplitl [Hs5]; · iexact Hs5
      isplitl [Hl0]; · iexact Hl0
      isplitl [Hb2] <;> iassumption
    isplitl [Hx1 Hl1 Hb1 Hb3 Hs6 Hs8]
    · isplitl [Hx1]; · iexact Hx1
      isplitl [Hb1]; · iexact Hb1
      isplitl [Hs6]; · iexact Hs6
      isplitl [Hl1]; · iexact Hl1
      isplitl [Hb3] <;> iassumption
    isplitl [Hb4]; · iexists _; iexact Hb4
    isplitl [HsC]; · iexact HsC
    isplitl [Ho]; · iexact Ho
    iexists W; isplitr
    · ipureintro; exact fun p hp => .inl hp
    · iexact HO
  iintro %_
  unfold left rest0 rest1 owed
  iintro ⟨⟨Hx0, Hb0, Hs5, Hl0, Hb2, Hs7⟩, ⟨Hx1, Hb1, Hs6, Hl1, Hb3, Hs8⟩, ⟨%fh', Hb4⟩, HsC, Ho, HO⟩
  isplitl [Hx0 Hx1 Hl0 Hl1 Ho]
  · isplitl [Hx0 Hx1]
    · iapply (halves q (flatX A)).2
      isplitl [Hx0]; · iexact Hx0
      iexact Hx1
    isplitl [Hl0 Hl1]
    · iapply (halves q (flatL Lb)).2
      isplitl [Hl0]; · iexact Hl0
      iexact Hl1
    iexact Ho
  isplitl [Hb0 Hb1 Hb2 Hb3 Hb4 Hbufs]
  · isplitl [Hb0]; · iexact Hb0
    isplitl [Hb1]; · iexact Hb1
    isplitl [Hb2]; · iexact Hb2
    isplitl [Hb3]; · iexact Hb3
    isplitl [Hb4]; · iexists _; iexact Hb4
    iexact Hbufs
  isplitl [Hs5 Hs6 Hs7 Hs8 HsC Hsems]
  · isplitl [Hs5]; · iexact Hs5
    isplitl [Hs6]; · iexact Hs6
    isplitl [Hs7]; · iexact Hs7
    isplitl [Hs8]; · iexact Hs8
    isplitl [HsC] <;> iassumption
  iexact HO

/-! ## The launch theorem's obligations -/

variable (As : Dev nD → ℕ → F .f32) (Ls : Dev nD → ℕ → BitVec 32) (f₀ : Dev nD → S32x528.Idx → F .f32)

/-- The call's payloads: out with the table at `f₀`, back with it full of histograms. -/
def P : (K (F := F)).Pay (nD := nD) (Val := Elt F) (Name := ℕ) (U := UU) where
  st := fun q d c => match q with | 0 => part d (As d) (Ls d) (coreQ c) (coreSet c.val) (f₀ d)
  dn := fun q d c => match q with | 0 => part d (As d) (Ls d) (coreQ c) (coreSet c.val) (outF (As d) (Ls d))
  go := fun q d c i => match q with | 0 => part d (As d) (Ls d) (tileQ c i) (rowSet (2 * i.val + c.val)) (f₀ d)
  td := fun q d c i => match q with | 0 => part d (As d) (Ls d) (tileQ c i) (rowSet (2 * i.val + c.val)) (outF (As d) (Ls d))
  x := fun _ _ => iprop(emp)

instance P_storable : (P As Ls f₀).IsStorable where
  st q _ _ := match q with | 0 => part_storable _ _ _ _ _ _
  dn q _ _ := match q with | 0 => part_storable _ _ _ _ _ _
  go q _ _ _ := match q with | 0 => part_storable _ _ _ _ _ _
  td q _ _ _ := match q with | 0 => part_storable _ _ _ _ _ _

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_hist_kernel (coordsV c s) xW (Memref.isWhole_whole _) lW (Memref.isWhole_whole _) oW (Memref.isWhole_whole _) xb0 (Memref.isWhole_whole _) xb1 (Memref.isWhole_whole _) lb0 (Memref.isWhole_whole _) lb1 (Memref.isWhole_whole _) hb (Memref.isWhole_whole _) cc0_scratch5 cc0_scratch6 cc0_scratch7 cc0_scratch8 cc0_scoped0) ⟨⟩ c s := rfl

theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 8192 in
theorem tileObl : (K (F := F)).TileObl (D (F := F)) 𝒱 (P As Ls f₀) v₀ 0 := by
  intro d c i O W hO _ _
  simp only [show (P As Ls f₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (As d) (Ls d) facts (tileQ c i) (f₀ d) O W hO).trans (wp_mono frame _ _ fun _ => obl_post)

theorem vecSplit : (K (F := F)).VecSplit' (P As Ls f₀) 0 := by
  intro d c
  show part d (As d) (Ls d) (coreQ c) (coreSet c.val) (f₀ d) ⊢ |={Set.univ}=> iprop(
      (bigSep (Finset.univ : Finset (Fin 16)) fun i => part d (As d) (Ls d) (tileQ c i) (rowSet (2 * i.val + c.val)) (f₀ d))
      ∗ ((bigSep (Finset.univ : Finset (Fin 16)) fun i => part d (As d) (Ls d) (tileQ c i) (rowSet (2 * i.val + c.val)) (outF (As d) (Ls d)))
          -∗ part d (As d) (Ls d) (coreQ c) (coreSet c.val) (outF (As d) (Ls d))))
  have hx := pointsTo_toks (ℓ := xLoc d) (S := Finset.univ) (f := flatX (As d)) (Val := Elt F) (Ix := HIx 1) (Name := ℕ) (U := UU) (Lvl := ℕ) (coreQ c) 16
  have hl := pointsTo_toks (ℓ := lLoc d) (S := Finset.univ) (f := flatL (Ls d)) (Val := Elt F) (Ix := HIx 1) (Name := ℕ) (U := UU) (Lvl := ℕ) (coreQ c) 16
  have ho : ∀ f : Buf (Elt F) (oLoc d), (oLoc d ↦[coreSet c.val]{fullShare} f : sProp 𝕄)
      = bigSep Finset.univ fun i : Fin 16 => oLoc d ↦[rowSet (2 * i.val + c.val)]{fullShare} f := by
    intro f
    rw [← pointsTo_biUnion Finset.univ (ℓ := oLoc d) (fun i : Fin 16 => rowSet (2 * i.val + c.val)) (rows_disjoint c), ← coreSet_eq c]
  unfold part
  rw [bigSep_sep', bigSep_sep', bigSep_sep', bigSep_sep', ho, ho]
  iintro ⟨Hx, Hl, Ho⟩
  ihave Hx' := hx.1 $$ Hx
  ihave Hl' := hl.1 $$ Hl
  icases Hx' with ⟨Hxr, Hx⟩
  icases Hl' with ⟨Hlr, Hl⟩
  imodintro
  isplitl [Hx Hl Ho]
  · isplitl [Hx]; · iexact Hx
    isplitl [Hl]; · iexact Hl
    iexact Ho
  iintro ⟨Hx, Hl, Ho⟩
  isplitl [Hx Hxr]
  · iapply hx.2
    isplitl [Hxr]; · iexact Hxr
    iexact Hx
  isplitl [Hl Hlr]
  · iapply hl.2
    isplitl [Hlr]; · iexact Hlr
    iexact Hl
  iexact Ho

/-- The launch element: the handshakes' rounds, nothing of the kernel's own. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P As Ls f₀).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdealRun

end
-- ==== Proof.ILaunch2.lean ====
/-
  @main on the TensorCore: the scores flattened, the call, and the host's line of operations after it; then the
  program's run, with the result it leaves.
-/
module

public import proofs.«01_k».proof.Proof.ILaunch1
public import Idealize.ShloMosaic.Lib.Pipeline.Frame

@[expose] public section

noncomputable section

namespace Cert.Proof.KernelIdealRun

open Cert.KernelIdeal Cert.KernelIdeal.Gen Cert.Ece

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq seq after)
open Idealize.ShloMosaic.Pipeline (ucRefs unscopedBufs_held sub_ucRefs)
open Idealize.ShloMosaic.Tactic
open Idealize.ShloMosaic.Transfers (shareTok shareDrop pointsTo_toks)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host's operations -/

abbrev opFlat : HloOp τ sig (Elt F) :=
  StableHlo.reshape main_arg0 main_v0 (rfl : (.f32 : EltTy) = .f32) shapeCasts_S2097152x32_S67108864

/-- What @main runs after the call, in order. -/
def tailOps : List (HloOp τ sig (Elt F)) :=
  [ StableHlo.nullary main_cst (constant S_ .f32 0x00000000#32),
    StableHlo.binary main_v1 main_cst main_v2 ((fun x v => Host.reduceAdd x v reducesTo_S32x528_S528_d0 h_S_) : (⟨S32x528, .f32⟩ : BufTy).Contents (Elt F) → (⟨S_, .f32⟩ : BufTy).Contents (Elt F) → (⟨S528, .f32⟩ : BufTy).Contents (Elt F)),
    StableHlo.reshape main_v2 main_v3 (rfl : (.f32 : EltTy) = .f32) shapeCasts_S528_S3x11x16,
    StableHlo.nullary main_cst_0 (constant S_ .f32 0x00000000#32),
    StableHlo.binary main_v3 main_cst_0 main_v4 ((fun x v => Host.reduceAdd x v reducesTo_S3x11x16_S3x11_d2 h_S_) : (⟨S3x11x16, .f32⟩ : BufTy).Contents (Elt F) → (⟨S_, .f32⟩ : BufTy).Contents (Elt F) → (⟨S3x11, .f32⟩ : BufTy).Contents (Elt F)),
    StableHlo.unary main_v4 main_v5 ((extractStridedSlice S1x10 ![0, 0] · slices_S3x11_S1x10_0_0) : (⟨S3x11, .f32⟩ : BufTy).Contents (Elt F) → (⟨S1x10, .f32⟩ : BufTy).Contents (Elt F)),
    StableHlo.reshape main_v5 main_v6 (rfl : (.f32 : EltTy) = .f32) shapeCasts_S1x10_S10,
    StableHlo.unary main_v4 main_v7 ((extractStridedSlice S1x10 ![1, 0] · slices_S3x11_S1x10_1_0) : (⟨S3x11, .f32⟩ : BufTy).Contents (Elt F) → (⟨S1x10, .f32⟩ : BufTy).Contents (Elt F)),
    StableHlo.reshape main_v7 main_v8 (rfl : (.f32 : EltTy) = .f32) shapeCasts_S1x10_S10,
    StableHlo.unary main_v4 main_v9 ((extractStridedSlice S1x10 ![2, 0] · slices_S3x11_S1x10_2_0) : (⟨S3x11, .f32⟩ : BufTy).Contents (Elt F) → (⟨S1x10, .f32⟩ : BufTy).Contents (Elt F)),
    StableHlo.reshape main_v9 main_v10 (rfl : (.f32 : EltTy) = .f32) shapeCasts_S1x10_S10,
    StableHlo.nullary main_cst_1 (constant S_ .f32 0x4A000000#32),
    StableHlo.unary main_cst_1 main_v11 (broadcastInDim S10 ![] bcast_S_S10 : (⟨S_, .f32⟩ : BufTy).Contents (Elt F) → (⟨S10, .f32⟩ : BufTy).Contents (Elt F)),
    StableHlo.binary main_v6 main_v11 main_v12 (Host.divf : (⟨S10, .f32⟩ : BufTy).Contents (Elt F) → (⟨S10, .f32⟩ : BufTy).Contents (Elt F) → (⟨S10, .f32⟩ : BufTy).Contents (Elt F)),
    StableHlo.nullary main_cst_2 (constant S_ .f32 0x3F800000#32),
    StableHlo.unary main_cst_2 main_v13 (broadcastInDim S10 ![] bcast_S_S10 : (⟨S_, .f32⟩ : BufTy).Contents (Elt F) → (⟨S10, .f32⟩ : BufTy).Contents (Elt F)),
    StableHlo.binary main_v6 main_v13 main_v14 (maximumf : (⟨S10, .f32⟩ : BufTy).Contents (Elt F) → (⟨S10, .f32⟩ : BufTy).Contents (Elt F) → (⟨S10, .f32⟩ : BufTy).Contents (Elt F)),
    StableHlo.binary main_v10 main_v14 main_v15 (Host.divf : (⟨S10, .f32⟩ : BufTy).Contents (Elt F) → (⟨S10, .f32⟩ : BufTy).Contents (Elt F) → (⟨S10, .f32⟩ : BufTy).Contents (Elt F)),
    StableHlo.binary main_v8 main_v14 main_v16 (Host.divf : (⟨S10, .f32⟩ : BufTy).Contents (Elt F) → (⟨S10, .f32⟩ : BufTy).Contents (Elt F) → (⟨S10, .f32⟩ : BufTy).Contents (Elt F)),
    StableHlo.binary main_v15 main_v16 main_v17 (subf : (⟨S10, .f32⟩ : BufTy).Contents (Elt F) → (⟨S10, .f32⟩ : BufTy).Contents (Elt F) → (⟨S10, .f32⟩ : BufTy).Contents (Elt F)),
    StableHlo.unary main_v17 main_v18 (Host.absf : (⟨S10, .f32⟩ : BufTy).Contents (Elt F) → (⟨S10, .f32⟩ : BufTy).Contents (Elt F)),
    StableHlo.binary main_v18 main_v12 main_v19 (mulf : (⟨S10, .f32⟩ : BufTy).Contents (Elt F) → (⟨S10, .f32⟩ : BufTy).Contents (Elt F) → (⟨S10, .f32⟩ : BufTy).Contents (Elt F)),
    StableHlo.nullary main_cst_3 (constant S_ .f32 0x00000000#32),
    StableHlo.unary main_cst_3 main_v20 (broadcastInDim S10 ![] bcast_S_S10 : (⟨S_, .f32⟩ : BufTy).Contents (Elt F) → (⟨S10, .f32⟩ : BufTy).Contents (Elt F)),
    StableHlo.binary main_v12 main_v20 main_v21 (cmpf .ogt : (⟨S10, .f32⟩ : BufTy).Contents (Elt F) → (⟨S10, .f32⟩ : BufTy).Contents (Elt F) → (⟨S10, .i1⟩ : BufTy).Contents (Elt F)),
    StableHlo.nullary main_cst_4 (constant S_ .f32 0x00000000#32),
    StableHlo.TRef.unary (.of main_cst_4) main_call0.v0 id,
    StableHlo.TRef.unary main_call0.v0 main_call0.v1 (broadcastInDim S10 ![] bcast_S_S10),
    StableHlo.TRef.ternary (.of main_v21) (.of main_v19) main_call0.v1 main_call0.v2 select,
    StableHlo.nullary main_cst_5 (constant S_ .f32 0x00000000#32),
    StableHlo.binary main_v22 main_cst_5 main_v23 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    StableHlo.reshape main_v23 main_v24 (rfl : (.f32 : EltTy) = .f32) shapeCasts_S_S1 ]

theorem main_eq (d : Dev nD) : main (F := F) d
    = (hlo rfl opFlat (fun _ => .ret (⟨⟩ : PUnit)) >>= fun _ => (K (F := F)).run d 0 >>= fun _ => seq tailOps) := by
  simp only [main, fn_where.body, tailOps, seq, bind_assoc, pure_bind, bind_pure]

theorem tail_sub : (tailOps (F := F)).Forall fun op => op.bufs ⊆ StableHlo.tcRefs τ sig := by
  simp [tailOps, StableHlo.TRef.unary, StableHlo.TRef.ternary]

theorem tail_fresh : ∀ op ∈ tailOps (F := F), op.fresh = ∅ := by
  intro _ h; (repeat (cases h with | head => rfl | tail _ h => ?_)); exact nomatch h

/-! ## The arrays' contents along the way -/

abbrev a' : DevRef τ sig := Proc.devRef .tc (main_arg0 : Ref sig .tc)
abbrev x' : DevRef τ sig := Proc.devRef .tc (main_v0 : Ref sig .tc)
abbrev l' : DevRef τ sig := Proc.devRef .tc (main_arg1 : Ref sig .tc)
abbrev o' : DevRef τ sig := Proc.devRef .tc (main_v1 : Ref sig .tc)
abbrev r' : DevRef τ sig := Proc.devRef .tc (main_v24 : Ref sig .tc)

/-- At launch; with the scores flattened. -/
def V0 (d : Dev nD) : Valuation τ sig (Elt F) := fun b => m (d, b)
def V1 (d : Dev nD) : Valuation τ sig (Elt F) := (opFlat (F := F)).result (V0 m d)

/-- Score `n` of the flat array, and row `n`'s label. -/
def scores (d : Dev nD) (n : ℕ) : F .f32 :=
  (V1 m d x' : S67108864.Idx → F .f32) (fun | 0 => ⟨n % 67108864, Nat.mod_lt _ (by decide)⟩)
def labels (d : Dev nD) (n : ℕ) : BitVec 32 :=
  (V0 m d l' : S2097152.Idx → BitVec 32) (fun | 0 => ⟨n % 2097152, Nat.mod_lt _ (by decide)⟩)

theorem flat_scores (d : Dev nD) : flatX (scores m d) = V1 m d x' := by
  funext j
  refine congrArg (V1 m d x' : S67108864.Idx → F .f32) (funext fun a => ?_)
  match a with
  | 0 => exact Fin.ext (Nat.mod_eq_of_lt (j 0).isLt)
theorem flat_labels (d : Dev nD) : flatL (labels m d) = V0 m d l' := by
  funext j
  refine congrArg (V0 m d l' : S2097152.Idx → BitVec 32) (funext fun a => ?_)
  match a with
  | 0 => exact Fin.ext (Nat.mod_eq_of_lt (j 0).isLt)

/-- The table as the call leaves it. -/
def table (d : Dev nD) : S32x528.Idx → F .f32 := outF (scores m d) (labels m d)
def V2 (d : Dev nD) : Valuation τ sig (Elt F) := Function.update (V1 m d) o' (table m d)
/-- The result. -/
def result (d : Dev nD) : Buf (Elt F) ((d.tc : Thread nD τ).loc main_v24) := after (tailOps (F := F)) (V2 m d) r'

theorem V1_l (d : Dev nD) : V1 m d l' = V0 m d l' :=
  (opFlat (F := F)).result_of_not_mem _ (show l' ∉ ({x'} : Finset (DevRef τ sig)) by decide)
theorem V1_a (d : Dev nD) : V1 m d a' = V0 m d a' :=
  (opFlat (F := F)).result_of_not_mem _ (show a' ∉ ({x'} : Finset (DevRef τ sig)) by decide)
theorem V1_o (d : Dev nD) : V1 m d o' = V0 m d o' :=
  (opFlat (F := F)).result_of_not_mem _ (show o' ∉ ({x'} : Finset (DevRef τ sig)) by decide)

/-- What the call is lent. -/
abbrev S3 : Finset (DevRef τ sig) := {x', l', o'}

theorem held_S3 (d : Dev nD) (W : Valuation τ sig (Elt F)) :
    (held (T d) S3 W : sProp 𝕄) = iprop((xLoc d ↦{fullShare} W x') ∗ (lLoc d ↦{fullShare} W l') ∗ (oLoc d ↦{fullShare} W o')) := by
  unfold held S3
  rw [SparseCore.bigSep_insert' (by decide), SparseCore.bigSep_insert' (by decide), bigSep_singleton]

theorem mem_uc (r : Ref sig .tc) (h : r.isScoped = false) : (Proc.devRef .tc r : DevRef τ sig) ∈ ucRefs τ sig :=
  Finset.mem_filter.mpr ⟨StableHlo.devRef_mem_tcRefs r, by rw [Proc.isScoped_devRef, h]; exact Bool.false_ne_true⟩

theorem S3_sub : S3 ⊆ ucRefs τ sig := by
  intro b hb
  simp only [S3, Finset.mem_insert, Finset.mem_singleton] at hb
  rcases hb with rfl | rfl | rfl
  · exact mem_uc main_v0 rfl
  · exact mem_uc main_arg1 rfl
  · exact mem_uc main_v1 rfl

/-! ## The cores' parts of the arrays -/

theorem cores (d : Dev nD) (A : ℕ → F .f32) (Lb : ℕ → BitVec 32) :
    ∃ R : sProp 𝕄, (∀ f : S32x528.Idx → F .f32,
      (iprop((xLoc d ↦{fullShare} flatX A) ∗ (lLoc d ↦{fullShare} flatL Lb) ∗ (oLoc d ↦{fullShare} f))
        ⊢ iprop(R ∗ bigSep (Finset.univ : Finset (Fin 2)) fun c => part d A Lb (coreQ c) (coreSet c.val) f)))
      ∧ ∀ f : S32x528.Idx → F .f32,
        (iprop(R ∗ bigSep (Finset.univ : Finset (Fin 2)) fun c => part d A Lb (coreQ c) (coreSet c.val) f)
          ⊢ iprop((xLoc d ↦{fullShare} flatX A) ∗ (lLoc d ↦{fullShare} flatL Lb) ∗ (oLoc d ↦{fullShare} f))) := by
  have hx := pointsTo_toks (ℓ := xLoc d) (S := Finset.univ) (f := flatX A) (Val := Elt F) (Ix := HIx 1) (Name := ℕ) (U := UU) (Lvl := ℕ) fullShare 2
  have hl := pointsTo_toks (ℓ := lLoc d) (S := Finset.univ) (f := flatL Lb) (Val := Elt F) (Ix := HIx 1) (Name := ℕ) (U := UU) (Lvl := ℕ) fullShare 2
  have ho : ∀ f : Buf (Elt F) (oLoc d), (oLoc d ↦{fullShare} f : sProp 𝕄)
      = bigSep (Finset.univ : Finset (Fin 2)) fun c => oLoc d ↦[coreSet c.val]{fullShare} f := by
    intro f
    rw [show (Finset.univ : Finset (Fin 2)) = {0, 1} by decide, SparseCore.bigSep_insert' (by decide), bigSep_singleton]
    show _ = iprop((oLoc d ↦[coreSet 0]{fullShare} f) ∗ (oLoc d ↦[coreSet 1]{fullShare} f))
    have h := pointsTo_union (ℓ := oLoc d) (q := fullShare) (f := f) (Val := Elt F) (Ix := HIx 1) (Name := ℕ) (U := UU) (Lvl := ℕ) cores_disjoint
    rw [cores_cover] at h
    exact equiv_iff.mp ⟨h.1, h.2⟩
  refine ⟨iprop((xLoc d ↦{shareDrop fullShare 2} flatX A) ∗ (lLoc d ↦{shareDrop fullShare 2} flatL Lb)), fun f => ?_, fun f => ?_⟩
  · unfold part
    rw [bigSep_sep', bigSep_sep', ho]
    iintro ⟨Hx, Hl, Ho⟩
    ihave Hx' := hx.1 $$ Hx
    ihave Hl' := hl.1 $$ Hl
    icases Hx' with ⟨Hxr, Hx⟩
    icases Hl' with ⟨Hlr, Hl⟩
    isplitl [Hxr Hlr]
    · isplitl [Hxr]; · iexact Hxr
      iexact Hlr
    isplitl [Hx]; · iexact Hx
    isplitl [Hl]; · iexact Hl
    iexact Ho
  · unfold part
    rw [bigSep_sep', bigSep_sep', ho]
    iintro ⟨⟨Hxr, Hlr⟩, Hx, Hl, Ho⟩
    isplitl [Hx Hxr]
    · iapply hx.2
      isplitl [Hxr]; · iexact Hxr
      iexact Hx
    isplitl [Hl Hlr]
    · iapply hl.2
      isplitl [Hlr]; · iexact Hlr
      iexact Hl
    iexact Ho

/-! ## @main -/

abbrev PM : (K (F := F)).Pay (nD := nD) (Val := Elt F) (Name := ℕ) (U := UU) := P (scores m) (labels m) fun d => V0 m d o'

/-- What @main leaves the claim: the arguments at their launch contents, the result. -/
abbrev FIN (d : Dev nD) : sProp 𝕄 :=
  iprop(((d, a') ↦{fullShare} V0 m d a') ∗ ((d, l') ↦{fullShare} V0 m d l') ∗ ((d, r') ↦{fullShare} result m d))

/-- What the tail writes. -/
def written : List (Ref sig .tc) := [main_cst, main_v2, main_v3, main_cst_0, main_v4, main_v5, main_v6, main_v7, main_v8, main_v9, main_v10, main_cst_1, main_v11, main_v12, main_cst_2, main_v13, main_v14, main_v15, main_v16, main_v17, main_v18, main_v19, main_cst_3, main_v20, main_v21, main_cst_4, main_call0_v0, main_call0_v1, main_v22, main_cst_5, main_v23, main_v24]
theorem tail_writes : (tailOps (F := F)).Forall fun op => op.writes ⊆ (written.map (Proc.devRef (τ := τ) .tc)).toFinset :=
  StableHlo.forall_writes_sub_of_map rfl

theorem end_a (d : Dev nD) : after (tailOps (F := F)) (V2 m d) a' = V0 m d a' := by
  refine (StableHlo.after_of_writes_sub _ _ tail_writes (by decide)).trans ?_
  · exact (Function.update_of_ne (show a' ≠ o' by decide) _ _).trans (V1_a m d)
theorem end_l (d : Dev nD) : after (tailOps (F := F)) (V2 m d) l' = V0 m d l' := by
  refine (StableHlo.after_of_writes_sub _ _ tail_writes (by decide)).trans ?_
  · exact (Function.update_of_ne (show l' ≠ o' by decide) _ _).trans (V1_l m d)

/-- What the claim keeps. -/
abbrev S4 : Finset (DevRef τ sig) := {a', l', r'}
theorem S4_sub : S4 ⊆ ucRefs τ sig := by
  intro b hb
  simp only [S4, Finset.mem_insert, Finset.mem_singleton] at hb
  rcases hb with rfl | rfl | rfl
  · exact mem_uc main_arg0 rfl
  · exact mem_uc main_arg1 rfl
  · exact mem_uc main_v24 rfl
theorem held_S4 (d : Dev nD) : (held (T d) S4 (after (tailOps (F := F)) (V2 m d)) : sProp 𝕄) = FIN m d := by
  unfold held S4 FIN
  rw [SparseCore.bigSep_insert' (by decide), SparseCore.bigSep_insert' (by decide), bigSep_singleton, end_a, end_l]
  rfl

theorem held_V1 (d : Dev nD) : (held (T d) S3 (V1 m d) : sProp 𝕄)
    = iprop((xLoc d ↦{fullShare} flatX (scores m d)) ∗ (lLoc d ↦{fullShare} flatL (labels m d)) ∗ (oLoc d ↦{fullShare} V0 m d o')) := by
  rw [held_S3, flat_scores, flat_labels, V1_l, V1_o]
theorem held_V2 (d : Dev nD) : (held (T d) S3 (V2 m d) : sProp 𝕄)
    = iprop((xLoc d ↦{fullShare} flatX (scores m d)) ∗ (lLoc d ↦{fullShare} flatL (labels m d)) ∗ (oLoc d ↦{fullShare} outF (scores m d) (labels m d))) := by
  rw [held_S3, flat_scores, flat_labels]
  unfold V2
  rw [Function.update_self, Function.update_of_ne (show x' ≠ o' by decide), Function.update_of_ne (show l' ≠ o' by decide), V1_l]
  rfl
theorem held_rest (d : Dev nD) : (held (T d) (ucRefs τ sig \ S3) (V1 m d) : sProp 𝕄) = held (T d) (ucRefs τ sig \ S3) (V2 m d) := by
  refine held_congr _ fun b hb => ?_
  refine (Function.update_of_ne ?_ _ _).symm
  rintro rfl
  exact (Finset.mem_sdiff.mp hb).2 (by simp [S3])

theorem hmain (κ : GSem nD τ sig → ℕ) (d : Dev nD) :
    iprop((K (F := F)).ctx (EH (F := F)) (PM m) κ ∗ (K (F := F)).tcSt (EH (F := F)) d 0 ∗ (K (F := F)).tcRes m ρ d ∗ emp)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  obtain ⟨R, hout, hback⟩ := cores d (scores m d) (labels m d)
  unfold SparseCore.Cfg.tcRes SparseCore.Cfg.tcEnd
  rw [show (unscopedBufs d (fun b => m ((SparseCore.T d).loc b)) : sProp 𝕄) = held (T d) (ucRefs τ sig) (V0 m d) from
    unscopedBufs_held d (V0 m d), main_eq]
  simp only [wp_bind]
  iintro ⟨#Hctx, Hst, ⟨Hb, Hheld, Hts, -⟩, -⟩
  iapply (wp_hlo_within 𝒱 (SparseCore.T d) none Set.univ (op := opFlat) (S := ucRefs τ sig)
    (sub_ucRefs _ (by simp [opFlat])) (V := V0 m d)) $$ [Hb Hheld]
  · isplitl [Hb] <;> iassumption
  iintro ⟨Hb, Hheld⟩
  ihave Hh := (show (held (T d) (ucRefs τ sig) ((opFlat (F := F)).result (V0 m d)) : sProp 𝕄) ⊢ _ from Entails.of_eq (held_sub_split (T d) S3_sub (V1 m d))) $$ Hheld
  icases Hh with ⟨H3, Hrest⟩
  ihave H3' := ((Entails.of_eq (held_V1 m d)).trans (hout (V0 m d o'))) $$ H3
  icases H3' with ⟨HR, Hcores⟩
  rw [wp_ret]; imodintro
  iapply ((K (F := F)).wp_run (D (F := F)) 𝒱 (EH := EH (F := F)) (P := PM m) κ d 0) $$ [Hst Hcores HR Hrest Hb Hts]
  isplitr; · iexact Hctx
  isplitl [Hst]; · iexact Hst
  isplitl [Hcores]; · iexact Hcores
  iintro ⟨Hst, Hdn⟩
  ihave H3 := ((hback (outF (scores m d) (labels m d))).trans (Entails.of_eq (held_V2 m d).symm)) $$ [HR Hdn]
  · isplitl [HR]; · iexact HR
    iexact Hdn
  ihave Hrest' := (Entails.of_eq (held_rest m d)) $$ Hrest
  ihave Hheld := (Entails.of_eq (held_sub_split (T d) S3_sub (V2 m d)).symm) $$ [H3 Hrest']
  · isplitl [H3] <;> iassumption
  rw [show (seq (tailOps (F := F)) : Prog (TpuEff nD τ sig (Elt F) _ .tc) PUnit) = seq tailOps >>= fun u => pure u from (bind_pure _).symm]
  iapply (wp_seq 𝒱 none Set.univ d (ucRefs τ sig) (fun u => pure u) tailOps
    (fun op h => sub_ucRefs op ((List.forall_iff_forall_mem.mp tail_sub) op h)) tail_fresh (V2 m d)) $$ [Hb Hheld]
  · isplitl [Hb]; · iexact Hb
    iexact Hheld
  iintro ⟨Hb, Hheld⟩
  ihave Hh := (Entails.of_eq ((held_sub_split (T d) S4_sub (after (tailOps (F := F)) (V2 m d))).trans (congrArg (fun R => iprop(R ∗ _)) (held_S4 m d)))) $$ Hheld
  icases Hh with ⟨HF, -⟩
  rw [Prog.pure_eq_ret, wp_ret]; imodintro
  isplitl [Hst]; · iexact Hst
  isplitl [HF]; · iexact HF
  isplitl [Hb] <;> iassumption

/-! ## The run -/

def fq (d : Dev nD) (s' : Phys nD τ sig (Elt F)) : Prop :=
  s'.mem.mem (d, a') = m (d, a') ∧ s'.mem.mem (d, l') = m (d, l') ∧ s'.mem.mem (d, r') = result m d

theorem agree (s' : Phys nD τ sig (Elt F)) (ℓ : Loc nD τ sig) (f : Buf (Elt F) ℓ) :
    iprop((ℓ ↦{fullShare} f) ∗ SI s') ⊢ (iprop(⌜s'.mem.mem ℓ = f⌝) : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h1 : iprop(FIN m d ∗ SI s') ⊢ (iprop(⌜s'.mem.mem (d, a') = m (d, a')⌝) : sProp 𝕄) := by
    refine BIBase.Entails.trans ?_ (agree s' (d, a') (m (d, a')))
    iintro ⟨⟨H, -, -⟩, HS⟩
    isplitl [H]; · iexact H
    iexact HS
  have h2 : iprop(FIN m d ∗ SI s') ⊢ (iprop(⌜s'.mem.mem (d, l') = m (d, l')⌝) : sProp 𝕄) := by
    refine BIBase.Entails.trans ?_ (agree s' (d, l') (m (d, l')))
    iintro ⟨⟨-, H, -⟩, HS⟩
    isplitl [H]; · iexact H
    iexact HS
  have h3 : iprop(FIN m d ∗ SI s') ⊢ (iprop(⌜s'.mem.mem (d, r') = result m d⌝) : sProp 𝕄) := by
    refine BIBase.Entails.trans ?_ (agree s' (d, r') (result m d))
    iintro ⟨⟨-, -, H⟩, HS⟩
    isplitl [H]; · iexact H
    iexact HS
  refine (BI.Laws.and_intro h1 (BI.Laws.and_intro h2 h3)).trans ?_
  iintro ⟨%e1, %e2, %e3⟩
  ipureintro; exact ⟨e1, e2, e3⟩

def QC : PUnit × MemSt nD τ sig (Elt F) → Prop := fun r =>
  (∀ c : Dev nD, r.2.mem (c, a') = m (c, a') ∧ r.2.mem (c, l') = m (c, l') ∧ r.2.mem (c, r') = result m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH (F := F)) (P := PM m) (A := ∅) facts v₀
    (fun q hq => match q with | 0 => nomatch hq)
    (fun q _ => match q with | 0 => tileObl _ _ _)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end Cert.Proof.KernelIdealRun

end
-- ==== Proof.KernelTail.lean ====
/-
  What the kernel's host code makes of the table its workers leave: the columns summed, each section's bin summed over
  its lanes, and the ten bins' contributions added up.
-/
module

public import proofs.«01_k».proof.Proof.ILaunch2

@[expose] public section

noncomputable section

namespace Cert.Proof.KernelIdealRun

open Cert.KernelIdeal Cert.KernelIdeal.Gen Cert.Ece

open Idealize.ShloMosaic Idealize.ShloMosaic.Tactic
open Idealize.SL.Sem
open Idealize.ShloMosaic.StableHlo (seq after)

variable {F : FTy → Type} [FloatOps F] [Named F]

/-- A bin of a section, summed over the workers and the lanes. -/
def sums (T : S32x528.Idx → F .f32) : S3x11.Idx → F .f32 :=
  Host.reduceAdd (shapeCast S3x11x16 (Host.reduceAdd T (constant S_ .f32 0x00000000#32) reducesTo_S32x528_S528_d0 h_S_ : S528.Idx → F .f32) shapeCasts_S528_S3x11x16)
    (constant S_ .f32 0x00000000#32) reducesTo_S3x11x16_S3x11_d2 h_S_

/-- The ten bins of one section. -/
def sect {q : ℕ} (h : S3x11.Slices ![q, 0] S1x10) (T : S32x528.Idx → F .f32) : S10.Idx → F .f32 :=
  shapeCast S10 (extractStridedSlice S1x10 ![q, 0] (sums T) h) shapeCasts_S1x10_S10

/-- The share of the rows in each bin. -/
def share (n : S10.Idx → F .f32) : S10.Idx → F .f32 :=
  Host.divf n (broadcastInDim S10 ![] bcast_S_S10 (constant S_ .f32 0x4A000000#32))

/-- A sum over each bin's rows, divided by their number. -/
def avg (x n : S10.Idx → F .f32) : S10.Idx → F .f32 :=
  Host.divf x (maximumf n (broadcastInDim S10 ![] bcast_S_S10 (constant S_ .f32 0x3F800000#32)))

/-- Each bin's contribution. -/
def contribs (n a c : S10.Idx → F .f32) : S10.Idx → F .f32 :=
  select (cmpf .ogt (share n) (broadcastInDim S10 ![] bcast_S_S10 (constant S_ .f32 0x00000000#32)))
    (mulf (Host.absf (subf (avg c n) (avg a n))) (share n))
    (broadcastInDim S10 ![] bcast_S_S10 (constant S_ .f32 0x00000000#32))

theorem tail_result (V : Valuation τ sig (Elt F)) : after (tailOps (F := F)) V r'
    = (shapeCast S1 (Host.reduceAdd (contribs (sect slices_S3x11_S1x10_0_0 (V o')) (sect slices_S3x11_S1x10_1_0 (V o')) (sect slices_S3x11_S1x10_2_0 (V o')))
        (constant S_ .f32 0x00000000#32) reducesTo_S10_S_d0 h_S_ : S_.Idx → F .f32) shapeCasts_S_S1 : S1.Idx → F .f32) := by
  unfold tailOps
  after_results_simp
  rfl

end Cert.Proof.KernelIdealRun

end
-- ==== Proof.RowIdeal.lean ====
/-
  One row over the extended reals: the running maximum and its column are the best pair of the row (greatest score, then
  least column), and so is what the reference's maximum and arg-max reductions leave, whatever order they fold in.
-/
module

public import proofs.«01_k».proof.Proof.Rows
public import proofs.«01_k».proof.Proof.Gen.ReferenceIdeal
public import Idealize.ShloMosaic.PureOps.Reduce
public import Idealize.ShloMosaic.PureOps.Ideal.Laws
public import Idealize.ShloMosaic.Lib.Tactic

@[expose] public section

noncomputable section

namespace Cert.Ece

open Idealize.ShloMosaic

/-! ## The best pair -/

/-- `q` is no better than `p`: it has a smaller score, or the same score at no smaller a column. -/
def Le (q p : EReal × BitVec 32) : Prop := q.1 < p.1 ∨ (q.1 = p.1 ∧ p.2.toInt ≤ q.2.toInt)

theorem Le.refl (p : EReal × BitVec 32) : Le p p := .inr ⟨rfl, le_rfl⟩

theorem Le.trans {p q r : EReal × BitVec 32} (h : Le p q) (h' : Le q r) : Le p r := by
  rcases h with h | ⟨h, k⟩ <;> rcases h' with h' | ⟨h', k'⟩
  · exact .inl (h.trans h')
  · exact .inl (h' ▸ h)
  · exact .inl (h ▸ h')
  · exact .inr ⟨h.trans h', k'.trans k⟩

theorem Le.antisymm {p q : EReal × BitVec 32} (h : Le p q) (h' : Le q p) : p = q := by
  rcases h with h | ⟨h, k⟩ <;> rcases h' with h' | ⟨h', k'⟩
  · exact absurd h' (not_lt.2 h.le)
  · exact absurd h (by rw [h']; exact lt_irrefl _)
  · exact absurd h' (by rw [h]; exact lt_irrefl _)
  · exact Prod.ext h (BitVec.eq_of_toInt_eq (le_antisymm k' k))

/-- A step that keeps one of its two pairs, neither better than the one kept. -/
def Keeps (f : EReal × BitVec 32 → EReal × BitVec 32 → EReal × BitVec 32) : Prop :=
  ∀ a b, (f a b = a ∨ f a b = b) ∧ Le a (f a b) ∧ Le b (f a b)

theorem Keeps.foldl {f : EReal × BitVec 32 → EReal × BitVec 32 → EReal × BitVec 32} (hf : Keeps f)
    (l : List (EReal × BitVec 32)) (a : EReal × BitVec 32) :
    (l.foldl f a = a ∨ l.foldl f a ∈ l) ∧ Le a (l.foldl f a) ∧ ∀ q ∈ l, Le q (l.foldl f a) := by
  induction l generalizing a with
  | nil => exact ⟨.inl rfl, Le.refl _, fun _ h => absurd h List.not_mem_nil⟩
  | cons b l ih =>
    obtain ⟨h1, h2, h3⟩ := ih (f a b)
    obtain ⟨k1, k2, k3⟩ := hf a b
    rw [List.foldl_cons]
    refine ⟨?_, k2.trans h2, fun q hq => ?_⟩
    · rcases h1 with h1 | h1
      · rw [h1]
        rcases k1 with k1 | k1
        · exact .inl k1
        · rw [k1]; exact .inr List.mem_cons_self
      · exact .inr (List.mem_cons_of_mem _ h1)
    · rcases List.mem_cons.1 hq with rfl | hq
      · exact k3.trans h2
      · exact h3 q hq

/-! ## The kernel's running maximum -/

theorem select_ogt (a b : EReal) {α : Type} (x y : α) :
    Scalar.select (FloatOps.cmpf (F := Ideal) (φ := .f32) .ogt a b) x y = if b < a then x else y := by
  rw [Ideal.cmpf_def]
  by_cases h : b < a <;> simp [Ideal.cmp, Scalar.select, h]

/-- The pair the kernel keeps is one of the row's, and the row has no better one. -/
theorem mx_pr (a : ℕ → EReal) (n : ℕ) :
    ∃ i ≤ n, mx (F := Ideal) a n = a i ∧ pr (F := Ideal) a n = BitVec.ofNat 32 i ∧ ∀ j ≤ n, a j < a i ∨ (a j = a i ∧ i ≤ j) := by
  induction n with
  | zero => exact ⟨0, le_rfl, rfl, rfl, fun j hj => .inr ⟨by rw [Nat.le_zero.1 hj], Nat.zero_le _⟩⟩
  | succ n ih =>
    obtain ⟨i, hi, hm, hp, hb⟩ := ih
    by_cases h : mx (F := Ideal) a n < a (n + 1)
    · refine ⟨n + 1, le_rfl, ?_, ?_, fun j hj => ?_⟩
      · simp only [mx]; rw [select_ogt, if_pos h]
      · simp only [pr]; rw [select_ogt, if_pos h]
      · rcases Nat.lt_or_ge j (n + 1) with hj' | hj'
        · left
          rw [hm] at h
          rcases hb j (Nat.lt_succ_iff.1 hj') with hb | ⟨hb, -⟩
          · exact hb.trans h
          · rw [hb]; exact h
        · exact .inr ⟨by rw [le_antisymm hj hj'], hj'⟩
    · refine ⟨i, hi.trans (Nat.le_succ n), ?_, ?_, fun j hj => ?_⟩
      · simp only [mx]; rw [select_ogt, if_neg h, hm]
      · simp only [pr]; rw [select_ogt, if_neg h, hp]
      · rcases Nat.lt_or_ge j (n + 1) with hj' | hj'
        · exact hb j (Nat.lt_succ_iff.1 hj')
        · obtain rfl : j = n + 1 := le_antisymm hj hj'
          rw [hm] at h
          rcases lt_or_eq_of_le (not_lt.1 h) with h | h
          · exact .inl h
          · exact .inr ⟨h, hi.trans (Nat.le_succ n)⟩

theorem toInt_col (i : ℕ) (hi : i < 2 ^ 31) : (BitVec.ofNat 32 i).toInt = i := by
  rw [BitVec.toInt_eq_toNat_cond, BitVec.toNat_ofNat, Nat.mod_eq_of_lt (by omega), if_pos (by omega)]

/-- The kernel's pair, among the row's 32 pairs. -/
theorem mx_pr_best (a : ℕ → EReal) :
    (∃ i < 32, (mx (F := Ideal) a 31, pr (F := Ideal) a 31) = (a i, BitVec.ofNat 32 i))
      ∧ ∀ j < 32, Le (a j, BitVec.ofNat 32 j) (mx (F := Ideal) a 31, pr (F := Ideal) a 31) := by
  obtain ⟨i, hi, hm, hp, hb⟩ := mx_pr a 31
  refine ⟨⟨i, by omega, by rw [hm, hp]⟩, fun j hj => ?_⟩
  rw [hm, hp]
  rcases hb j (by omega) with hb | ⟨hb, hij⟩
  · exact .inl hb
  · exact .inr ⟨hb, by rw [toInt_col i (by omega), toInt_col j (by omega)]; exact_mod_cast hij⟩

/-! ## The reference's two reductions -/

section Ref
open Cert.ReferenceIdeal Cert.ReferenceIdeal.Gen

theorem select_ofBool {α : Type} (b : Bool) (x y : α) : Scalar.select (BitVec.ofBool b) x y = if b then x else y := by
  cases b <;> rfl

theorem keeps_reducer : Keeps (reducer_argmax_f32_i32 (F := Ideal)) := by
  intro a b
  have e : reducer_argmax_f32_i32 (F := Ideal) a b
      = (if b.1 < a.1 then a.1 else b.1, if b.1 < a.1 ∨ (a.1 = b.1 ∧ a.2.toInt < b.2.toInt) then a.2 else b.2) := by
    unfold reducer_argmax_f32_i32
    by_cases h1 : b.1 < a.1 <;> by_cases h2 : a.1 = b.1 <;> by_cases h3 : a.2.toInt < b.2.toInt <;>
      simp [Ideal.cmpf_def, Ideal.cmp, IntOp.ori, IntOp.andi, IntOp.cmpi, Scalar.select, BitVec.slt, h1, h2, h3]
  rw [e]
  by_cases h1 : b.1 < a.1
  · rw [if_pos h1, if_pos (.inl h1)]
    exact ⟨.inl rfl, Le.refl _, .inl h1⟩
  · rw [if_neg h1]
    by_cases h2 : a.1 = b.1 ∧ a.2.toInt < b.2.toInt
    · rw [if_pos (.inr h2), ← h2.1]
      exact ⟨.inl rfl, Le.refl _, .inr ⟨h2.1.symm, h2.2.le⟩⟩
    · rw [if_neg (by tauto)]
      refine ⟨.inr rfl, ?_, Le.refl _⟩
      rcases lt_or_eq_of_le (not_lt.1 h1) with h | h
      · exact .inl h
      · exact .inr ⟨h, not_lt.1 fun k => h2 ⟨h, k⟩⟩

/-- Row `r`, column `c` of the scores. -/
def at2 (r c : ℕ) : S2097152x32.Idx
  | 0 => ⟨r % 2097152, Nat.mod_lt _ (by decide)⟩
  | 1 => ⟨c % 32, Nat.mod_lt _ (by decide)⟩

/-- Row `r` of the scores. -/
def rowAt (X : S2097152x32.Idx → EReal) (r : ℕ) : ℕ → EReal := fun c => X (at2 r c)

theorem at2_eq (i : S2097152x32.Idx) : at2 (i 0).val (i 1).val = i := by
  funext a
  match a with
  | 0 => exact Fin.ext (Nat.mod_eq_of_lt (i 0).isLt)
  | 1 => exact Fin.ext (Nat.mod_eq_of_lt (i 1).isLt)

theorem drop_at2 (h : S2097152x32.ReducesTo [1] S2097152) (j : S2097152.Idx) (i : S2097152x32.Idx) :
    h.drop i = j ↔ (i 0).val = (j 0).val := by
  have e : (h.drop i 0 : Nat) = i 0 := h.drop_apply_val_of_eq i 0 0
  constructor
  · rintro rfl; exact e.symm
  · intro k; funext b
    match b with
    | 0 => exact Fin.ext (e.trans k)

theorem mem_fiber (h : S2097152x32.ReducesTo [1] S2097152) (X : S2097152x32.Idx → EReal) (j : S2097152.Idx) (p : EReal × BitVec 32) :
    p ∈ Host.argReduceFiber X (iotaInDim S2097152x32 32 1) h j ↔ ∃ c < 32, p = (rowAt X (j 0).val c, BitVec.ofNat 32 c) := by
  unfold Host.argReduceFiber
  simp only [List.mem_map, List.mem_filter, List.mem_finRange, true_and, decide_eq_true_eq]
  constructor
  · rintro ⟨n, hn, rfl⟩
    refine ⟨(S2097152x32.rowMajor.symm n 1).val, (S2097152x32.rowMajor.symm n 1).isLt, ?_⟩
    rw [drop_at2] at hn
    unfold rowAt; rw [← hn, at2_eq]; rfl
  · rintro ⟨c, hc, rfl⟩
    refine ⟨S2097152x32.rowMajor (at2 (j 0).val c), ?_, ?_⟩
    · rw [Equiv.symm_apply_apply, drop_at2]; exact Nat.mod_eq_of_lt (j 0).isLt
    · rw [Equiv.symm_apply_apply]
      exact Prod.ext rfl (congrArg (BitVec.ofNat 32) (Nat.mod_eq_of_lt hc))

/-- The arg-max reduction leaves the kernel's pair. -/
theorem argmax_eq (h : S2097152x32.ReducesTo [1] S2097152) (hu : 0 < S_.numel) (X : S2097152x32.Idx → EReal) (j : S2097152.Idx)
    (u : S_.Idx → EReal) (v : S_.Idx → BitVec 32) (hu0 : ∀ i, u i = ⊥) (hv0 : ∀ i, v i = 0#32) :
    Host.argReduce (F := Ideal) (φ := .f32) (reducer_argmax_f32_i32 (F := Ideal)) X (iotaInDim S2097152x32 32 1) u v h hu j
      = (mx (F := Ideal) (rowAt X (j 0).val) 31, pr (F := Ideal) (rowAt X (j 0).val) 31) := by
  rw [Ideal.argReduce_eq_reduce2, Host.reduce2_eq_foldl_fiber, hu0, hv0]
  obtain ⟨h1, h2, h3⟩ := keeps_reducer.foldl (Host.argReduceFiber X (iotaInDim S2097152x32 32 1) h j) (⊥, 0#32)
  obtain ⟨⟨i, hi, e⟩, hb⟩ := mx_pr_best (rowAt X (j 0).val)
  refine Le.antisymm ?_ (h3 _ ((mem_fiber h X j _).2 ⟨i, hi, e⟩))
  rcases h1 with h1 | h1
  · rw [h1]
    refine Le.trans ?_ (hb 0 (by omega))
    rcases eq_or_lt_of_le (bot_le : (⊥ : EReal) ≤ rowAt X (j 0).val 0) with h | h
    · exact .inr ⟨h, le_rfl⟩
    · exact .inl h
  · obtain ⟨c, hc, e'⟩ := (mem_fiber h X j _).1 h1
    rw [e']; exact hb c hc

/-- The maximum reduction leaves the kernel's maximum. -/
theorem max_eq (h : S2097152x32.ReducesTo [1] S2097152) (hu : 0 < S_.numel) (X : S2097152x32.Idx → EReal) (j : S2097152.Idx)
    (u : S_.Idx → EReal) (hu0 : ∀ i, u i = ⊥) :
    Host.reduce (FloatOps.maximumf (F := Ideal) (φ := .f32)) X u h hu j = mx (F := Ideal) (rowAt X (j 0).val) 31 := by
  rw [Host.reduce_eq_fold, hu0]
  obtain ⟨⟨i, hi, e⟩, hb⟩ := mx_pr_best (rowAt X (j 0).val)
  refine le_antisymm ?_ ?_
  · refine (Finset.fold_max_le (f := X) (s := Finset.univ.filter fun i => h.drop i = j) (b := ⊥) _).2 ⟨bot_le, fun k hk => ?_⟩
    have hk' := (drop_at2 h j k).1 (Finset.mem_filter.1 hk).2
    have := hb (k 1).val (k 1).isLt
    unfold rowAt at this
    rw [← hk', at2_eq] at this
    rw [← hk']
    rcases this with h | h
    · exact h.le
    · exact h.1.le
  · refine (Finset.le_fold_max (f := X) (s := Finset.univ.filter fun i => h.drop i = j) (b := ⊥) _).2 (.inr ⟨at2 (j 0).val i, ?_, ?_⟩)
    · rw [Finset.mem_filter, drop_at2]; exact ⟨Finset.mem_univ _, Nat.mod_eq_of_lt (j 0).isLt⟩
    · exact (Prod.ext_iff.1 e).1.le

end Ref

end Cert.Ece

end
-- ==== Proof.HistSum.lean ====
/-
  The kernel's histogram over the extended reals: a slot is the sum of its section's terms over the rows of its lane whose
  bin is the slot's; added up over the lanes and the workers, over all rows. And the bin of a score that is at most 1: bin
  `k` holds the scores above `k / 10` and at most `(k + 1) / 10`.
-/
module

public import proofs.«01_k».proof.Proof.RowIdeal
public import Mathlib.Algebra.BigOperators.Intervals

@[expose] public section

noncomputable section

namespace Cert.Ece

open Idealize.ShloMosaic
open scoped BigOperators

variable (bd : ℕ → EReal) (A : ℕ → EReal) (Lb : ℕ → BitVec 32)

/-- What row `ρ` adds to section `q`, bin `k`. -/
def part (q k ρ : ℕ) : EReal :=
  if (bin (F := Ideal) bd (conf (F := Ideal) A ρ)).toNat = k then term (F := Ideal) A Lb ρ q else 0

theorem hist_sum (r n q k l : ℕ) (hk : k < 11) (hl : l < 16) :
    hist (F := Ideal) bd A Lb r n (q * 176 + k * 16 + l) = ∑ g ∈ Finset.range n, part bd A Lb q k (r + 16 * g + l) := by
  induction n with
  | zero => exact Ideal.ofBits_zero_f32
  | succ n ih =>
    rw [Finset.sum_range_succ, ← ih]
    have h1 : (q * 176 + k * 16 + l) % 16 = l := by omega
    have h2 : (q * 176 + k * 16 + l) % 176 = k * 16 + l := by omega
    have h3 : (q * 176 + k * 16 + l) / 176 = q := by omega
    simp only [hist, step, h1, h2, h3, part]
    by_cases hb : (bin (F := Ideal) bd (conf (F := Ideal) A (r + 16 * n + l))).toNat = k
    · rw [if_pos (by rw [hb]), if_pos hb]; rfl
    · rw [if_neg (by omega), if_neg hb, add_zero]

theorem sum_range_mul {M : Type} [AddCommMonoid M] (f : ℕ → M) (a b : ℕ) :
    ∑ n ∈ Finset.range (a * b), f n = ∑ i ∈ Finset.range a, ∑ j ∈ Finset.range b, f (b * i + j) := by
  induction a with
  | zero => simp
  | succ a ih => rw [Nat.succ_mul, Finset.sum_range_add, ih, Finset.sum_range_succ, Nat.mul_comm a b]

/-- The slots of section `q`, bin `k`, of all workers and lanes: the sum over all rows. -/
theorem total (q k : ℕ) (hk : k < 11) :
    ∑ l ∈ Finset.range 16, ∑ w ∈ Finset.range 32, hist (F := Ideal) bd A Lb (65536 * w) 4096 (q * 176 + k * 16 + l)
      = ∑ n ∈ Finset.range 2097152, part bd A Lb q k n := by
  have e : ∑ n ∈ Finset.range 2097152, part bd A Lb q k n
      = ∑ w ∈ Finset.range 32, ∑ g ∈ Finset.range 4096, ∑ l ∈ Finset.range 16, part bd A Lb q k (65536 * w + (16 * g + l)) := by
    rw [show 2097152 = 32 * 65536 by norm_num, sum_range_mul]
    refine Finset.sum_congr rfl fun w _ => ?_
    rw [show 65536 = 4096 * 16 by norm_num, sum_range_mul]
  rw [e, Finset.sum_comm]
  refine Finset.sum_congr rfl fun w _ => ?_
  rw [Finset.sum_comm]
  refine Finset.sum_congr rfl fun l hl => ?_
  rw [hist_sum bd A Lb _ _ q k l hk (Finset.mem_range.1 hl)]
  exact Finset.sum_congr rfl fun g _ => by rw [Nat.add_assoc]

/-! ## The bin -/

theorem cmp_ogt (a b : EReal) : (FloatOps.cmpf (F := Ideal) (φ := .f32) .ogt a b = 1) ↔ b < a := by
  rw [Ideal.cmpf_def]
  by_cases h : b < a <;> simp [Ideal.cmp, h]

theorem hits_iff (s : EReal) (hm : ∀ i j, i ≤ j → bd i ≤ bd j) (n : ℕ) :
    ∀ i < n, bd i < s ↔ i < hits (F := Ideal) bd s n := by
  induction n with
  | zero => exact fun i hi => absurd hi (Nat.not_lt_zero i)
  | succ n ih =>
    have hle := hits_le (F := Ideal) bd s n
    intro i hi
    simp only [hits, cmp_ogt]
    by_cases h : bd n < s
    · have hn : hits (F := Ideal) bd s n = n := by
        by_contra hne
        have hlt : hits (F := Ideal) bd s n < n := by omega
        exact lt_irrefl _ ((ih _ hlt).1 (lt_of_le_of_lt (hm _ _ hlt.le) h))
      rw [if_pos h, hn]
      exact ⟨fun _ => by omega, fun _ => lt_of_le_of_lt (hm _ _ (by omega)) h⟩
    · rw [if_neg h, Nat.add_zero]
      rcases Nat.lt_or_ge i n with hi' | hi'
      · exact ih i hi'
      · obtain rfl : i = n := by omega
        exact ⟨fun k => absurd k h, fun k => by omega⟩

/-- The bin of a score that is at most 1. -/
theorem bin_iff (s : EReal) (hm : ∀ i j, i ≤ j → bd i ≤ bd j) (hs : s ≤ 1) (hi : ℕ → EReal)
    (h9 : hi 9 = 1) (hhi : ∀ k < 9, hi k = bd (k + 1)) (k : ℕ) (hk : k < 10) :
    (bin (F := Ideal) bd s).toNat = k ↔ bd k < s ∧ s ≤ hi k := by
  have hle := hits_le (F := Ideal) bd s 10
  have h := hits_iff bd s hm 10
  rw [bin_toNat, h k hk]
  rcases Nat.lt_or_ge k 9 with hk' | hk'
  · rw [hhi k hk', ← not_lt, h (k + 1) (by omega)]
    split <;> omega
  · obtain rfl : k = 9 := by omega
    rw [h9]
    constructor
    · intro e; refine ⟨?_, hs⟩; split at e <;> omega
    · rintro ⟨e, -⟩; split <;> omega

end Cert.Ece

end
-- ==== Proof.RefOps.lean ====
/-
  The reference's operations in order: what comes before the bins (the bin bounds, each row's largest score, whether
  its label is where that score is), then the ten bins' stretches.
-/
module

public import Idealize.ShloMosaic.Lib.StableHlo.Run
public import Idealize.ShloMosaic.Lib.Tactic
public import proofs.«01_k».proof.Proof.Gen.ReferenceIdeal

@[expose] public section

noncomputable section

namespace Cert.Proof.Ref

open Cert.ReferenceIdeal Cert.ReferenceIdeal.Gen

open Idealize.ShloMosaic Idealize.SL.Sem
open Idealize.ShloMosaic.StableHlo (seq after seq_append)

variable {F : FTy → Type} [FloatOps F]

def pre : List (HloOp τ sig (Elt F)) :=
  [ StableHlo.nullary main_cst (constant S_ .f32 0x00000000#32),
    StableHlo.nullary main_cst_0 (constant S_ .f32 0x3F800000#32),
    StableHlo.TRef.unary (.of main_cst) main_call0.v0 id,
    StableHlo.TRef.unary (.of main_cst_0) main_call0.v1 id,
    StableHlo.TRef.binary main_call0.v1 main_call0.v0 main_call0.v2 subf,
    StableHlo.TRef.nullary main_call0.cst (constant S_ .f32 0x41200000#32),
    StableHlo.TRef.binary main_call0.v2 main_call0.cst main_call0.v3 Host.divf,
    StableHlo.TRef.nullary main_call0.v4 (sitofp .f32 (iotaInDim S10 32 0)),
    StableHlo.TRef.nullary main_call0.cst_0 (constant S_ .f32 0x41200000#32),
    StableHlo.TRef.unary main_call0.cst_0 main_call0.v5 (broadcastInDim S10 ![] bcast_S_S10),
    StableHlo.TRef.binary main_call0.v4 main_call0.v5 main_call0.v6 Host.divf,
    StableHlo.TRef.reshape main_call0.v0 main_call0.v7 (rfl : (.f32 : EltTy) = .f32) shapeCasts_S_S1,
    StableHlo.TRef.nullary main_call0.cst_1 (constant S_ .f32 0x3F800000#32),
    StableHlo.TRef.unary main_call0.cst_1 main_call0.v8 (broadcastInDim S10 ![] bcast_S_S10),
    StableHlo.TRef.binary main_call0.v8 main_call0.v6 main_call0.v9 subf,
    StableHlo.TRef.unary main_call0.v7 main_call0.v10 (broadcastInDim S10 ![0] bcast_S1_S10_0),
    StableHlo.TRef.binary main_call0.v10 main_call0.v9 main_call0.v11 mulf,
    StableHlo.TRef.reshape main_call0.v1 main_call0.v12 (rfl : (.f32 : EltTy) = .f32) shapeCasts_S_S1,
    StableHlo.TRef.unary main_call0.v12 main_call0.v13 (broadcastInDim S10 ![0] bcast_S1_S10_0),
    StableHlo.TRef.binary main_call0.v13 main_call0.v6 main_call0.v14 mulf,
    StableHlo.TRef.binary main_call0.v11 main_call0.v14 main_call0.v15 addf,
    StableHlo.TRef.unary main_call0.v1 main_call0.v16 (broadcastInDim S1 ![] bcast_S_S1),
    StableHlo.TRef.binary main_call0.v15 main_call0.v16 main_call0.v17 (fun a b => concatenate S11 0 [⟨S10, a⟩, ⟨S1, b⟩] concatenates_S10_S1_S11_d0),
    StableHlo.unary main_v0 main_v1 ((extractStridedSlice S10 ![0] · slices_S11_S10_0) : (⟨S11, .f32⟩ : BufTy).Contents (Elt F) → (⟨S10, .f32⟩ : BufTy).Contents (Elt F)),
    StableHlo.unary main_v0 main_v2 ((extractStridedSlice S10 ![1] · slices_S11_S10_1) : (⟨S11, .f32⟩ : BufTy).Contents (Elt F) → (⟨S10, .f32⟩ : BufTy).Contents (Elt F)),
    StableHlo.nullary main_cst_1 (constant S_ .f32 0xFF800000#32),
    StableHlo.binary main_arg0 main_cst_1 main_v3 ((fun x v => Host.reduce FloatOps.maximumf x v reducesTo_S2097152x32_S2097152_d1 h_S_) : (⟨S2097152x32, .f32⟩ : BufTy).Contents (Elt F) → (⟨S_, .f32⟩ : BufTy).Contents (Elt F) → (⟨S2097152, .f32⟩ : BufTy).Contents (Elt F)),
    StableHlo.TRef.nullary main_call1.v0 (iotaInDim S2097152x32 32 1),
    StableHlo.TRef.nullary main_call1.cst (constant S_ .f32 0xFF800000#32),
    StableHlo.TRef.nullary main_call1.c (constantI S_ 32 0#32),
    StableHlo.TRef.quaternary (.of main_arg0) main_call1.v0 main_call1.cst main_call1.c main_call1.v1_0 (fun x y u v j => (Host.argReduce reducer_argmax_f32_i32 x y u v reducesTo_S2097152x32_S2097152_d1 h_S_ j).1),
    StableHlo.TRef.quaternary (.of main_arg0) main_call1.v0 main_call1.cst main_call1.c main_call1.v1_1 (fun x y u v j => (Host.argReduce reducer_argmax_f32_i32 x y u v reducesTo_S2097152x32_S2097152_d1 h_S_ j).2),
    StableHlo.binary main_v4 main_arg1 main_v5 (cmpi .eq : (⟨S2097152, .i32⟩ : BufTy).Contents (Elt F) → (⟨S2097152, .i32⟩ : BufTy).Contents (Elt F) → (⟨S2097152, .i1⟩ : BufTy).Contents (Elt F)),
    StableHlo.unary main_v5 main_v6 (uitofp .f32 : (⟨S2097152, .i1⟩ : BufTy).Contents (Elt F) → (⟨S2097152, .f32⟩ : BufTy).Contents (Elt F)),
    StableHlo.nullary main_cst_2 (constant S_ .f32 0x00000000#32),
    StableHlo.unary main_cst_2 main_v7 (broadcastInDim S1 ![] bcast_S_S1 : (⟨S_, .f32⟩ : BufTy).Contents (Elt F) → (⟨S1, .f32⟩ : BufTy).Contents (Elt F)) ]

def preW : List (Ref sig .tc) := [main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0, main_v1, main_v2, main_cst_1, main_v3, main_call1_v0, main_call1_cst, main_call1_c, main_call1_v1_0, main_v4, main_v5, main_v6, main_cst_2, main_v7]

theorem pre_writes : (pre (F := F)).Forall fun op => op.writes ⊆ (preW.map (Proc.devRef (τ := τ) .tc)).toFinset :=
  StableHlo.forall_writes_sub_of_map rfl

theorem pre_fresh : (pre (F := F)).Forall fun op => op.fresh = ∅ := StableHlo.forall_fresh_of_map rfl

theorem pre_sub : (pre (F := F)).Forall fun op => op.bufs ⊆ StableHlo.tcRefs τ sig := by
  simp [pre, StableHlo.TRef.nullary, StableHlo.TRef.unary, StableHlo.TRef.binary, StableHlo.TRef.reshape, StableHlo.TRef.ternary, StableHlo.TRef.quaternary]

def bin0 : List (HloOp τ sig (Elt F)) :=
  [ StableHlo.unary main_v1 main_v8 ((extractStridedSlice S1 ![0] · slices_S10_S1_0) : (⟨S10, .f32⟩ : BufTy).Contents (Elt F) → (⟨S1, .f32⟩ : BufTy).Contents (Elt F)),
    StableHlo.reshape main_v8 main_v9 (rfl : (.f32 : EltTy) = .f32) shapeCasts_S1_S_,
    StableHlo.unary main_v2 main_v10 ((extractStridedSlice S1 ![0] · slices_S10_S1_0) : (⟨S10, .f32⟩ : BufTy).Contents (Elt F) → (⟨S1, .f32⟩ : BufTy).Contents (Elt F)),
    StableHlo.reshape main_v10 main_v11 (rfl : (.f32 : EltTy) = .f32) shapeCasts_S1_S_,
    StableHlo.unary main_v9 main_v12 (broadcastInDim S2097152 ![] bcast_S_S2097152 : (⟨S_, .f32⟩ : BufTy).Contents (Elt F) → (⟨S2097152, .f32⟩ : BufTy).Contents (Elt F)),
    StableHlo.binary main_v3 main_v12 main_v13 (cmpf .ogt : (⟨S2097152, .f32⟩ : BufTy).Contents (Elt F) → (⟨S2097152, .f32⟩ : BufTy).Contents (Elt F) → (⟨S2097152, .i1⟩ : BufTy).Contents (Elt F)),
    StableHlo.unary main_v11 main_v14 (broadcastInDim S2097152 ![] bcast_S_S2097152 : (⟨S_, .f32⟩ : BufTy).Contents (Elt F) → (⟨S2097152, .f32⟩ : BufTy).Contents (Elt F)),
    StableHlo.binary main_v3 main_v14 main_v15 (cmpf .ole : (⟨S2097152, .f32⟩ : BufTy).Contents (Elt F) → (⟨S2097152, .f32⟩ : BufTy).Contents (Elt F) → (⟨S2097152, .i1⟩ : BufTy).Contents (Elt F)),
    StableHlo.binary main_v13 main_v15 main_v16 (andi : (⟨S2097152, .i1⟩ : BufTy).Contents (Elt F) → (⟨S2097152, .i1⟩ : BufTy).Contents (Elt F) → (⟨S2097152, .i1⟩ : BufTy).Contents (Elt F)),
    StableHlo.unary main_v16 main_v17 (uitofp .f32 : (⟨S2097152, .i1⟩ : BufTy).Contents (Elt F) → (⟨S2097152, .f32⟩ : BufTy).Contents (Elt F)),
    StableHlo.nullary main_cst_3 (constant S_ .f32 0x00000000#32),
    StableHlo.binary main_v17 main_cst_3 main_v18 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_4 (constant S_ .f32 0x4A000000#32),
    StableHlo.binary main_v18 main_cst_4 main_v19 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x00000000#32),
    StableHlo.binary main_v17 main_cst_5 main_v20 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_6 (constant S_ .f32 0x3F800000#32),
    StableHlo.binary main_v20 main_cst_6 main_v21 (maximumf : (⟨S_, .f32⟩ : BufTy).Contents (Elt F) → (⟨S_, .f32⟩ : BufTy).Contents (Elt F) → (⟨S_, .f32⟩ : BufTy).Contents (Elt F)),
    StableHlo.binary main_v6 main_v17 main_v22 (mulf : (⟨S2097152, .f32⟩ : BufTy).Contents (Elt F) → (⟨S2097152, .f32⟩ : BufTy).Contents (Elt F) → (⟨S2097152, .f32⟩ : BufTy).Contents (Elt F)),
    StableHlo.nullary main_cst_7 (constant S_ .f32 0x00000000#32),
    StableHlo.binary main_v22 main_cst_7 main_v23 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v23 main_v21 main_v24 (Host.divf : (⟨S_, .f32⟩ : BufTy).Contents (Elt F) → (⟨S_, .f32⟩ : BufTy).Contents (Elt F) → (⟨S_, .f32⟩ : BufTy).Contents (Elt F)),
    StableHlo.binary main_v3 main_v17 main_v25 (mulf : (⟨S2097152, .f32⟩ : BufTy).Contents (Elt F) → (⟨S2097152, .f32⟩ : BufTy).Contents (Elt F) → (⟨S2097152, .f32⟩ : BufTy).Contents (Elt F)),
    StableHlo.nullary main_cst_8 (constant S_ .f32 0x00000000#32),
    StableHlo.binary main_v25 main_cst_8 main_v26 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v26 main_v21 main_v27 (Host.divf : (⟨S_, .f32⟩ : BufTy).Contents (Elt F) → (⟨S_, .f32⟩ : BufTy).Contents (Elt F) → (⟨S_, .f32⟩ : BufTy).Contents (Elt F)),
    StableHlo.binary main_v27 main_v24 main_v28 (subf : (⟨S_, .f32⟩ : BufTy).Contents (Elt F) → (⟨S_, .f32⟩ : BufTy).Contents (Elt F) → (⟨S_, .f32⟩ : BufTy).Contents (Elt F)),
    StableHlo.unary main_v28 main_v29 (Host.absf : (⟨S_, .f32⟩ : BufTy).Contents (Elt F) → (⟨S_, .f32⟩ : BufTy).Contents (Elt F)),
    StableHlo.binary main_v29 main_v19 main_v30 (mulf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v19 main_cst_9 main_v31 (cmpf .ogt : (⟨S_, .f32⟩ : BufTy).Contents (Elt F) → (⟨S_, .f32⟩ : BufTy).Contents (Elt F) → (⟨S_, .i1⟩ : BufTy).Contents (Elt F)),
    StableHlo.nullary main_cst_10 (constant S_ .f32 0x00000000#32),
    StableHlo.TRef.unary (.of main_cst_10) main_call2.v0 id,
    StableHlo.TRef.ternary (.of main_v31) (.of main_v30) main_call2.v0 main_call2.v1 select,
    StableHlo.unary main_v32 main_v33 (broadcastInDim S1 ![] bcast_S_S1 : (⟨S_, .f32⟩ : BufTy).Contents (Elt F) → (⟨S1, .f32⟩ : BufTy).Contents (Elt F)),
    StableHlo.binary main_v7 main_v33 main_v34 (addf : (⟨S1, .f32⟩ : BufTy).Contents (Elt F) → (⟨S1, .f32⟩ : BufTy).Contents (Elt F) → (⟨S1, .f32⟩ : BufTy).Contents (Elt F)) ]

def bin0W : List (Ref sig .tc) := [main_v8, main_v9, main_v10, main_v11, main_v12, main_v13, main_v14, main_v15, main_v16, main_v17, main_cst_3, main_v18, main_cst_4, main_v19, main_cst_5, main_v20, main_cst_6, main_v21, main_v22, main_cst_7, main_v23, main_v24, main_v25, main_cst_8, main_v26, main_v27, main_v28, main_v29, main_v30, main_cst_9, main_v31, main_cst_10, main_call2_v0, main_v32, main_v33, main_v34]

theorem bin0_writes : (bin0 (F := F)).Forall fun op => op.writes ⊆ (bin0W.map (Proc.devRef (τ := τ) .tc)).toFinset :=
  StableHlo.forall_writes_sub_of_map rfl

theorem bin0_fresh : (bin0 (F := F)).Forall fun op => op.fresh = ∅ := StableHlo.forall_fresh_of_map rfl

theorem bin0_sub : (bin0 (F := F)).Forall fun op => op.bufs ⊆ StableHlo.tcRefs τ sig := by
  simp [bin0, StableHlo.TRef.nullary, StableHlo.TRef.unary, StableHlo.TRef.binary, StableHlo.TRef.reshape, StableHlo.TRef.ternary, StableHlo.TRef.quaternary]

def bin1 : List (HloOp τ sig (Elt F)) :=
  [ StableHlo.unary main_v1 main_v35 ((extractStridedSlice S1 ![1] · slices_S10_S1_1) : (⟨S10, .f32⟩ : BufTy).Contents (Elt F) → (⟨S1, .f32⟩ : BufTy).Contents (Elt F)),
    StableHlo.reshape main_v35 main_v36 (rfl : (.f32 : EltTy) = .f32) shapeCasts_S1_S_,
    StableHlo.unary main_v2 main_v37 ((extractStridedSlice S1 ![1] · slices_S10_S1_1) : (⟨S10, .f32⟩ : BufTy).Contents (Elt F) → (⟨S1, .f32⟩ : BufTy).Contents (Elt F)),
    StableHlo.reshape main_v37 main_v38 (rfl : (.f32 : EltTy) = .f32) shapeCasts_S1_S_,
    StableHlo.unary main_v36 main_v39 (broadcastInDim S2097152 ![] bcast_S_S2097152 : (⟨S_, .f32⟩ : BufTy).Contents (Elt F) → (⟨S2097152, .f32⟩ : BufTy).Contents (Elt F)),
    StableHlo.binary main_v3 main_v39 main_v40 (cmpf .ogt : (⟨S2097152, .f32⟩ : BufTy).Contents (Elt F) → (⟨S2097152, .f32⟩ : BufTy).Contents (Elt F) → (⟨S2097152, .i1⟩ : BufTy).Contents (Elt F)),
    StableHlo.unary main_v38 main_v41 (broadcastInDim S2097152 ![] bcast_S_S2097152 : (⟨S_, .f32⟩ : BufTy).Contents (Elt F) → (⟨S2097152, .f32⟩ : BufTy).Contents (Elt F)),
    StableHlo.binary main_v3 main_v41 main_v42 (cmpf .ole : (⟨S2097152, .f32⟩ : BufTy).Contents (Elt F) → (⟨S2097152, .f32⟩ : BufTy).Contents (Elt F) → (⟨S2097152, .i1⟩ : BufTy).Contents (Elt F)),
    StableHlo.binary main_v40 main_v42 main_v43 (andi : (⟨S2097152, .i1⟩ : BufTy).Contents (Elt F) → (⟨S2097152, .i1⟩ : BufTy).Contents (Elt F) → (⟨S2097152, .i1⟩ : BufTy).Contents (Elt F)),
    StableHlo.unary main_v43 main_v44 (uitofp .f32 : (⟨S2097152, .i1⟩ : BufTy).Contents (Elt F) → (⟨S2097152, .f32⟩ : BufTy).Contents (Elt F)),
    StableHlo.nullary main_cst_11 (constant S_ .f32 0x00000000#32),
    StableHlo.binary main_v44 main_cst_11 main_v45 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_12 (constant S_ .f32 0x4A000000#32),
    StableHlo.binary main_v45 main_cst_12 main_v46 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x00000000#32),
    StableHlo.binary main_v44 main_cst_13 main_v47 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_14 (constant S_ .f32 0x3F800000#32),
    StableHlo.binary main_v47 main_cst_14 main_v48 (maximumf : (⟨S_, .f32⟩ : BufTy).Contents (Elt F) → (⟨S_, .f32⟩ : BufTy).Contents (Elt F) → (⟨S_, .f32⟩ : BufTy).Contents (Elt F)),
    StableHlo.binary main_v6 main_v44 main_v49 (mulf : (⟨S2097152, .f32⟩ : BufTy).Contents (Elt F) → (⟨S2097152, .f32⟩ : BufTy).Contents (Elt F) → (⟨S2097152, .f32⟩ : BufTy).Contents (Elt F)),
    StableHlo.nullary main_cst_15 (constant S_ .f32 0x00000000#32),
    StableHlo.binary main_v49 main_cst_15 main_v50 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v50 main_v48 main_v51 (Host.divf : (⟨S_, .f32⟩ : BufTy).Contents (Elt F) → (⟨S_, .f32⟩ : BufTy).Contents (Elt F) → (⟨S_, .f32⟩ : BufTy).Contents (Elt F)),
    StableHlo.binary main_v3 main_v44 main_v52 (mulf : (⟨S2097152, .f32⟩ : BufTy).Contents (Elt F) → (⟨S2097152, .f32⟩ : BufTy).Contents (Elt F) → (⟨S2097152, .f32⟩ : BufTy).Contents (Elt F)),
    StableHlo.nullary main_cst_16 (constant S_ .f32 0x00000000#32),
    StableHlo.binary main_v52 main_cst_16 main_v53 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v53 main_v48 main_v54 (Host.divf : (⟨S_, .f32⟩ : BufTy).Contents (Elt F) → (⟨S_, .f32⟩ : BufTy).Contents (Elt F) → (⟨S_, .f32⟩ : BufTy).Contents (Elt F)),
    StableHlo.binary main_v54 main_v51 main_v55 (subf : (⟨S_, .f32⟩ : BufTy).Contents (Elt F) → (⟨S_, .f32⟩ : BufTy).Contents (Elt F) → (⟨S_, .f32⟩ : BufTy).Contents (Elt F)),
    StableHlo.unary main_v55 main_v56 (Host.absf : (⟨S_, .f32⟩ : BufTy).Contents (Elt F) → (⟨S_, .f32⟩ : BufTy).Contents (Elt F)),
    StableHlo.binary main_v56 main_v46 main_v57 (mulf : (⟨S_, .f32⟩ : BufTy).Contents (Elt F) → (⟨S_, .f32⟩ : BufTy).Contents (Elt F) → (⟨S_, .f32⟩ : BufTy).Contents (Elt F)),
    StableHlo.nullary main_cst_17 (constant S_ .f32 0x00000000#32),
    StableHlo.binary main_v46 main_cst_17 main_v58 (cmpf .ogt : (⟨S_, .f32⟩ : BufTy).Contents (Elt F) → (⟨S_, .f32⟩ : BufTy).Contents (Elt F) → (⟨S_, .i1⟩ : BufTy).Contents (Elt F)),
    StableHlo.nullary main_cst_18 (constant S_ .f32 0x00000000#32),
    StableHlo.TRef.unary (.of main_cst_18) main_call3.v0 id,
    StableHlo.TRef.ternary (.of main_v58) (.of main_v57) main_call3.v0 main_call3.v1 select,
    StableHlo.unary main_v59 main_v60 (broadcastInDim S1 ![] bcast_S_S1 : (⟨S_, .f32⟩ : BufTy).Contents (Elt F) → (⟨S1, .f32⟩ : BufTy).Contents (Elt F)),
    StableHlo.binary main_v34 main_v60 main_v61 (addf : (⟨S1, .f32⟩ : BufTy).Contents (Elt F) → (⟨S1, .f32⟩ : BufTy).Contents (Elt F) → (⟨S1, .f32⟩ : BufTy).Contents (Elt F)) ]

def bin1W : List (Ref sig .tc) := [main_v35, main_v36, main_v37, main_v38, main_v39, main_v40, main_v41, main_v42, main_v43, main_v44, main_cst_11, main_v45, main_cst_12, main_v46, main_cst_13, main_v47, main_cst_14, main_v48, main_v49, main_cst_15, main_v50, main_v51, main_v52, main_cst_16, main_v53, main_v54, main_v55, main_v56, main_v57, main_cst_17, main_v58, main_cst_18, main_call3_v0, main_v59, main_v60, main_v61]

theorem bin1_writes : (bin1 (F := F)).Forall fun op => op.writes ⊆ (bin1W.map (Proc.devRef (τ := τ) .tc)).toFinset :=
  StableHlo.forall_writes_sub_of_map rfl

theorem bin1_fresh : (bin1 (F := F)).Forall fun op => op.fresh = ∅ := StableHlo.forall_fresh_of_map rfl

theorem bin1_sub : (bin1 (F := F)).Forall fun op => op.bufs ⊆ StableHlo.tcRefs τ sig := by
  simp [bin1, StableHlo.TRef.nullary, StableHlo.TRef.unary, StableHlo.TRef.binary, StableHlo.TRef.reshape, StableHlo.TRef.ternary, StableHlo.TRef.quaternary]

def bin2 : List (HloOp τ sig (Elt F)) :=
  [ StableHlo.unary main_v1 main_v62 ((extractStridedSlice S1 ![2] · slices_S10_S1_2) : (⟨S10, .f32⟩ : BufTy).Contents (Elt F) → (⟨S1, .f32⟩ : BufTy).Contents (Elt F)),
    StableHlo.reshape main_v62 main_v63 (rfl : (.f32 : EltTy) = .f32) shapeCasts_S1_S_,
    StableHlo.unary main_v2 main_v64 ((extractStridedSlice S1 ![2] · slices_S10_S1_2) : (⟨S10, .f32⟩ : BufTy).Contents (Elt F) → (⟨S1, .f32⟩ : BufTy).Contents (Elt F)),
    StableHlo.reshape main_v64 main_v65 (rfl : (.f32 : EltTy) = .f32) shapeCasts_S1_S_,
    StableHlo.unary main_v63 main_v66 (broadcastInDim S2097152 ![] bcast_S_S2097152 : (⟨S_, .f32⟩ : BufTy).Contents (Elt F) → (⟨S2097152, .f32⟩ : BufTy).Contents (Elt F)),
    StableHlo.binary main_v3 main_v66 main_v67 (cmpf .ogt : (⟨S2097152, .f32⟩ : BufTy).Contents (Elt F) → (⟨S2097152, .f32⟩ : BufTy).Contents (Elt F) → (⟨S2097152, .i1⟩ : BufTy).Contents (Elt F)),
    StableHlo.unary main_v65 main_v68 (broadcastInDim S2097152 ![] bcast_S_S2097152 : (⟨S_, .f32⟩ : BufTy).Contents (Elt F) → (⟨S2097152, .f32⟩ : BufTy).Contents (Elt F)),
    StableHlo.binary main_v3 main_v68 main_v69 (cmpf .ole : (⟨S2097152, .f32⟩ : BufTy).Contents (Elt F) → (⟨S2097152, .f32⟩ : BufTy).Contents (Elt F) → (⟨S2097152, .i1⟩ : BufTy).Contents (Elt F)),
    StableHlo.binary main_v67 main_v69 main_v70 (andi : (⟨S2097152, .i1⟩ : BufTy).Contents (Elt F) → (⟨S2097152, .i1⟩ : BufTy).Contents (Elt F) → (⟨S2097152, .i1⟩ : BufTy).Contents (Elt F)),
    StableHlo.unary main_v70 main_v71 (uitofp .f32 : (⟨S2097152, .i1⟩ : BufTy).Contents (Elt F) → (⟨S2097152, .f32⟩ : BufTy).Contents (Elt F)),
    StableHlo.nullary main_cst_19 (constant S_ .f32 0x00000000#32),
    StableHlo.binary main_v71 main_cst_19 main_v72 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_20 (constant S_ .f32 0x4A000000#32),
    StableHlo.binary main_v72 main_cst_20 main_v73 (Host.divf : (⟨S_, .f32⟩ : BufTy).Contents (Elt F) → (⟨S_, .f32⟩ : BufTy).Contents (Elt F) → (⟨S_, .f32⟩ : BufTy).Contents (Elt F)),
    StableHlo.nullary main_cst_21 (constant S_ .f32 0x00000000#32),
    StableHlo.binary main_v71 main_cst_21 main_v74 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_22 (constant S_ .f32 0x3F800000#32),
    StableHlo.binary main_v74 main_cst_22 main_v75 (maximumf : (⟨S_, .f32⟩ : BufTy).Contents (Elt F) → (⟨S_, .f32⟩ : BufTy).Contents (Elt F) → (⟨S_, .f32⟩ : BufTy).Contents (Elt F)),
    StableHlo.binary main_v6 main_v71 main_v76 (mulf : (⟨S2097152, .f32⟩ : BufTy).Contents (Elt F) → (⟨S2097152, .f32⟩ : BufTy).Contents (Elt F) → (⟨S2097152, .f32⟩ : BufTy).Contents (Elt F)),
    StableHlo.nullary main_cst_23 (constant S_ .f32 0x00000000#32),
    StableHlo.binary main_v76 main_cst_23 main_v77 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v77 main_v75 main_v78 (Host.divf : (⟨S_, .f32⟩ : BufTy).Contents (Elt F) → (⟨S_, .f32⟩ : BufTy).Contents (Elt F) → (⟨S_, .f32⟩ : BufTy).Contents (Elt F)),
    StableHlo.binary main_v3 main_v71 main_v79 (mulf : (⟨S2097152, .f32⟩ : BufTy).Contents (Elt F) → (⟨S2097152, .f32⟩ : BufTy).Contents (Elt F) → (⟨S2097152, .f32⟩ : BufTy).Contents (Elt F)),
    StableHlo.nullary main_cst_24 (constant S_ .f32 0x00000000#32),
    StableHlo.binary main_v79 main_cst_24 main_v80 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v80 main_v75 main_v81 (Host.divf : (⟨S_, .f32⟩ : BufTy).Contents (Elt F) → (⟨S_, .f32⟩ : BufTy).Contents (Elt F) → (⟨S_, .f32⟩ : BufTy).Contents (Elt F)),
    StableHlo.binary main_v81 main_v78 main_v82 (subf : (⟨S_, .f32⟩ : BufTy).Contents (Elt F) → (⟨S_, .f32⟩ : BufTy).Contents (Elt F) → (⟨S_, .f32⟩ : BufTy).Contents (Elt F)),
    StableHlo.unary main_v82 main_v83 (Host.absf : (⟨S_, .f32⟩ : BufTy).Contents (Elt F) → (⟨S_, .f32⟩ : BufTy).Contents (Elt F)),
    StableHlo.binary main_v83 main_v73 main_v84 (mulf : (⟨S_, .f32⟩ : BufTy).Contents (Elt F) → (⟨S_, .f32⟩ : BufTy).Contents (Elt F) → (⟨S_, .f32⟩ : BufTy).Contents (Elt F)),
    StableHlo.nullary main_cst_25 (constant S_ .f32 0x00000000#32),
    StableHlo.binary main_v73 main_cst_25 main_v85 (cmpf .ogt : (⟨S_, .f32⟩ : BufTy).Contents (Elt F) → (⟨S_, .f32⟩ : BufTy).Contents (Elt F) → (⟨S_, .i1⟩ : BufTy).Contents (Elt F)),
    StableHlo.nullary main_cst_26 (constant S_ .f32 0x00000000#32),
    StableHlo.TRef.unary (.of main_cst_26) main_call4.v0 id,
    StableHlo.TRef.ternary (.of main_v85) (.of main_v84) main_call4.v0 main_call4.v1 select,
    StableHlo.unary main_v86 main_v87 (broadcastInDim S1 ![] bcast_S_S1 : (⟨S_, .f32⟩ : BufTy).Contents (Elt F) → (⟨S1, .f32⟩ : BufTy).Contents (Elt F)),
    StableHlo.binary main_v61 main_v87 main_v88 (addf : (⟨S1, .f32⟩ : BufTy).Contents (Elt F) → (⟨S1, .f32⟩ : BufTy).Contents (Elt F) → (⟨S1, .f32⟩ : BufTy).Contents (Elt F)) ]

def bin2W : List (Ref sig .tc) := [main_v62, main_v63, main_v64, main_v65, main_v66, main_v67, main_v68, main_v69, main_v70, main_v71, main_cst_19, main_v72, main_cst_20, main_v73, main_cst_21, main_v74, main_cst_22, main_v75, main_v76, main_cst_23, main_v77, main_v78, main_v79, main_cst_24, main_v80, main_v81, main_v82, main_v83, main_v84, main_cst_25, main_v85, main_cst_26, main_call4_v0, main_v86, main_v87, main_v88]

theorem bin2_writes : (bin2 (F := F)).Forall fun op => op.writes ⊆ (bin2W.map (Proc.devRef (τ := τ) .tc)).toFinset :=
  StableHlo.forall_writes_sub_of_map rfl

theorem bin2_fresh : (bin2 (F := F)).Forall fun op => op.fresh = ∅ := StableHlo.forall_fresh_of_map rfl

theorem bin2_sub : (bin2 (F := F)).Forall fun op => op.bufs ⊆ StableHlo.tcRefs τ sig := by
  simp [bin2, StableHlo.TRef.nullary, StableHlo.TRef.unary, StableHlo.TRef.binary, StableHlo.TRef.reshape, StableHlo.TRef.ternary, StableHlo.TRef.quaternary]

def bin3 : List (HloOp τ sig (Elt F)) :=
  [ StableHlo.unary main_v1 main_v89 ((extractStridedSlice S1 ![3] · slices_S10_S1_3) : (⟨S10, .f32⟩ : BufTy).Contents (Elt F) → (⟨S1, .f32⟩ : BufTy).Contents (Elt F)),
    StableHlo.reshape main_v89 main_v90 (rfl : (.f32 : EltTy) = .f32) shapeCasts_S1_S_,
    StableHlo.unary main_v2 main_v91 ((extractStridedSlice S1 ![3] · slices_S10_S1_3) : (⟨S10, .f32⟩ : BufTy).Contents (Elt F) → (⟨S1, .f32⟩ : BufTy).Contents (Elt F)),
    StableHlo.reshape main_v91 main_v92 (rfl : (.f32 : EltTy) = .f32) shapeCasts_S1_S_,
    StableHlo.unary main_v90 main_v93 (broadcastInDim S2097152 ![] bcast_S_S2097152 : (⟨S_, .f32⟩ : BufTy).Contents (Elt F) → (⟨S2097152, .f32⟩ : BufTy).Contents (Elt F)),
    StableHlo.binary main_v3 main_v93 main_v94 (cmpf .ogt : (⟨S2097152, .f32⟩ : BufTy).Contents (Elt F) → (⟨S2097152, .f32⟩ : BufTy).Contents (Elt F) → (⟨S2097152, .i1⟩ : BufTy).Contents (Elt F)),
    StableHlo.unary main_v92 main_v95 (broadcastInDim S2097152 ![] bcast_S_S2097152 : (⟨S_, .f32⟩ : BufTy).Contents (Elt F) → (⟨S2097152, .f32⟩ : BufTy).Contents (Elt F)),
    StableHlo.binary main_v3 main_v95 main_v96 (cmpf .ole : (⟨S2097152, .f32⟩ : BufTy).Contents (Elt F) → (⟨S2097152, .f32⟩ : BufTy).Contents (Elt F) → (⟨S2097152, .i1⟩ : BufTy).Contents (Elt F)),
    StableHlo.binary main_v94 main_v96 main_v97 (andi : (⟨S2097152, .i1⟩ : BufTy).Contents (Elt F) → (⟨S2097152, .i1⟩ : BufTy).Contents (Elt F) → (⟨S2097152, .i1⟩ : BufTy).Contents (Elt F)),
    StableHlo.unary main_v97 main_v98 (uitofp .f32 : (⟨S2097152, .i1⟩ : BufTy).Contents (Elt F) → (⟨S2097152, .f32⟩ : BufTy).Contents (Elt F)),
    StableHlo.nullary main_cst_27 (constant S_ .f32 0x00000000#32),
    StableHlo.binary main_v98 main_cst_27 main_v99 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_28 (constant S_ .f32 0x4A000000#32),
    StableHlo.binary main_v99 main_cst_28 main_v100 (Host.divf : (⟨S_, .f32⟩ : BufTy).Contents (Elt F) → (⟨S_, .f32⟩ : BufTy).Contents (Elt F) → (⟨S_, .f32⟩ : BufTy).Contents (Elt F)),
    StableHlo.nullary main_cst_29 (constant S_ .f32 0x00000000#32),
    StableHlo.binary main_v98 main_cst_29 main_v101 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_30 (constant S_ .f32 0x3F800000#32),
    StableHlo.binary main_v101 main_cst_30 main_v102 (maximumf : (⟨S_, .f32⟩ : BufTy).Contents (Elt F) → (⟨S_, .f32⟩ : BufTy).Contents (Elt F) → (⟨S_, .f32⟩ : BufTy).Contents (Elt F)),
    StableHlo.binary main_v6 main_v98 main_v103 (mulf : (⟨S2097152, .f32⟩ : BufTy).Contents (Elt F) → (⟨S2097152, .f32⟩ : BufTy).Contents (Elt F) → (⟨S2097152, .f32⟩ : BufTy).Contents (Elt F)),
    StableHlo.nullary main_cst_31 (constant S_ .f32 0x00000000#32),
    StableHlo.binary main_v103 main_cst_31 main_v104 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v104 main_v102 main_v105 (Host.divf : (⟨S_, .f32⟩ : BufTy).Contents (Elt F) → (⟨S_, .f32⟩ : BufTy).Contents (Elt F) → (⟨S_, .f32⟩ : BufTy).Contents (Elt F)),
    StableHlo.binary main_v3 main_v98 main_v106 (mulf : (⟨S2097152, .f32⟩ : BufTy).Contents (Elt F) → (⟨S2097152, .f32⟩ : BufTy).Contents (Elt F) → (⟨S2097152, .f32⟩ : BufTy).Contents (Elt F)),
    StableHlo.nullary main_cst_32 (constant S_ .f32 0x00000000#32),
    StableHlo.binary main_v106 main_cst_32 main_v107 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v107 main_v102 main_v108 (Host.divf : (⟨S_, .f32⟩ : BufTy).Contents (Elt F) → (⟨S_, .f32⟩ : BufTy).Contents (Elt F) → (⟨S_, .f32⟩ : BufTy).Contents (Elt F)),
    StableHlo.binary main_v108 main_v105 main_v109 (subf : (⟨S_, .f32⟩ : BufTy).Contents (Elt F) → (⟨S_, .f32⟩ : BufTy).Contents (Elt F) → (⟨S_, .f32⟩ : BufTy).Contents (Elt F)),
    StableHlo.unary main_v109 main_v110 (Host.absf : (⟨S_, .f32⟩ : BufTy).Contents (Elt F) → (⟨S_, .f32⟩ : BufTy).Contents (Elt F)),
    StableHlo.binary main_v110 main_v100 main_v111 (mulf : (⟨S_, .f32⟩ : BufTy).Contents (Elt F) → (⟨S_, .f32⟩ : BufTy).Contents (Elt F) → (⟨S_, .f32⟩ : BufTy).Contents (Elt F)),
    StableHlo.nullary main_cst_33 (constant S_ .f32 0x00000000#32),
    StableHlo.binary main_v100 main_cst_33 main_v112 (cmpf .ogt : (⟨S_, .f32⟩ : BufTy).Contents (Elt F) → (⟨S_, .f32⟩ : BufTy).Contents (Elt F) → (⟨S_, .i1⟩ : BufTy).Contents (Elt F)),
    StableHlo.nullary main_cst_34 (constant S_ .f32 0x00000000#32),
    StableHlo.TRef.unary (.of main_cst_34) main_call5.v0 id,
    StableHlo.TRef.ternary (.of main_v112) (.of main_v111) main_call5.v0 main_call5.v1 select,
    StableHlo.unary main_v113 main_v114 (broadcastInDim S1 ![] bcast_S_S1 : (⟨S_, .f32⟩ : BufTy).Contents (Elt F) → (⟨S1, .f32⟩ : BufTy).Contents (Elt F)),
    StableHlo.binary main_v88 main_v114 main_v115 (addf : (⟨S1, .f32⟩ : BufTy).Contents (Elt F) → (⟨S1, .f32⟩ : BufTy).Contents (Elt F) → (⟨S1, .f32⟩ : BufTy).Contents (Elt F)) ]

def bin3W : List (Ref sig .tc) := [main_v89, main_v90, main_v91, main_v92, main_v93, main_v94, main_v95, main_v96, main_v97, main_v98, main_cst_27, main_v99, main_cst_28, main_v100, main_cst_29, main_v101, main_cst_30, main_v102, main_v103, main_cst_31, main_v104, main_v105, main_v106, main_cst_32, main_v107, main_v108, main_v109, main_v110, main_v111, main_cst_33, main_v112, main_cst_34, main_call5_v0, main_v113, main_v114, main_v115]

theorem bin3_writes : (bin3 (F := F)).Forall fun op => op.writes ⊆ (bin3W.map (Proc.devRef (τ := τ) .tc)).toFinset :=
  StableHlo.forall_writes_sub_of_map rfl

theorem bin3_fresh : (bin3 (F := F)).Forall fun op => op.fresh = ∅ := StableHlo.forall_fresh_of_map rfl

theorem bin3_sub : (bin3 (F := F)).Forall fun op => op.bufs ⊆ StableHlo.tcRefs τ sig := by
  simp [bin3, StableHlo.TRef.nullary, StableHlo.TRef.unary, StableHlo.TRef.binary, StableHlo.TRef.reshape, StableHlo.TRef.ternary, StableHlo.TRef.quaternary]

def bin4 : List (HloOp τ sig (Elt F)) :=
  [ StableHlo.unary main_v1 main_v116 ((extractStridedSlice S1 ![4] · slices_S10_S1_4) : (⟨S10, .f32⟩ : BufTy).Contents (Elt F) → (⟨S1, .f32⟩ : BufTy).Contents (Elt F)),
    StableHlo.reshape main_v116 main_v117 (rfl : (.f32 : EltTy) = .f32) shapeCasts_S1_S_,
    StableHlo.unary main_v2 main_v118 ((extractStridedSlice S1 ![4] · slices_S10_S1_4) : (⟨S10, .f32⟩ : BufTy).Contents (Elt F) → (⟨S1, .f32⟩ : BufTy).Contents (Elt F)),
    StableHlo.reshape main_v118 main_v119 (rfl : (.f32 : EltTy) = .f32) shapeCasts_S1_S_,
    StableHlo.unary main_v117 main_v120 (broadcastInDim S2097152 ![] bcast_S_S2097152 : (⟨S_, .f32⟩ : BufTy).Contents (Elt F) → (⟨S2097152, .f32⟩ : BufTy).Contents (Elt F)),
    StableHlo.binary main_v3 main_v120 main_v121 (cmpf .ogt : (⟨S2097152, .f32⟩ : BufTy).Contents (Elt F) → (⟨S2097152, .f32⟩ : BufTy).Contents (Elt F) → (⟨S2097152, .i1⟩ : BufTy).Contents (Elt F)),
    StableHlo.unary main_v119 main_v122 (broadcastInDim S2097152 ![] bcast_S_S2097152 : (⟨S_, .f32⟩ : BufTy).Contents (Elt F) → (⟨S2097152, .f32⟩ : BufTy).Contents (Elt F)),
    StableHlo.binary main_v3 main_v122 main_v123 (cmpf .ole : (⟨S2097152, .f32⟩ : BufTy).Contents (Elt F) → (⟨S2097152, .f32⟩ : BufTy).Contents (Elt F) → (⟨S2097152, .i1⟩ : BufTy).Contents (Elt F)),
    StableHlo.binary main_v121 main_v123 main_v124 (andi : (⟨S2097152, .i1⟩ : BufTy).Contents (Elt F) → (⟨S2097152, .i1⟩ : BufTy).Contents (Elt F) → (⟨S2097152, .i1⟩ : BufTy).Contents (Elt F)),
    StableHlo.unary main_v124 main_v125 (uitofp .f32 : (⟨S2097152, .i1⟩ : BufTy).Contents (Elt F) → (⟨S2097152, .f32⟩ : BufTy).Contents (Elt F)),
    StableHlo.nullary main_cst_35 (constant S_ .f32 0x00000000#32),
    StableHlo.binary main_v125 main_cst_35 main_v126 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_36 (constant S_ .f32 0x4A000000#32),
    StableHlo.binary main_v126 main_cst_36 main_v127 (Host.divf : (⟨S_, .f32⟩ : BufTy).Contents (Elt F) → (⟨S_, .f32⟩ : BufTy).Contents (Elt F) → (⟨S_, .f32⟩ : BufTy).Contents (Elt F)),
    StableHlo.nullary main_cst_37 (constant S_ .f32 0x00000000#32),
    StableHlo.binary main_v125 main_cst_37 main_v128 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_38 (constant S_ .f32 0x3F800000#32),
    StableHlo.binary main_v128 main_cst_38 main_v129 (maximumf : (⟨S_, .f32⟩ : BufTy).Contents (Elt F) → (⟨S_, .f32⟩ : BufTy).Contents (Elt F) → (⟨S_, .f32⟩ : BufTy).Contents (Elt F)),
    StableHlo.binary main_v6 main_v125 main_v130 (mulf : (⟨S2097152, .f32⟩ : BufTy).Contents (Elt F) → (⟨S2097152, .f32⟩ : BufTy).Contents (Elt F) → (⟨S2097152, .f32⟩ : BufTy).Contents (Elt F)),
    StableHlo.nullary main_cst_39 (constant S_ .f32 0x00000000#32),
    StableHlo.binary main_v130 main_cst_39 main_v131 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v131 main_v129 main_v132 (Host.divf : (⟨S_, .f32⟩ : BufTy).Contents (Elt F) → (⟨S_, .f32⟩ : BufTy).Contents (Elt F) → (⟨S_, .f32⟩ : BufTy).Contents (Elt F)),
    StableHlo.binary main_v3 main_v125 main_v133 (mulf : (⟨S2097152, .f32⟩ : BufTy).Contents (Elt F) → (⟨S2097152, .f32⟩ : BufTy).Contents (Elt F) → (⟨S2097152, .f32⟩ : BufTy).Contents (Elt F)),
    StableHlo.nullary main_cst_40 (constant S_ .f32 0x00000000#32),
    StableHlo.binary main_v133 main_cst_40 main_v134 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v134 main_v129 main_v135 (Host.divf : (⟨S_, .f32⟩ : BufTy).Contents (Elt F) → (⟨S_, .f32⟩ : BufTy).Contents (Elt F) → (⟨S_, .f32⟩ : BufTy).Contents (Elt F)),
    StableHlo.binary main_v135 main_v132 main_v136 (subf : (⟨S_, .f32⟩ : BufTy).Contents (Elt F) → (⟨S_, .f32⟩ : BufTy).Contents (Elt F) → (⟨S_, .f32⟩ : BufTy).Contents (Elt F)),
    StableHlo.unary main_v136 main_v137 (Host.absf : (⟨S_, .f32⟩ : BufTy).Contents (Elt F) → (⟨S_, .f32⟩ : BufTy).Contents (Elt F)),
    StableHlo.binary main_v137 main_v127 main_v138 (mulf : (⟨S_, .f32⟩ : BufTy).Contents (Elt F) → (⟨S_, .f32⟩ : BufTy).Contents (Elt F) → (⟨S_, .f32⟩ : BufTy).Contents (Elt F)),
    StableHlo.nullary main_cst_41 (constant S_ .f32 0x00000000#32),
    StableHlo.binary main_v127 main_cst_41 main_v139 (cmpf .ogt : (⟨S_, .f32⟩ : BufTy).Contents (Elt F) → (⟨S_, .f32⟩ : BufTy).Contents (Elt F) → (⟨S_, .i1⟩ : BufTy).Contents (Elt F)),
    StableHlo.nullary main_cst_42 (constant S_ .f32 0x00000000#32),
    StableHlo.TRef.unary (.of main_cst_42) main_call6.v0 id,
    StableHlo.TRef.ternary (.of main_v139) (.of main_v138) main_call6.v0 main_call6.v1 select,
    StableHlo.unary main_v140 main_v141 (broadcastInDim S1 ![] bcast_S_S1 : (⟨S_, .f32⟩ : BufTy).Contents (Elt F) → (⟨S1, .f32⟩ : BufTy).Contents (Elt F)),
    StableHlo.binary main_v115 main_v141 main_v142 (addf : (⟨S1, .f32⟩ : BufTy).Contents (Elt F) → (⟨S1, .f32⟩ : BufTy).Contents (Elt F) → (⟨S1, .f32⟩ : BufTy).Contents (Elt F)) ]

def bin4W : List (Ref sig .tc) := [main_v116, main_v117, main_v118, main_v119, main_v120, main_v121, main_v122, main_v123, main_v124, main_v125, main_cst_35, main_v126, main_cst_36, main_v127, main_cst_37, main_v128, main_cst_38, main_v129, main_v130, main_cst_39, main_v131, main_v132, main_v133, main_cst_40, main_v134, main_v135, main_v136, main_v137, main_v138, main_cst_41, main_v139, main_cst_42, main_call6_v0, main_v140, main_v141, main_v142]

theorem bin4_writes : (bin4 (F := F)).Forall fun op => op.writes ⊆ (bin4W.map (Proc.devRef (τ := τ) .tc)).toFinset :=
  StableHlo.forall_writes_sub_of_map rfl

theorem bin4_fresh : (bin4 (F := F)).Forall fun op => op.fresh = ∅ := StableHlo.forall_fresh_of_map rfl

theorem bin4_sub : (bin4 (F := F)).Forall fun op => op.bufs ⊆ StableHlo.tcRefs τ sig := by
  simp [bin4, StableHlo.TRef.nullary, StableHlo.TRef.unary, StableHlo.TRef.binary, StableHlo.TRef.reshape, StableHlo.TRef.ternary, StableHlo.TRef.quaternary]

def bin5 : List (HloOp τ sig (Elt F)) :=
  [ StableHlo.unary main_v1 main_v143 ((extractStridedSlice S1 ![5] · slices_S10_S1_5) : (⟨S10, .f32⟩ : BufTy).Contents (Elt F) → (⟨S1, .f32⟩ : BufTy).Contents (Elt F)),
    StableHlo.reshape main_v143 main_v144 (rfl : (.f32 : EltTy) = .f32) shapeCasts_S1_S_,
    StableHlo.unary main_v2 main_v145 ((extractStridedSlice S1 ![5] · slices_S10_S1_5) : (⟨S10, .f32⟩ : BufTy).Contents (Elt F) → (⟨S1, .f32⟩ : BufTy).Contents (Elt F)),
    StableHlo.reshape main_v145 main_v146 (rfl : (.f32 : EltTy) = .f32) shapeCasts_S1_S_,
    StableHlo.unary main_v144 main_v147 (broadcastInDim S2097152 ![] bcast_S_S2097152 : (⟨S_, .f32⟩ : BufTy).Contents (Elt F) → (⟨S2097152, .f32⟩ : BufTy).Contents (Elt F)),
    StableHlo.binary main_v3 main_v147 main_v148 (cmpf .ogt : (⟨S2097152, .f32⟩ : BufTy).Contents (Elt F) → (⟨S2097152, .f32⟩ : BufTy).Contents (Elt F) → (⟨S2097152, .i1⟩ : BufTy).Contents (Elt F)),
    StableHlo.unary main_v146 main_v149 (broadcastInDim S2097152 ![] bcast_S_S2097152 : (⟨S_, .f32⟩ : BufTy).Contents (Elt F) → (⟨S2097152, .f32⟩ : BufTy).Contents (Elt F)),
    StableHlo.binary main_v3 main_v149 main_v150 (cmpf .ole : (⟨S2097152, .f32⟩ : BufTy).Contents (Elt F) → (⟨S2097152, .f32⟩ : BufTy).Contents (Elt F) → (⟨S2097152, .i1⟩ : BufTy).Contents (Elt F)),
    StableHlo.binary main_v148 main_v150 main_v151 (andi : (⟨S2097152, .i1⟩ : BufTy).Contents (Elt F) → (⟨S2097152, .i1⟩ : BufTy).Contents (Elt F) → (⟨S2097152, .i1⟩ : BufTy).Contents (Elt F)),
    StableHlo.unary main_v151 main_v152 (uitofp .f32 : (⟨S2097152, .i1⟩ : BufTy).Contents (Elt F) → (⟨S2097152, .f32⟩ : BufTy).Contents (Elt F)),
    StableHlo.nullary main_cst_43 (constant S_ .f32 0x00000000#32),
    StableHlo.binary main_v152 main_cst_43 main_v153 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_44 (constant S_ .f32 0x4A000000#32),
    StableHlo.binary main_v153 main_cst_44 main_v154 (Host.divf : (⟨S_, .f32⟩ : BufTy).Contents (Elt F) → (⟨S_, .f32⟩ : BufTy).Contents (Elt F) → (⟨S_, .f32⟩ : BufTy).Contents (Elt F)),
    StableHlo.nullary main_cst_45 (constant S_ .f32 0x00000000#32),
    StableHlo.binary main_v152 main_cst_45 main_v155 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_46 (constant S_ .f32 0x3F800000#32),
    StableHlo.binary main_v155 main_cst_46 main_v156 (maximumf : (⟨S_, .f32⟩ : BufTy).Contents (Elt F) → (⟨S_, .f32⟩ : BufTy).Contents (Elt F) → (⟨S_, .f32⟩ : BufTy).Contents (Elt F)),
    StableHlo.binary main_v6 main_v152 main_v157 (mulf : (⟨S2097152, .f32⟩ : BufTy).Contents (Elt F) → (⟨S2097152, .f32⟩ : BufTy).Contents (Elt F) → (⟨S2097152, .f32⟩ : BufTy).Contents (Elt F)),
    StableHlo.nullary main_cst_47 (constant S_ .f32 0x00000000#32),
    StableHlo.binary main_v157 main_cst_47 main_v158 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v158 main_v156 main_v159 (Host.divf : (⟨S_, .f32⟩ : BufTy).Contents (Elt F) → (⟨S_, .f32⟩ : BufTy).Contents (Elt F) → (⟨S_, .f32⟩ : BufTy).Contents (Elt F)),
    StableHlo.binary main_v3 main_v152 main_v160 (mulf : (⟨S2097152, .f32⟩ : BufTy).Contents (Elt F) → (⟨S2097152, .f32⟩ : BufTy).Contents (Elt F) → (⟨S2097152, .f32⟩ : BufTy).Contents (Elt F)),
    StableHlo.nullary main_cst_48 (constant S_ .f32 0x00000000#32),
    StableHlo.binary main_v160 main_cst_48 main_v161 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v161 main_v156 main_v162 (Host.divf : (⟨S_, .f32⟩ : BufTy).Contents (Elt F) → (⟨S_, .f32⟩ : BufTy).Contents (Elt F) → (⟨S_, .f32⟩ : BufTy).Contents (Elt F)),
    StableHlo.binary main_v162 main_v159 main_v163 (subf : (⟨S_, .f32⟩ : BufTy).Contents (Elt F) → (⟨S_, .f32⟩ : BufTy).Contents (Elt F) → (⟨S_, .f32⟩ : BufTy).Contents (Elt F)),
    StableHlo.unary main_v163 main_v164 (Host.absf : (⟨S_, .f32⟩ : BufTy).Contents (Elt F) → (⟨S_, .f32⟩ : BufTy).Contents (Elt F)),
    StableHlo.binary main_v164 main_v154 main_v165 (mulf : (⟨S_, .f32⟩ : BufTy).Contents (Elt F) → (⟨S_, .f32⟩ : BufTy).Contents (Elt F) → (⟨S_, .f32⟩ : BufTy).Contents (Elt F)),
    StableHlo.nullary main_cst_49 (constant S_ .f32 0x00000000#32),
    StableHlo.binary main_v154 main_cst_49 main_v166 (cmpf .ogt : (⟨S_, .f32⟩ : BufTy).Contents (Elt F) → (⟨S_, .f32⟩ : BufTy).Contents (Elt F) → (⟨S_, .i1⟩ : BufTy).Contents (Elt F)),
    StableHlo.nullary main_cst_50 (constant S_ .f32 0x00000000#32),
    StableHlo.TRef.unary (.of main_cst_50) main_call7.v0 id,
    StableHlo.TRef.ternary (.of main_v166) (.of main_v165) main_call7.v0 main_call7.v1 select,
    StableHlo.unary main_v167 main_v168 (broadcastInDim S1 ![] bcast_S_S1 : (⟨S_, .f32⟩ : BufTy).Contents (Elt F) → (⟨S1, .f32⟩ : BufTy).Contents (Elt F)),
    StableHlo.binary main_v142 main_v168 main_v169 (addf : (⟨S1, .f32⟩ : BufTy).Contents (Elt F) → (⟨S1, .f32⟩ : BufTy).Contents (Elt F) → (⟨S1, .f32⟩ : BufTy).Contents (Elt F)) ]

def bin5W : List (Ref sig .tc) := [main_v143, main_v144, main_v145, main_v146, main_v147, main_v148, main_v149, main_v150, main_v151, main_v152, main_cst_43, main_v153, main_cst_44, main_v154, main_cst_45, main_v155, main_cst_46, main_v156, main_v157, main_cst_47, main_v158, main_v159, main_v160, main_cst_48, main_v161, main_v162, main_v163, main_v164, main_v165, main_cst_49, main_v166, main_cst_50, main_call7_v0, main_v167, main_v168, main_v169]

theorem bin5_writes : (bin5 (F := F)).Forall fun op => op.writes ⊆ (bin5W.map (Proc.devRef (τ := τ) .tc)).toFinset :=
  StableHlo.forall_writes_sub_of_map rfl

theorem bin5_fresh : (bin5 (F := F)).Forall fun op => op.fresh = ∅ := StableHlo.forall_fresh_of_map rfl

theorem bin5_sub : (bin5 (F := F)).Forall fun op => op.bufs ⊆ StableHlo.tcRefs τ sig := by
  simp [bin5, StableHlo.TRef.nullary, StableHlo.TRef.unary, StableHlo.TRef.binary, StableHlo.TRef.reshape, StableHlo.TRef.ternary, StableHlo.TRef.quaternary]

def bin6 : List (HloOp τ sig (Elt F)) :=
  [ StableHlo.unary main_v1 main_v170 ((extractStridedSlice S1 ![6] · slices_S10_S1_6) : (⟨S10, .f32⟩ : BufTy).Contents (Elt F) → (⟨S1, .f32⟩ : BufTy).Contents (Elt F)),
    StableHlo.reshape main_v170 main_v171 (rfl : (.f32 : EltTy) = .f32) shapeCasts_S1_S_,
    StableHlo.unary main_v2 main_v172 ((extractStridedSlice S1 ![6] · slices_S10_S1_6) : (⟨S10, .f32⟩ : BufTy).Contents (Elt F) → (⟨S1, .f32⟩ : BufTy).Contents (Elt F)),
    StableHlo.reshape main_v172 main_v173 (rfl : (.f32 : EltTy) = .f32) shapeCasts_S1_S_,
    StableHlo.unary main_v171 main_v174 (broadcastInDim S2097152 ![] bcast_S_S2097152 : (⟨S_, .f32⟩ : BufTy).Contents (Elt F) → (⟨S2097152, .f32⟩ : BufTy).Contents (Elt F)),
    StableHlo.binary main_v3 main_v174 main_v175 (cmpf .ogt : (⟨S2097152, .f32⟩ : BufTy).Contents (Elt F) → (⟨S2097152, .f32⟩ : BufTy).Contents (Elt F) → (⟨S2097152, .i1⟩ : BufTy).Contents (Elt F)),
    StableHlo.unary main_v173 main_v176 (broadcastInDim S2097152 ![] bcast_S_S2097152 : (⟨S_, .f32⟩ : BufTy).Contents (Elt F) → (⟨S2097152, .f32⟩ : BufTy).Contents (Elt F)),
    StableHlo.binary main_v3 main_v176 main_v177 (cmpf .ole : (⟨S2097152, .f32⟩ : BufTy).Contents (Elt F) → (⟨S2097152, .f32⟩ : BufTy).Contents (Elt F) → (⟨S2097152, .i1⟩ : BufTy).Contents (Elt F)),
    StableHlo.binary main_v175 main_v177 main_v178 (andi : (⟨S2097152, .i1⟩ : BufTy).Contents (Elt F) → (⟨S2097152, .i1⟩ : BufTy).Contents (Elt F) → (⟨S2097152, .i1⟩ : BufTy).Contents (Elt F)),
    StableHlo.unary main_v178 main_v179 (uitofp .f32 : (⟨S2097152, .i1⟩ : BufTy).Contents (Elt F) → (⟨S2097152, .f32⟩ : BufTy).Contents (Elt F)),
    StableHlo.nullary main_cst_51 (constant S_ .f32 0x00000000#32),
    StableHlo.binary main_v179 main_cst_51 main_v180 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_52 (constant S_ .f32 0x4A000000#32),
    StableHlo.binary main_v180 main_cst_52 main_v181 (Host.divf : (⟨S_, .f32⟩ : BufTy).Contents (Elt F) → (⟨S_, .f32⟩ : BufTy).Contents (Elt F) → (⟨S_, .f32⟩ : BufTy).Contents (Elt F)),
    StableHlo.nullary main_cst_53 (constant S_ .f32 0x00000000#32),
    StableHlo.binary main_v179 main_cst_53 main_v182 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_54 (constant S_ .f32 0x3F800000#32),
    StableHlo.binary main_v182 main_cst_54 main_v183 (maximumf : (⟨S_, .f32⟩ : BufTy).Contents (Elt F) → (⟨S_, .f32⟩ : BufTy).Contents (Elt F) → (⟨S_, .f32⟩ : BufTy).Contents (Elt F)),
    StableHlo.binary main_v6 main_v179 main_v184 (mulf : (⟨S2097152, .f32⟩ : BufTy).Contents (Elt F) → (⟨S2097152, .f32⟩ : BufTy).Contents (Elt F) → (⟨S2097152, .f32⟩ : BufTy).Contents (Elt F)),
    StableHlo.nullary main_cst_55 (constant S_ .f32 0x00000000#32),
    StableHlo.binary main_v184 main_cst_55 main_v185 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v185 main_v183 main_v186 (Host.divf : (⟨S_, .f32⟩ : BufTy).Contents (Elt F) → (⟨S_, .f32⟩ : BufTy).Contents (Elt F) → (⟨S_, .f32⟩ : BufTy).Contents (Elt F)),
    StableHlo.binary main_v3 main_v179 main_v187 (mulf : (⟨S2097152, .f32⟩ : BufTy).Contents (Elt F) → (⟨S2097152, .f32⟩ : BufTy).Contents (Elt F) → (⟨S2097152, .f32⟩ : BufTy).Contents (Elt F)),
    StableHlo.nullary main_cst_56 (constant S_ .f32 0x00000000#32),
    StableHlo.binary main_v187 main_cst_56 main_v188 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v188 main_v183 main_v189 (Host.divf : (⟨S_, .f32⟩ : BufTy).Contents (Elt F) → (⟨S_, .f32⟩ : BufTy).Contents (Elt F) → (⟨S_, .f32⟩ : BufTy).Contents (Elt F)),
    StableHlo.binary main_v189 main_v186 main_v190 (subf : (⟨S_, .f32⟩ : BufTy).Contents (Elt F) → (⟨S_, .f32⟩ : BufTy).Contents (Elt F) → (⟨S_, .f32⟩ : BufTy).Contents (Elt F)),
    StableHlo.unary main_v190 main_v191 (Host.absf : (⟨S_, .f32⟩ : BufTy).Contents (Elt F) → (⟨S_, .f32⟩ : BufTy).Contents (Elt F)),
    StableHlo.binary main_v191 main_v181 main_v192 (mulf : (⟨S_, .f32⟩ : BufTy).Contents (Elt F) → (⟨S_, .f32⟩ : BufTy).Contents (Elt F) → (⟨S_, .f32⟩ : BufTy).Contents (Elt F)),
    StableHlo.nullary main_cst_57 (constant S_ .f32 0x00000000#32),
    StableHlo.binary main_v181 main_cst_57 main_v193 (cmpf .ogt : (⟨S_, .f32⟩ : BufTy).Contents (Elt F) → (⟨S_, .f32⟩ : BufTy).Contents (Elt F) → (⟨S_, .i1⟩ : BufTy).Contents (Elt F)),
    StableHlo.nullary main_cst_58 (constant S_ .f32 0x00000000#32),
    StableHlo.TRef.unary (.of main_cst_58) main_call8.v0 id,
    StableHlo.TRef.ternary (.of main_v193) (.of main_v192) main_call8.v0 main_call8.v1 select,
    StableHlo.unary main_v194 main_v195 (broadcastInDim S1 ![] bcast_S_S1 : (⟨S_, .f32⟩ : BufTy).Contents (Elt F) → (⟨S1, .f32⟩ : BufTy).Contents (Elt F)),
    StableHlo.binary main_v169 main_v195 main_v196 (addf : (⟨S1, .f32⟩ : BufTy).Contents (Elt F) → (⟨S1, .f32⟩ : BufTy).Contents (Elt F) → (⟨S1, .f32⟩ : BufTy).Contents (Elt F)) ]

def bin6W : List (Ref sig .tc) := [main_v170, main_v171, main_v172, main_v173, main_v174, main_v175, main_v176, main_v177, main_v178, main_v179, main_cst_51, main_v180, main_cst_52, main_v181, main_cst_53, main_v182, main_cst_54, main_v183, main_v184, main_cst_55, main_v185, main_v186, main_v187, main_cst_56, main_v188, main_v189, main_v190, main_v191, main_v192, main_cst_57, main_v193, main_cst_58, main_call8_v0, main_v194, main_v195, main_v196]

theorem bin6_writes : (bin6 (F := F)).Forall fun op => op.writes ⊆ (bin6W.map (Proc.devRef (τ := τ) .tc)).toFinset :=
  StableHlo.forall_writes_sub_of_map rfl

theorem bin6_fresh : (bin6 (F := F)).Forall fun op => op.fresh = ∅ := StableHlo.forall_fresh_of_map rfl

theorem bin6_sub : (bin6 (F := F)).Forall fun op => op.bufs ⊆ StableHlo.tcRefs τ sig := by
  simp [bin6, StableHlo.TRef.nullary, StableHlo.TRef.unary, StableHlo.TRef.binary, StableHlo.TRef.reshape, StableHlo.TRef.ternary, StableHlo.TRef.quaternary]

def bin7 : List (HloOp τ sig (Elt F)) :=
  [ StableHlo.unary main_v1 main_v197 ((extractStridedSlice S1 ![7] · slices_S10_S1_7) : (⟨S10, .f32⟩ : BufTy).Contents (Elt F) → (⟨S1, .f32⟩ : BufTy).Contents (Elt F)),
    StableHlo.reshape main_v197 main_v198 (rfl : (.f32 : EltTy) = .f32) shapeCasts_S1_S_,
    StableHlo.unary main_v2 main_v199 ((extractStridedSlice S1 ![7] · slices_S10_S1_7) : (⟨S10, .f32⟩ : BufTy).Contents (Elt F) → (⟨S1, .f32⟩ : BufTy).Contents (Elt F)),
    StableHlo.reshape main_v199 main_v200 (rfl : (.f32 : EltTy) = .f32) shapeCasts_S1_S_,
    StableHlo.unary main_v198 main_v201 (broadcastInDim S2097152 ![] bcast_S_S2097152 : (⟨S_, .f32⟩ : BufTy).Contents (Elt F) → (⟨S2097152, .f32⟩ : BufTy).Contents (Elt F)),
    StableHlo.binary main_v3 main_v201 main_v202 (cmpf .ogt : (⟨S2097152, .f32⟩ : BufTy).Contents (Elt F) → (⟨S2097152, .f32⟩ : BufTy).Contents (Elt F) → (⟨S2097152, .i1⟩ : BufTy).Contents (Elt F)),
    StableHlo.unary main_v200 main_v203 (broadcastInDim S2097152 ![] bcast_S_S2097152 : (⟨S_, .f32⟩ : BufTy).Contents (Elt F) → (⟨S2097152, .f32⟩ : BufTy).Contents (Elt F)),
    StableHlo.binary main_v3 main_v203 main_v204 (cmpf .ole : (⟨S2097152, .f32⟩ : BufTy).Contents (Elt F) → (⟨S2097152, .f32⟩ : BufTy).Contents (Elt F) → (⟨S2097152, .i1⟩ : BufTy).Contents (Elt F)),
    StableHlo.binary main_v202 main_v204 main_v205 (andi : (⟨S2097152, .i1⟩ : BufTy).Contents (Elt F) → (⟨S2097152, .i1⟩ : BufTy).Contents (Elt F) → (⟨S2097152, .i1⟩ : BufTy).Contents (Elt F)),
    StableHlo.unary main_v205 main_v206 (uitofp .f32 : (⟨S2097152, .i1⟩ : BufTy).Contents (Elt F) → (⟨S2097152, .f32⟩ : BufTy).Contents (Elt F)),
    StableHlo.nullary main_cst_59 (constant S_ .f32 0x00000000#32),
    StableHlo.binary main_v206 main_cst_59 main_v207 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_60 (constant S_ .f32 0x4A000000#32),
    StableHlo.binary main_v207 main_cst_60 main_v208 (Host.divf : (⟨S_, .f32⟩ : BufTy).Contents (Elt F) → (⟨S_, .f32⟩ : BufTy).Contents (Elt F) → (⟨S_, .f32⟩ : BufTy).Contents (Elt F)),
    StableHlo.nullary main_cst_61 (constant S_ .f32 0x00000000#32),
    StableHlo.binary main_v206 main_cst_61 main_v209 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_62 (constant S_ .f32 0x3F800000#32),
    StableHlo.binary main_v209 main_cst_62 main_v210 (maximumf : (⟨S_, .f32⟩ : BufTy).Contents (Elt F) → (⟨S_, .f32⟩ : BufTy).Contents (Elt F) → (⟨S_, .f32⟩ : BufTy).Contents (Elt F)),
    StableHlo.binary main_v6 main_v206 main_v211 (mulf : (⟨S2097152, .f32⟩ : BufTy).Contents (Elt F) → (⟨S2097152, .f32⟩ : BufTy).Contents (Elt F) → (⟨S2097152, .f32⟩ : BufTy).Contents (Elt F)),
    StableHlo.nullary main_cst_63 (constant S_ .f32 0x00000000#32),
    StableHlo.binary main_v211 main_cst_63 main_v212 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v212 main_v210 main_v213 (Host.divf : (⟨S_, .f32⟩ : BufTy).Contents (Elt F) → (⟨S_, .f32⟩ : BufTy).Contents (Elt F) → (⟨S_, .f32⟩ : BufTy).Contents (Elt F)),
    StableHlo.binary main_v3 main_v206 main_v214 (mulf : (⟨S2097152, .f32⟩ : BufTy).Contents (Elt F) → (⟨S2097152, .f32⟩ : BufTy).Contents (Elt F) → (⟨S2097152, .f32⟩ : BufTy).Contents (Elt F)),
    StableHlo.nullary main_cst_64 (constant S_ .f32 0x00000000#32),
    StableHlo.binary main_v214 main_cst_64 main_v215 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v215 main_v210 main_v216 (Host.divf : (⟨S_, .f32⟩ : BufTy).Contents (Elt F) → (⟨S_, .f32⟩ : BufTy).Contents (Elt F) → (⟨S_, .f32⟩ : BufTy).Contents (Elt F)),
    StableHlo.binary main_v216 main_v213 main_v217 (subf : (⟨S_, .f32⟩ : BufTy).Contents (Elt F) → (⟨S_, .f32⟩ : BufTy).Contents (Elt F) → (⟨S_, .f32⟩ : BufTy).Contents (Elt F)),
    StableHlo.unary main_v217 main_v218 (Host.absf : (⟨S_, .f32⟩ : BufTy).Contents (Elt F) → (⟨S_, .f32⟩ : BufTy).Contents (Elt F)),
    StableHlo.binary main_v218 main_v208 main_v219 (mulf : (⟨S_, .f32⟩ : BufTy).Contents (Elt F) → (⟨S_, .f32⟩ : BufTy).Contents (Elt F) → (⟨S_, .f32⟩ : BufTy).Contents (Elt F)),
    StableHlo.nullary main_cst_65 (constant S_ .f32 0x00000000#32),
    StableHlo.binary main_v208 main_cst_65 main_v220 (cmpf .ogt : (⟨S_, .f32⟩ : BufTy).Contents (Elt F) → (⟨S_, .f32⟩ : BufTy).Contents (Elt F) → (⟨S_, .i1⟩ : BufTy).Contents (Elt F)),
    StableHlo.nullary main_cst_66 (constant S_ .f32 0x00000000#32),
    StableHlo.TRef.unary (.of main_cst_66) main_call9.v0 id,
    StableHlo.TRef.ternary (.of main_v220) (.of main_v219) main_call9.v0 main_call9.v1 select,
    StableHlo.unary main_v221 main_v222 (broadcastInDim S1 ![] bcast_S_S1 : (⟨S_, .f32⟩ : BufTy).Contents (Elt F) → (⟨S1, .f32⟩ : BufTy).Contents (Elt F)),
    StableHlo.binary main_v196 main_v222 main_v223 (addf : (⟨S1, .f32⟩ : BufTy).Contents (Elt F) → (⟨S1, .f32⟩ : BufTy).Contents (Elt F) → (⟨S1, .f32⟩ : BufTy).Contents (Elt F)) ]

def bin7W : List (Ref sig .tc) := [main_v197, main_v198, main_v199, main_v200, main_v201, main_v202, main_v203, main_v204, main_v205, main_v206, main_cst_59, main_v207, main_cst_60, main_v208, main_cst_61, main_v209, main_cst_62, main_v210, main_v211, main_cst_63, main_v212, main_v213, main_v214, main_cst_64, main_v215, main_v216, main_v217, main_v218, main_v219, main_cst_65, main_v220, main_cst_66, main_call9_v0, main_v221, main_v222, main_v223]

theorem bin7_writes : (bin7 (F := F)).Forall fun op => op.writes ⊆ (bin7W.map (Proc.devRef (τ := τ) .tc)).toFinset :=
  StableHlo.forall_writes_sub_of_map rfl

theorem bin7_fresh : (bin7 (F := F)).Forall fun op => op.fresh = ∅ := StableHlo.forall_fresh_of_map rfl

theorem bin7_sub : (bin7 (F := F)).Forall fun op => op.bufs ⊆ StableHlo.tcRefs τ sig := by
  simp [bin7, StableHlo.TRef.nullary, StableHlo.TRef.unary, StableHlo.TRef.binary, StableHlo.TRef.reshape, StableHlo.TRef.ternary, StableHlo.TRef.quaternary]

def bin8 : List (HloOp τ sig (Elt F)) :=
  [ StableHlo.unary main_v1 main_v224 ((extractStridedSlice S1 ![8] · slices_S10_S1_8) : (⟨S10, .f32⟩ : BufTy).Contents (Elt F) → (⟨S1, .f32⟩ : BufTy).Contents (Elt F)),
    StableHlo.reshape main_v224 main_v225 (rfl : (.f32 : EltTy) = .f32) shapeCasts_S1_S_,
    StableHlo.unary main_v2 main_v226 ((extractStridedSlice S1 ![8] · slices_S10_S1_8) : (⟨S10, .f32⟩ : BufTy).Contents (Elt F) → (⟨S1, .f32⟩ : BufTy).Contents (Elt F)),
    StableHlo.reshape main_v226 main_v227 (rfl : (.f32 : EltTy) = .f32) shapeCasts_S1_S_,
    StableHlo.unary main_v225 main_v228 (broadcastInDim S2097152 ![] bcast_S_S2097152 : (⟨S_, .f32⟩ : BufTy).Contents (Elt F) → (⟨S2097152, .f32⟩ : BufTy).Contents (Elt F)),
    StableHlo.binary main_v3 main_v228 main_v229 (cmpf .ogt : (⟨S2097152, .f32⟩ : BufTy).Contents (Elt F) → (⟨S2097152, .f32⟩ : BufTy).Contents (Elt F) → (⟨S2097152, .i1⟩ : BufTy).Contents (Elt F)),
    StableHlo.unary main_v227 main_v230 (broadcastInDim S2097152 ![] bcast_S_S2097152 : (⟨S_, .f32⟩ : BufTy).Contents (Elt F) → (⟨S2097152, .f32⟩ : BufTy).Contents (Elt F)),
    StableHlo.binary main_v3 main_v230 main_v231 (cmpf .ole : (⟨S2097152, .f32⟩ : BufTy).Contents (Elt F) → (⟨S2097152, .f32⟩ : BufTy).Contents (Elt F) → (⟨S2097152, .i1⟩ : BufTy).Contents (Elt F)),
    StableHlo.binary main_v229 main_v231 main_v232 (andi : (⟨S2097152, .i1⟩ : BufTy).Contents (Elt F) → (⟨S2097152, .i1⟩ : BufTy).Contents (Elt F) → (⟨S2097152, .i1⟩ : BufTy).Contents (Elt F)),
    StableHlo.unary main_v232 main_v233 (uitofp .f32 : (⟨S2097152, .i1⟩ : BufTy).Contents (Elt F) → (⟨S2097152, .f32⟩ : BufTy).Contents (Elt F)),
    StableHlo.nullary main_cst_67 (constant S_ .f32 0x00000000#32),
    StableHlo.binary main_v233 main_cst_67 main_v234 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_68 (constant S_ .f32 0x4A000000#32),
    StableHlo.binary main_v234 main_cst_68 main_v235 (Host.divf : (⟨S_, .f32⟩ : BufTy).Contents (Elt F) → (⟨S_, .f32⟩ : BufTy).Contents (Elt F) → (⟨S_, .f32⟩ : BufTy).Contents (Elt F)),
    StableHlo.nullary main_cst_69 (constant S_ .f32 0x00000000#32),
    StableHlo.binary main_v233 main_cst_69 main_v236 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_70 (constant S_ .f32 0x3F800000#32),
    StableHlo.binary main_v236 main_cst_70 main_v237 (maximumf : (⟨S_, .f32⟩ : BufTy).Contents (Elt F) → (⟨S_, .f32⟩ : BufTy).Contents (Elt F) → (⟨S_, .f32⟩ : BufTy).Contents (Elt F)),
    StableHlo.binary main_v6 main_v233 main_v238 (mulf : (⟨S2097152, .f32⟩ : BufTy).Contents (Elt F) → (⟨S2097152, .f32⟩ : BufTy).Contents (Elt F) → (⟨S2097152, .f32⟩ : BufTy).Contents (Elt F)),
    StableHlo.nullary main_cst_71 (constant S_ .f32 0x00000000#32),
    StableHlo.binary main_v238 main_cst_71 main_v239 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v239 main_v237 main_v240 (Host.divf : (⟨S_, .f32⟩ : BufTy).Contents (Elt F) → (⟨S_, .f32⟩ : BufTy).Contents (Elt F) → (⟨S_, .f32⟩ : BufTy).Contents (Elt F)),
    StableHlo.binary main_v3 main_v233 main_v241 (mulf : (⟨S2097152, .f32⟩ : BufTy).Contents (Elt F) → (⟨S2097152, .f32⟩ : BufTy).Contents (Elt F) → (⟨S2097152, .f32⟩ : BufTy).Contents (Elt F)),
    StableHlo.nullary main_cst_72 (constant S_ .f32 0x00000000#32),
    StableHlo.binary main_v241 main_cst_72 main_v242 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v242 main_v237 main_v243 (Host.divf : (⟨S_, .f32⟩ : BufTy).Contents (Elt F) → (⟨S_, .f32⟩ : BufTy).Contents (Elt F) → (⟨S_, .f32⟩ : BufTy).Contents (Elt F)),
    StableHlo.binary main_v243 main_v240 main_v244 (subf : (⟨S_, .f32⟩ : BufTy).Contents (Elt F) → (⟨S_, .f32⟩ : BufTy).Contents (Elt F) → (⟨S_, .f32⟩ : BufTy).Contents (Elt F)),
    StableHlo.unary main_v244 main_v245 (Host.absf : (⟨S_, .f32⟩ : BufTy).Contents (Elt F) → (⟨S_, .f32⟩ : BufTy).Contents (Elt F)),
    StableHlo.binary main_v245 main_v235 main_v246 (mulf : (⟨S_, .f32⟩ : BufTy).Contents (Elt F) → (⟨S_, .f32⟩ : BufTy).Contents (Elt F) → (⟨S_, .f32⟩ : BufTy).Contents (Elt F)),
    StableHlo.nullary main_cst_73 (constant S_ .f32 0x00000000#32),
    StableHlo.binary main_v235 main_cst_73 main_v247 (cmpf .ogt : (⟨S_, .f32⟩ : BufTy).Contents (Elt F) → (⟨S_, .f32⟩ : BufTy).Contents (Elt F) → (⟨S_, .i1⟩ : BufTy).Contents (Elt F)),
    StableHlo.nullary main_cst_74 (constant S_ .f32 0x00000000#32),
    StableHlo.TRef.unary (.of main_cst_74) main_call10.v0 id,
    StableHlo.TRef.ternary (.of main_v247) (.of main_v246) main_call10.v0 main_call10.v1 select,
    StableHlo.unary main_v248 main_v249 (broadcastInDim S1 ![] bcast_S_S1 : (⟨S_, .f32⟩ : BufTy).Contents (Elt F) → (⟨S1, .f32⟩ : BufTy).Contents (Elt F)),
    StableHlo.binary main_v223 main_v249 main_v250 (addf : (⟨S1, .f32⟩ : BufTy).Contents (Elt F) → (⟨S1, .f32⟩ : BufTy).Contents (Elt F) → (⟨S1, .f32⟩ : BufTy).Contents (Elt F)) ]

def bin8W : List (Ref sig .tc) := [main_v224, main_v225, main_v226, main_v227, main_v228, main_v229, main_v230, main_v231, main_v232, main_v233, main_cst_67, main_v234, main_cst_68, main_v235, main_cst_69, main_v236, main_cst_70, main_v237, main_v238, main_cst_71, main_v239, main_v240, main_v241, main_cst_72, main_v242, main_v243, main_v244, main_v245, main_v246, main_cst_73, main_v247, main_cst_74, main_call10_v0, main_v248, main_v249, main_v250]

theorem bin8_writes : (bin8 (F := F)).Forall fun op => op.writes ⊆ (bin8W.map (Proc.devRef (τ := τ) .tc)).toFinset :=
  StableHlo.forall_writes_sub_of_map rfl

theorem bin8_fresh : (bin8 (F := F)).Forall fun op => op.fresh = ∅ := StableHlo.forall_fresh_of_map rfl

theorem bin8_sub : (bin8 (F := F)).Forall fun op => op.bufs ⊆ StableHlo.tcRefs τ sig := by
  simp [bin8, StableHlo.TRef.nullary, StableHlo.TRef.unary, StableHlo.TRef.binary, StableHlo.TRef.reshape, StableHlo.TRef.ternary, StableHlo.TRef.quaternary]

def bin9 : List (HloOp τ sig (Elt F)) :=
  [ StableHlo.unary main_v1 main_v251 ((extractStridedSlice S1 ![9] · slices_S10_S1_9) : (⟨S10, .f32⟩ : BufTy).Contents (Elt F) → (⟨S1, .f32⟩ : BufTy).Contents (Elt F)),
    StableHlo.reshape main_v251 main_v252 (rfl : (.f32 : EltTy) = .f32) shapeCasts_S1_S_,
    StableHlo.unary main_v2 main_v253 ((extractStridedSlice S1 ![9] · slices_S10_S1_9) : (⟨S10, .f32⟩ : BufTy).Contents (Elt F) → (⟨S1, .f32⟩ : BufTy).Contents (Elt F)),
    StableHlo.reshape main_v253 main_v254 (rfl : (.f32 : EltTy) = .f32) shapeCasts_S1_S_,
    StableHlo.unary main_v252 main_v255 (broadcastInDim S2097152 ![] bcast_S_S2097152 : (⟨S_, .f32⟩ : BufTy).Contents (Elt F) → (⟨S2097152, .f32⟩ : BufTy).Contents (Elt F)),
    StableHlo.binary main_v3 main_v255 main_v256 (cmpf .ogt : (⟨S2097152, .f32⟩ : BufTy).Contents (Elt F) → (⟨S2097152, .f32⟩ : BufTy).Contents (Elt F) → (⟨S2097152, .i1⟩ : BufTy).Contents (Elt F)),
    StableHlo.unary main_v254 main_v257 (broadcastInDim S2097152 ![] bcast_S_S2097152 : (⟨S_, .f32⟩ : BufTy).Contents (Elt F) → (⟨S2097152, .f32⟩ : BufTy).Contents (Elt F)),
    StableHlo.binary main_v3 main_v257 main_v258 (cmpf .ole : (⟨S2097152, .f32⟩ : BufTy).Contents (Elt F) → (⟨S2097152, .f32⟩ : BufTy).Contents (Elt F) → (⟨S2097152, .i1⟩ : BufTy).Contents (Elt F)),
    StableHlo.binary main_v256 main_v258 main_v259 (andi : (⟨S2097152, .i1⟩ : BufTy).Contents (Elt F) → (⟨S2097152, .i1⟩ : BufTy).Contents (Elt F) → (⟨S2097152, .i1⟩ : BufTy).Contents (Elt F)),
    StableHlo.unary main_v259 main_v260 (uitofp .f32 : (⟨S2097152, .i1⟩ : BufTy).Contents (Elt F) → (⟨S2097152, .f32⟩ : BufTy).Contents (Elt F)),
    StableHlo.nullary main_cst_75 (constant S_ .f32 0x00000000#32),
    StableHlo.binary main_v260 main_cst_75 main_v261 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_76 (constant S_ .f32 0x4A000000#32),
    StableHlo.binary main_v261 main_cst_76 main_v262 (Host.divf : (⟨S_, .f32⟩ : BufTy).Contents (Elt F) → (⟨S_, .f32⟩ : BufTy).Contents (Elt F) → (⟨S_, .f32⟩ : BufTy).Contents (Elt F)),
    StableHlo.nullary main_cst_77 (constant S_ .f32 0x00000000#32),
    StableHlo.binary main_v260 main_cst_77 main_v263 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_78 (constant S_ .f32 0x3F800000#32),
    StableHlo.binary main_v263 main_cst_78 main_v264 (maximumf : (⟨S_, .f32⟩ : BufTy).Contents (Elt F) → (⟨S_, .f32⟩ : BufTy).Contents (Elt F) → (⟨S_, .f32⟩ : BufTy).Contents (Elt F)),
    StableHlo.binary main_v6 main_v260 main_v265 (mulf : (⟨S2097152, .f32⟩ : BufTy).Contents (Elt F) → (⟨S2097152, .f32⟩ : BufTy).Contents (Elt F) → (⟨S2097152, .f32⟩ : BufTy).Contents (Elt F)),
    StableHlo.nullary main_cst_79 (constant S_ .f32 0x00000000#32),
    StableHlo.binary main_v265 main_cst_79 main_v266 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v266 main_v264 main_v267 (Host.divf : (⟨S_, .f32⟩ : BufTy).Contents (Elt F) → (⟨S_, .f32⟩ : BufTy).Contents (Elt F) → (⟨S_, .f32⟩ : BufTy).Contents (Elt F)),
    StableHlo.binary main_v3 main_v260 main_v268 (mulf : (⟨S2097152, .f32⟩ : BufTy).Contents (Elt F) → (⟨S2097152, .f32⟩ : BufTy).Contents (Elt F) → (⟨S2097152, .f32⟩ : BufTy).Contents (Elt F)),
    StableHlo.nullary main_cst_80 (constant S_ .f32 0x00000000#32),
    StableHlo.binary main_v268 main_cst_80 main_v269 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.binary main_v269 main_v264 main_v270 (Host.divf : (⟨S_, .f32⟩ : BufTy).Contents (Elt F) → (⟨S_, .f32⟩ : BufTy).Contents (Elt F) → (⟨S_, .f32⟩ : BufTy).Contents (Elt F)),
    StableHlo.binary main_v270 main_v267 main_v271 (subf : (⟨S_, .f32⟩ : BufTy).Contents (Elt F) → (⟨S_, .f32⟩ : BufTy).Contents (Elt F) → (⟨S_, .f32⟩ : BufTy).Contents (Elt F)),
    StableHlo.unary main_v271 main_v272 (Host.absf : (⟨S_, .f32⟩ : BufTy).Contents (Elt F) → (⟨S_, .f32⟩ : BufTy).Contents (Elt F)),
    StableHlo.binary main_v272 main_v262 main_v273 (mulf : (⟨S_, .f32⟩ : BufTy).Contents (Elt F) → (⟨S_, .f32⟩ : BufTy).Contents (Elt F) → (⟨S_, .f32⟩ : BufTy).Contents (Elt F)),
    StableHlo.nullary main_cst_81 (constant S_ .f32 0x00000000#32),
    StableHlo.binary main_v262 main_cst_81 main_v274 (cmpf .ogt : (⟨S_, .f32⟩ : BufTy).Contents (Elt F) → (⟨S_, .f32⟩ : BufTy).Contents (Elt F) → (⟨S_, .i1⟩ : BufTy).Contents (Elt F)),
    StableHlo.nullary main_cst_82 (constant S_ .f32 0x00000000#32),
    StableHlo.TRef.unary (.of main_cst_82) main_call11.v0 id,
    StableHlo.TRef.ternary (.of main_v274) (.of main_v273) main_call11.v0 main_call11.v1 select,
    StableHlo.unary main_v275 main_v276 (broadcastInDim S1 ![] bcast_S_S1 : (⟨S_, .f32⟩ : BufTy).Contents (Elt F) → (⟨S1, .f32⟩ : BufTy).Contents (Elt F)),
    StableHlo.binary main_v250 main_v276 main_v277 (addf : (⟨S1, .f32⟩ : BufTy).Contents (Elt F) → (⟨S1, .f32⟩ : BufTy).Contents (Elt F) → (⟨S1, .f32⟩ : BufTy).Contents (Elt F)) ]

def bin9W : List (Ref sig .tc) := [main_v251, main_v252, main_v253, main_v254, main_v255, main_v256, main_v257, main_v258, main_v259, main_v260, main_cst_75, main_v261, main_cst_76, main_v262, main_cst_77, main_v263, main_cst_78, main_v264, main_v265, main_cst_79, main_v266, main_v267, main_v268, main_cst_80, main_v269, main_v270, main_v271, main_v272, main_v273, main_cst_81, main_v274, main_cst_82, main_call11_v0, main_v275, main_v276, main_v277]

theorem bin9_writes : (bin9 (F := F)).Forall fun op => op.writes ⊆ (bin9W.map (Proc.devRef (τ := τ) .tc)).toFinset :=
  StableHlo.forall_writes_sub_of_map rfl

theorem bin9_fresh : (bin9 (F := F)).Forall fun op => op.fresh = ∅ := StableHlo.forall_fresh_of_map rfl

theorem bin9_sub : (bin9 (F := F)).Forall fun op => op.bufs ⊆ StableHlo.tcRefs τ sig := by
  simp [bin9, StableHlo.TRef.nullary, StableHlo.TRef.unary, StableHlo.TRef.binary, StableHlo.TRef.reshape, StableHlo.TRef.ternary, StableHlo.TRef.quaternary]

def ops : List (HloOp τ sig (Elt F)) :=
  pre ++ (bin0 ++ (bin1 ++ (bin2 ++ (bin3 ++ (bin4 ++ (bin5 ++ (bin6 ++ (bin7 ++ (bin8 ++ bin9)))))))))

set_option maxHeartbeats 40000000 in
set_option maxRecDepth 100000 in
theorem main_eq (d : Dev nD) : main (F := F) d = seq ops := by
  simp only [main, main_part0, main_part1, main_part2, main_part3, main_part4, main_part5, main_part6,
    fn_linspace.body, fn_argmax.body, fn_where.body, ops, pre, bin0, bin1, bin2, bin3, bin4, bin5, bin6, bin7, bin8, bin9,
    List.cons_append, List.nil_append, seq, bind_assoc, pure_bind, bind_pure]

end Cert.Proof.Ref

end
-- ==== Proof.RefBins.lean ====
/-
  What one bin's stretch of the reference does: it adds the bin's contribution to the sum so far, from the rows'
  confidences and hits and the bin's two bounds, and leaves those as they are.
-/
module

public import proofs.«01_k».proof.Proof.RefOps
public import Idealize.ShloMosaic.PureOps.Ideal.Laws
public import Idealize.ShloMosaic.Lib.StableHlo.RunClose
public import Idealize.ShloMosaic.Lib.Pipeline.Frame

@[expose] public section

noncomputable section

namespace Cert.Proof.Ref

open Cert.ReferenceIdeal Cert.ReferenceIdeal.Gen

open Idealize.ShloMosaic Idealize.SL.Sem
open Idealize.ShloMosaic.StableHlo (seq after)

variable {F : FTy → Type} [FloatOps F]

/-- Which rows are in the bin from `lo` to `hi`, as ones and zeros. -/
def inBin (lo hi : S_.Idx → F .f32) (conf : S2097152.Idx → F .f32) : S2097152.Idx → F .f32 :=
  uitofp .f32 (andi (cmpf .ogt conf (broadcastInDim S2097152 ![] bcast_S_S2097152 lo)) (cmpf .ole conf (broadcastInDim S2097152 ![] bcast_S_S2097152 hi)))

def sumRows (x : S2097152.Idx → F .f32) : S_.Idx → F .f32 :=
  Host.reduceAdd x (constant S_ .f32 0x00000000#32) reducesTo_S2097152_S_d0 h_S_

/-- A bin's contribution from its count, its hits and its sum of confidences. -/
def contrib (n a c : S_.Idx → F .f32) : S_.Idx → F .f32 :=
  select (cmpf .ogt (Host.divf n (constant S_ .f32 0x4A000000#32)) (constant S_ .f32 0x00000000#32))
    (mulf (Host.absf (subf (Host.divf c (maximumf n (constant S_ .f32 0x3F800000#32))) (Host.divf a (maximumf n (constant S_ .f32 0x3F800000#32)))))
      (Host.divf n (constant S_ .f32 0x4A000000#32)))
    (constant S_ .f32 0x00000000#32)

/-- The sum so far with one more bin. -/
def addBin (acc : S1.Idx → F .f32) (lo hi : S_.Idx → F .f32) (conf hit : S2097152.Idx → F .f32) : S1.Idx → F .f32 :=
  addf acc (broadcastInDim S1 ![] bcast_S_S1 (contrib (sumRows (inBin lo hi conf)) (sumRows (mulf hit (inBin lo hi conf)))
    (sumRows (mulf conf (inBin lo hi conf)))))

/-- Entry `k` of a vector of ten. -/
def entry {k : ℕ} (h : S10.Slices ![k] S1) (x : S10.Idx → F .f32) : S_.Idx → F .f32 :=
  shapeCast S_ (extractStridedSlice S1 ![k] x h) shapeCasts_S1_S_

variable (V : Valuation τ sig (Elt F))

set_option maxHeartbeats 4000000 in
theorem bin0_acc : after bin0 V (Proc.devRef .tc main_v34)
    = addBin (V (Proc.devRef .tc main_v7)) (entry slices_S10_S1_0 (V (Proc.devRef .tc main_v1))) (entry slices_S10_S1_0 (V (Proc.devRef .tc main_v2)))
        (V (Proc.devRef .tc main_v3)) (V (Proc.devRef .tc main_v6)) := by
  unfold bin0
  after_results_simp
  rfl

set_option maxHeartbeats 4000000 in
theorem bin1_acc : after bin1 V (Proc.devRef .tc main_v61)
    = addBin (V (Proc.devRef .tc main_v34)) (entry slices_S10_S1_1 (V (Proc.devRef .tc main_v1))) (entry slices_S10_S1_1 (V (Proc.devRef .tc main_v2)))
        (V (Proc.devRef .tc main_v3)) (V (Proc.devRef .tc main_v6)) := by
  unfold bin1
  after_results_simp
  rfl

set_option maxHeartbeats 4000000 in
theorem bin2_acc : after bin2 V (Proc.devRef .tc main_v88)
    = addBin (V (Proc.devRef .tc main_v61)) (entry slices_S10_S1_2 (V (Proc.devRef .tc main_v1))) (entry slices_S10_S1_2 (V (Proc.devRef .tc main_v2)))
        (V (Proc.devRef .tc main_v3)) (V (Proc.devRef .tc main_v6)) := by
  unfold bin2
  after_results_simp
  rfl

set_option maxHeartbeats 4000000 in
theorem bin3_acc : after bin3 V (Proc.devRef .tc main_v115)
    = addBin (V (Proc.devRef .tc main_v88)) (entry slices_S10_S1_3 (V (Proc.devRef .tc main_v1))) (entry slices_S10_S1_3 (V (Proc.devRef .tc main_v2)))
        (V (Proc.devRef .tc main_v3)) (V (Proc.devRef .tc main_v6)) := by
  unfold bin3
  after_results_simp
  rfl

set_option maxHeartbeats 4000000 in
theorem bin4_acc : after bin4 V (Proc.devRef .tc main_v142)
    = addBin (V (Proc.devRef .tc main_v115)) (entry slices_S10_S1_4 (V (Proc.devRef .tc main_v1))) (entry slices_S10_S1_4 (V (Proc.devRef .tc main_v2)))
        (V (Proc.devRef .tc main_v3)) (V (Proc.devRef .tc main_v6)) := by
  unfold bin4
  after_results_simp
  rfl

set_option maxHeartbeats 4000000 in
theorem bin5_acc : after bin5 V (Proc.devRef .tc main_v169)
    = addBin (V (Proc.devRef .tc main_v142)) (entry slices_S10_S1_5 (V (Proc.devRef .tc main_v1))) (entry slices_S10_S1_5 (V (Proc.devRef .tc main_v2)))
        (V (Proc.devRef .tc main_v3)) (V (Proc.devRef .tc main_v6)) := by
  unfold bin5
  after_results_simp
  rfl

set_option maxHeartbeats 4000000 in
theorem bin6_acc : after bin6 V (Proc.devRef .tc main_v196)
    = addBin (V (Proc.devRef .tc main_v169)) (entry slices_S10_S1_6 (V (Proc.devRef .tc main_v1))) (entry slices_S10_S1_6 (V (Proc.devRef .tc main_v2)))
        (V (Proc.devRef .tc main_v3)) (V (Proc.devRef .tc main_v6)) := by
  unfold bin6
  after_results_simp
  rfl

set_option maxHeartbeats 4000000 in
theorem bin7_acc : after bin7 V (Proc.devRef .tc main_v223)
    = addBin (V (Proc.devRef .tc main_v196)) (entry slices_S10_S1_7 (V (Proc.devRef .tc main_v1))) (entry slices_S10_S1_7 (V (Proc.devRef .tc main_v2)))
        (V (Proc.devRef .tc main_v3)) (V (Proc.devRef .tc main_v6)) := by
  unfold bin7
  after_results_simp
  rfl

set_option maxHeartbeats 4000000 in
theorem bin8_acc : after bin8 V (Proc.devRef .tc main_v250)
    = addBin (V (Proc.devRef .tc main_v223)) (entry slices_S10_S1_8 (V (Proc.devRef .tc main_v1))) (entry slices_S10_S1_8 (V (Proc.devRef .tc main_v2)))
        (V (Proc.devRef .tc main_v3)) (V (Proc.devRef .tc main_v6)) := by
  unfold bin8
  after_results_simp
  rfl

set_option maxHeartbeats 4000000 in
theorem bin9_acc : after bin9 V (Proc.devRef .tc main_v277)
    = addBin (V (Proc.devRef .tc main_v250)) (entry slices_S10_S1_9 (V (Proc.devRef .tc main_v1))) (entry slices_S10_S1_9 (V (Proc.devRef .tc main_v2)))
        (V (Proc.devRef .tc main_v3)) (V (Proc.devRef .tc main_v6)) := by
  unfold bin9
  after_results_simp
  rfl

/-- The reference's result from what comes before the bins. -/
theorem ops_result : after ops V (Proc.devRef .tc main_v277)
    = (let W := after pre V
       let lo := W (Proc.devRef .tc main_v1); let hi := W (Proc.devRef .tc main_v2)
       let conf := W (Proc.devRef .tc main_v3); let hit := W (Proc.devRef .tc main_v6)
       let s : {k : ℕ} → S10.Slices ![k] S1 → (S1.Idx → F .f32) → (S1.Idx → F .f32) := fun h acc => addBin acc (entry h lo) (entry h hi) conf hit
       (s slices_S10_S1_9 (s slices_S10_S1_8 (s slices_S10_S1_7 (s slices_S10_S1_6 (s slices_S10_S1_5 (s slices_S10_S1_4 (s slices_S10_S1_3 (s slices_S10_S1_2 (s slices_S10_S1_1 (s slices_S10_S1_0 (W (Proc.devRef .tc main_v7))))))))))))) := by
  simp only [ops, StableHlo.after_append]
  rw [bin9_acc]
  rw [bin8_acc, StableHlo.after_of_writes_sub _ _ bin8_writes (show main_v1 ∉ bin8W by decide), StableHlo.after_of_writes_sub _ _ bin8_writes (show main_v2 ∉ bin8W by decide),
    StableHlo.after_of_writes_sub _ _ bin8_writes (show main_v3 ∉ bin8W by decide), StableHlo.after_of_writes_sub _ _ bin8_writes (show main_v6 ∉ bin8W by decide)]
  rw [bin7_acc, StableHlo.after_of_writes_sub _ _ bin7_writes (show main_v1 ∉ bin7W by decide), StableHlo.after_of_writes_sub _ _ bin7_writes (show main_v2 ∉ bin7W by decide),
    StableHlo.after_of_writes_sub _ _ bin7_writes (show main_v3 ∉ bin7W by decide), StableHlo.after_of_writes_sub _ _ bin7_writes (show main_v6 ∉ bin7W by decide)]
  rw [bin6_acc, StableHlo.after_of_writes_sub _ _ bin6_writes (show main_v1 ∉ bin6W by decide), StableHlo.after_of_writes_sub _ _ bin6_writes (show main_v2 ∉ bin6W by decide),
    StableHlo.after_of_writes_sub _ _ bin6_writes (show main_v3 ∉ bin6W by decide), StableHlo.after_of_writes_sub _ _ bin6_writes (show main_v6 ∉ bin6W by decide)]
  rw [bin5_acc, StableHlo.after_of_writes_sub _ _ bin5_writes (show main_v1 ∉ bin5W by decide), StableHlo.after_of_writes_sub _ _ bin5_writes (show main_v2 ∉ bin5W by decide),
    StableHlo.after_of_writes_sub _ _ bin5_writes (show main_v3 ∉ bin5W by decide), StableHlo.after_of_writes_sub _ _ bin5_writes (show main_v6 ∉ bin5W by decide)]
  rw [bin4_acc, StableHlo.after_of_writes_sub _ _ bin4_writes (show main_v1 ∉ bin4W by decide), StableHlo.after_of_writes_sub _ _ bin4_writes (show main_v2 ∉ bin4W by decide),
    StableHlo.after_of_writes_sub _ _ bin4_writes (show main_v3 ∉ bin4W by decide), StableHlo.after_of_writes_sub _ _ bin4_writes (show main_v6 ∉ bin4W by decide)]
  rw [bin3_acc, StableHlo.after_of_writes_sub _ _ bin3_writes (show main_v1 ∉ bin3W by decide), StableHlo.after_of_writes_sub _ _ bin3_writes (show main_v2 ∉ bin3W by decide),
    StableHlo.after_of_writes_sub _ _ bin3_writes (show main_v3 ∉ bin3W by decide), StableHlo.after_of_writes_sub _ _ bin3_writes (show main_v6 ∉ bin3W by decide)]
  rw [bin2_acc, StableHlo.after_of_writes_sub _ _ bin2_writes (show main_v1 ∉ bin2W by decide), StableHlo.after_of_writes_sub _ _ bin2_writes (show main_v2 ∉ bin2W by decide),
    StableHlo.after_of_writes_sub _ _ bin2_writes (show main_v3 ∉ bin2W by decide), StableHlo.after_of_writes_sub _ _ bin2_writes (show main_v6 ∉ bin2W by decide)]
  rw [bin1_acc, StableHlo.after_of_writes_sub _ _ bin1_writes (show main_v1 ∉ bin1W by decide), StableHlo.after_of_writes_sub _ _ bin1_writes (show main_v2 ∉ bin1W by decide),
    StableHlo.after_of_writes_sub _ _ bin1_writes (show main_v3 ∉ bin1W by decide), StableHlo.after_of_writes_sub _ _ bin1_writes (show main_v6 ∉ bin1W by decide)]
  rw [bin0_acc, StableHlo.after_of_writes_sub _ _ bin0_writes (show main_v1 ∉ bin0W by decide), StableHlo.after_of_writes_sub _ _ bin0_writes (show main_v2 ∉ bin0W by decide),
    StableHlo.after_of_writes_sub _ _ bin0_writes (show main_v3 ∉ bin0W by decide), StableHlo.after_of_writes_sub _ _ bin0_writes (show main_v6 ∉ bin0W by decide)]

end Cert.Proof.Ref

end
-- ==== Proof.RefPre.lean ====
/-
  What stands before the reference's bins: the bounds' two slices, the rows' maxima and hits, the sum's start at zero.
-/
module

public import proofs.«01_k».proof.Proof.RefBins

@[expose] public section

noncomputable section

namespace Cert.Proof.Ref

open Cert.ReferenceIdeal Cert.ReferenceIdeal.Gen

open Idealize.ShloMosaic Idealize.SL.Sem
open Idealize.ShloMosaic.StableHlo (seq after)

variable {F : FTy → Type} [FloatOps F]

/-- Entry `i` is `i / 10`. -/
def tenths : S10.Idx → F .f32 :=
  Host.divf (sitofp .f32 (iotaInDim S10 32 0)) (broadcastInDim S10 ![] bcast_S_S10 (constant S_ .f32 0x41200000#32))

/-- The first ten of the eleven bounds: the way from 0 to 1 in tenths. -/
def way : S10.Idx → F .f32 :=
  addf
    (mulf (broadcastInDim S10 ![0] bcast_S1_S10_0 (shapeCast S1 (constant S_ .f32 0x00000000#32) shapeCasts_S_S1))
      (subf (broadcastInDim S10 ![] bcast_S_S10 (constant S_ .f32 0x3F800000#32)) tenths))
    (mulf (broadcastInDim S10 ![0] bcast_S1_S10_0 (shapeCast S1 (constant S_ .f32 0x3F800000#32) shapeCasts_S_S1)) tenths)

/-- The eleven bounds. -/
def bounds : S11.Idx → F .f32 :=
  concatenate S11 0 [⟨S10, way⟩, ⟨S1, broadcastInDim S1 ![] bcast_S_S1 (constant S_ .f32 0x3F800000#32)⟩] concatenates_S10_S1_S11_d0

variable (V : Valuation τ sig (Elt F))

set_option maxHeartbeats 4000000 in
theorem pre_lo : after pre V (Proc.devRef .tc main_v1) = extractStridedSlice S10 ![0] bounds slices_S11_S10_0 := by
  unfold pre
  after_results_simp
  rfl

set_option maxHeartbeats 4000000 in
theorem pre_hi : after pre V (Proc.devRef .tc main_v2) = extractStridedSlice S10 ![1] bounds slices_S11_S10_1 := by
  unfold pre
  after_results_simp
  rfl

set_option maxHeartbeats 4000000 in
theorem pre_conf : after pre V (Proc.devRef .tc main_v3)
    = Host.reduce FloatOps.maximumf (V (Proc.devRef .tc main_arg0)) (constant S_ .f32 0xFF800000#32) reducesTo_S2097152x32_S2097152_d1 h_S_ := by
  unfold pre
  after_results_simp

set_option maxHeartbeats 4000000 in
theorem pre_hit : after pre V (Proc.devRef .tc main_v6)
    = uitofp .f32 (cmpi .eq (fun j => (Host.argReduce reducer_argmax_f32_i32 (V (Proc.devRef .tc main_arg0)) (iotaInDim S2097152x32 32 1)
          (constant S_ .f32 0xFF800000#32) (constantI S_ 32 0#32) reducesTo_S2097152x32_S2097152_d1 h_S_ j).2)
        (V (Proc.devRef .tc main_arg1))) := by
  unfold pre
  after_results_simp
  rfl

set_option maxHeartbeats 4000000 in
theorem pre_zero : after pre V (Proc.devRef .tc main_v7) = broadcastInDim S1 ![] bcast_S_S1 (constant S_ .f32 0x00000000#32) := by
  unfold pre
  after_results_simp

end Cert.Proof.Ref

end
-- ==== Proof.RefIdeal.lean ====
/-
  The reference over the extended reals: its bounds are the tenths, a bin's count, hits and confidences are sums over the
  rows whose confidence lies in the bin, and its result the sum of the ten contributions.
-/
module

public import proofs.«01_k».proof.Proof.RefPre
public import proofs.«01_k».proof.Proof.RowIdeal
public import Idealize.ShloMosaic.Lib.Pipeline.Value
public import Idealize.ShloMosaic.Lib.IdealHost

@[expose] public section

noncomputable section

namespace Cert.Proof.Ref

open Cert.ReferenceIdeal Cert.ReferenceIdeal.Gen Cert.Ece

open Idealize.ShloMosaic Idealize.SL.Sem
open Idealize.ShloMosaic.StableHlo (seq after)
open scoped BigOperators

/-! ## Constants and bounds -/

theorem ofBits_ten : Ideal.ofBits .f32 0x41200000#32 = ((10 : ℝ) : EReal) := by
  simp [Ideal.ofBits, Ideal.ieee, -EReal.coe_mul]; norm_num

theorem ofBits_bot : Ideal.ofBits .f32 0xFF800000#32 = ⊥ := by
  simp [Ideal.ofBits, Ideal.ieee]

/-- `k / 10`. -/
def tenth (k : ℕ) : EReal := (((k : ℝ) / 10 : ℝ) : EReal)

theorem div_ten (x : ℝ) : Ideal.div (x : EReal) ((10 : ℝ) : EReal) = ((x / 10 : ℝ) : EReal) := by
  unfold Ideal.div
  rw [if_neg (by exact_mod_cast (by norm_num : (10 : ℝ) ≠ 0)), ← EReal.coe_inv, ← EReal.coe_mul]
  rfl

theorem tenths_apply (i : S10.Idx) : tenths (F := Ideal) i = tenth (i 0).val := by
  have hi : ((BitVec.ofNat 32 (i 0).val).toInt : ℝ) = ((i 0).val : ℝ) := by
    rw [toInt_col _ (lt_trans (i 0).isLt (by norm_num))]; exact Int.cast_natCast _
  show Ideal.div (((BitVec.ofNat 32 (i 0).val).toInt : ℝ) : EReal) (Ideal.ofBits .f32 0x41200000#32) = _
  rw [ofBits_ten, div_ten, hi]; rfl

theorem way_apply (i : S10.Idx) : way (F := Ideal) i = tenth (i 0).val := by
  show Ideal.ofBits .f32 0x00000000#32 * (Ideal.ofBits .f32 0x3F800000#32 - tenths (F := Ideal) i)
    + Ideal.ofBits .f32 0x3F800000#32 * tenths (F := Ideal) i = _
  rw [Ideal.ofBits_zero_f32, Ideal.ofBits_one_f32, zero_mul, one_mul, zero_add, tenths_apply]

/-- The place `k` of ten, and the only place of one. -/
def idx10 (k : ℕ) (h : k < 10) : S10.Idx
  | 0 => ⟨k, h⟩
def idx0 : S1.Idx
  | 0 => ⟨0, Nat.one_pos⟩

theorem bounds_apply (i : S11.Idx) : bounds (F := Ideal) i = tenth (i 0).val := by
  unfold bounds
  by_cases h : (i 0).val < 10
  · refine (concatenate_pair_apply_left (s₁ := S10) (s₂ := S1) (0 : Fin S11.rank) _ _ _ i rfl (idx10 _ h) (fun | 0 => rfl)).trans ?_
    exact way_apply _
  · have hi : (i 0).val = 10 := by have : (i 0).val < 11 := (i 0).isLt; omega
    refine (concatenate_pair_apply_right (s₁ := S10) (s₂ := S1) (0 : Fin S11.rank) _ _ _ i rfl rfl idx0
      (fun | 0 => fun hb => absurd rfl hb) (by rw [hi]; rfl)).trans ?_
    rw [hi]
    show Ideal.ofBits .f32 0x3F800000#32 = _
    rw [Ideal.ofBits_one_f32]
    unfold tenth; norm_num

theorem entry_lo {k : ℕ} (h : S10.Slices ![k] S1) (i : S_.Idx) :
    entry (F := Ideal) h (extractStridedSlice S10 ![0] bounds slices_S11_S10_0) i = tenth k := by
  unfold entry shapeCast extractStridedSlice
  rw [bounds_apply]
  refine congrArg tenth ?_
  show 0 + (k + ((Shape.reshapeEquiv shapeCasts_S1_S_ i : S1.Idx) 0).val) = k
  have : ((Shape.reshapeEquiv shapeCasts_S1_S_ i : S1.Idx) 0).val < 1 := ((Shape.reshapeEquiv shapeCasts_S1_S_ i : S1.Idx) 0).isLt
  omega

theorem entry_hi {k : ℕ} (h : S10.Slices ![k] S1) (i : S_.Idx) :
    entry (F := Ideal) h (extractStridedSlice S10 ![1] bounds slices_S11_S10_1) i = tenth (k + 1) := by
  unfold entry shapeCast extractStridedSlice
  rw [bounds_apply]
  refine congrArg tenth ?_
  show 1 + (k + ((Shape.reshapeEquiv shapeCasts_S1_S_ i : S1.Idx) 0).val) = k + 1
  have : ((Shape.reshapeEquiv shapeCasts_S1_S_ i : S1.Idx) 0).val < 1 := ((Shape.reshapeEquiv shapeCasts_S1_S_ i : S1.Idx) 0).isLt
  omega

/-! ## Sums over the rows -/

/-- Row `n`. -/
def idx1 (n : ℕ) : S2097152.Idx
  | 0 => ⟨n % 2097152, Nat.mod_lt _ (by decide)⟩

theorem sum_idx (f : S2097152.Idx → EReal) : ∑ i, f i = ∑ n ∈ Finset.range 2097152, f (idx1 n) := by
  have e : ∀ i : S2097152.Idx, idx1 (i 0).val = i := by
    intro i; funext a
    match a with
    | 0 => exact Fin.ext (Nat.mod_eq_of_lt (i 0).isLt)
  refine Finset.sum_nbij' (fun i => (i 0).val) idx1 ?_ ?_ ?_ ?_ ?_
  · exact fun i _ => Finset.mem_range.2 (i 0).isLt
  · exact fun n _ => Finset.mem_univ _
  · exact fun i _ => e i
  · exact fun n hn => Nat.mod_eq_of_lt (Finset.mem_range.1 hn)
  · exact fun i _ => by rw [e]

theorem sumRows_apply (x : S2097152.Idx → EReal) (i : S_.Idx) :
    sumRows (F := Ideal) x i = ∑ n ∈ Finset.range 2097152, x (idx1 n) := by
  show Ideal.hostReduceAdd reducesTo_S2097152_S_d0 x (Ideal.ofBits .f32 0x00000000#32) i = _
  rw [Ideal.hostReduceAdd_total _ (fun b => b.elim0), sum_idx, Ideal.ofBits_zero_f32, zero_add]

theorem uitofp_one (b : BitVec 1) : FloatOps.uitofp (F := Ideal) .f32 b = if b = 1#1 then 1 else 0 := by
  show (((b.toNat : ℝ)) : EReal) = _
  rcases BitVec.eq_zero_or_eq_one b with rfl | rfl <;> simp

theorem inBin_apply (lo hi : S_.Idx → EReal) (l h : EReal) (hl : ∀ i, lo i = l) (hh : ∀ i, hi i = h) (conf : S2097152.Idx → EReal) (j : S2097152.Idx) :
    inBin (F := Ideal) lo hi conf j = if l < conf j ∧ conf j ≤ h then 1 else 0 := by
  show FloatOps.uitofp (F := Ideal) .f32 (IntOp.andi (Ideal.cmp .ogt (conf j) (lo _)) (Ideal.cmp .ole (conf j) (hi _))) = _
  rw [hl, hh, uitofp_one]
  by_cases h1 : l < conf j <;> by_cases h2 : conf j ≤ h <;> simp [Ideal.cmp, IntOp.andi, h1, h2]

/-- One bin's contribution, from its three sums. -/
def con (n a c : EReal) : EReal :=
  Scalar.select (Ideal.cmp .ogt (Ideal.div n (Ideal.ofBits .f32 0x4A000000#32)) 0)
    ((FloatOps.absf (F := Ideal) (φ := .f32) (Ideal.div c (max n 1) - Ideal.div a (max n 1))) * Ideal.div n (Ideal.ofBits .f32 0x4A000000#32)) 0

theorem contrib_apply (n a c : S_.Idx → EReal) (i : S_.Idx) : contrib (F := Ideal) n a c i = con (n i) (a i) (c i) := by
  unfold con; rw [← Ideal.ofBits_zero_f32, ← Ideal.ofBits_one_f32]; rfl

/-- The count, the hits and the confidences of the rows in bin `k`. -/
def cntB (cf : ℕ → EReal) (k : ℕ) : EReal :=
  ∑ n ∈ Finset.range 2097152, if tenth k < cf n ∧ cf n ≤ tenth (k + 1) then 1 else 0
def hitB (cf ht : ℕ → EReal) (k : ℕ) : EReal :=
  ∑ n ∈ Finset.range 2097152, if tenth k < cf n ∧ cf n ≤ tenth (k + 1) then ht n else 0
def confB (cf : ℕ → EReal) (k : ℕ) : EReal :=
  ∑ n ∈ Finset.range 2097152, if tenth k < cf n ∧ cf n ≤ tenth (k + 1) then cf n else 0

theorem addBin_apply (acc : S1.Idx → EReal) (lo hi : S_.Idx → EReal) (k : ℕ) (hl : ∀ i, lo i = tenth k) (hh : ∀ i, hi i = tenth (k + 1))
    (conf hit : S2097152.Idx → EReal) (cf ht : ℕ → EReal) (hc : ∀ n < 2097152, conf (idx1 n) = cf n) (hht : ∀ n < 2097152, hit (idx1 n) = ht n) (i : S1.Idx) :
    addBin (F := Ideal) acc lo hi conf hit i = acc i + con (cntB cf k) (hitB cf ht k) (confB cf k) := by
  show acc i + contrib (F := Ideal) _ _ _ _ = _
  have e1 : sumRows (F := Ideal) (inBin lo hi conf) = fun _ => cntB cf k := by
    funext j; rw [sumRows_apply]
    refine Finset.sum_congr rfl fun n hn => ?_
    rw [inBin_apply lo hi _ _ hl hh, hc n (Finset.mem_range.1 hn)]
  have e2 : sumRows (F := Ideal) (mulf (F := Ideal) (φ := .f32) hit (inBin lo hi conf)) = fun _ => hitB cf ht k := by
    funext j; rw [sumRows_apply]
    refine Finset.sum_congr rfl fun n hn => ?_
    show hit (idx1 n) * inBin (F := Ideal) lo hi conf (idx1 n) = _
    rw [inBin_apply lo hi _ _ hl hh, hc n (Finset.mem_range.1 hn), hht n (Finset.mem_range.1 hn), mul_ite, mul_one, mul_zero]
  have e3 : sumRows (F := Ideal) (mulf (F := Ideal) (φ := .f32) conf (inBin lo hi conf)) = fun _ => confB cf k := by
    funext j; rw [sumRows_apply]
    refine Finset.sum_congr rfl fun n hn => ?_
    show conf (idx1 n) * inBin (F := Ideal) lo hi conf (idx1 n) = _
    rw [inBin_apply lo hi _ _ hl hh, hc n (Finset.mem_range.1 hn), mul_ite, mul_one, mul_zero]
  rw [contrib_apply, e1, e2, e3]

/-! ## The result -/

/-- Row `n`'s confidence, and whether its best column is its label. -/
def cfOf (X : S2097152x32.Idx → EReal) (n : ℕ) : EReal := mx (F := Ideal) (rowAt X n) 31
def htOf (X : S2097152x32.Idx → EReal) (L : S2097152.Idx → BitVec 32) (n : ℕ) : EReal :=
  if pr (F := Ideal) (rowAt X n) 31 = L (idx1 n) then 1 else 0

/-- The reference's result. -/
theorem result_eq (V : Valuation τ sig (Elt Ideal)) (X : S2097152x32.Idx → EReal) (L : S2097152.Idx → BitVec 32)
    (hX : V (Proc.devRef .tc main_arg0) = X) (hL : V (Proc.devRef .tc main_arg1) = L) (i : S1.Idx) :
    (after (ops (F := Ideal)) V (Proc.devRef .tc main_v277) : S1.Idx → EReal) i
      = ∑ k ∈ Finset.range 10, con (cntB (cfOf X) k) (hitB (cfOf X) (htOf X L) k) (confB (cfOf X) k) := by
  have hc : ∀ n < 2097152, (after (pre (F := Ideal)) V (Proc.devRef .tc main_v3) : S2097152.Idx → EReal) (idx1 n) = cfOf X n := by
    intro n hn
    rw [pre_conf, hX]
    refine (max_eq _ _ X (idx1 n) _ (fun _ => ofBits_bot)).trans ?_
    unfold cfOf; rw [show ((idx1 n) 0).val = n from Nat.mod_eq_of_lt hn]
  have hh : ∀ n < 2097152, (after (pre (F := Ideal)) V (Proc.devRef .tc main_v6) : S2097152.Idx → EReal) (idx1 n) = htOf X L n := by
    intro n hn
    rw [pre_hit, hX, hL]
    refine (uitofp_one _).trans ?_
    rw [show ∀ f : S2097152.Idx → BitVec 32, (cmpi .eq f L) (idx1 n) = IntOp.cmpi .eq (f (idx1 n)) (L (idx1 n)) from fun _ => rfl]
    rw [argmax_eq _ _ X (idx1 n) (constant (F := Ideal) S_ .f32 0xFF800000#32) (constantI S_ 32 0#32) (fun _ => ofBits_bot) (fun _ => rfl), show ((idx1 n) 0).val = n from Nat.mod_eq_of_lt hn]
    unfold htOf
    by_cases e : pr (F := Ideal) (rowAt X n) 31 = L (idx1 n) <;> simp [IntOp.cmpi, e, beq_eq_false_iff_ne.2]
  have h0 : (after (pre (F := Ideal)) V (Proc.devRef .tc main_v7) : S1.Idx → EReal) i = (0 : EReal) := by
    rw [pre_zero]; exact Ideal.ofBits_zero_f32
  have hlo : ∀ {k : ℕ} (h : S10.Slices ![k] S1) (j : S_.Idx), entry (F := Ideal) h (after pre V (Proc.devRef .tc main_v1)) j = tenth k := by
    intro k h j; rw [pre_lo]; exact entry_lo h j
  have hhi : ∀ {k : ℕ} (h : S10.Slices ![k] S1) (j : S_.Idx), entry (F := Ideal) h (after pre V (Proc.devRef .tc main_v2)) j = tenth (k + 1) := by
    intro k h j; rw [pre_hi]; exact entry_hi h j
  have step : ∀ {k : ℕ} (h : S10.Slices ![k] S1) (acc : S1.Idx → EReal), addBin (F := Ideal) acc (entry h (after pre V (Proc.devRef .tc main_v1)))
      (entry h (after pre V (Proc.devRef .tc main_v2))) (after pre V (Proc.devRef .tc main_v3)) (after pre V (Proc.devRef .tc main_v6)) i
      = acc i + con (cntB (cfOf X) k) (hitB (cfOf X) (htOf X L) k) (confB (cfOf X) k) :=
    fun {k} h acc => addBin_apply acc _ _ k (hlo h) (hhi h) _ _ _ _ hc hh i
  rw [ops_result]
  dsimp only
  rw [step, step, step, step, step, step, step, step, step, step, h0]
  simp only [Finset.sum_range_succ, Finset.sum_range_zero]

end Cert.Proof.Ref

end
-- ==== Proof.TailIdeal.lean ====
/-
  The kernel's host code over the extended reals: the result is the sum of the ten bins' contributions, each made of the
  bin's count, hits and confidences over all the rows.
-/
module

public import proofs.«01_k».proof.Proof.KernelTail
public import proofs.«01_k».proof.Proof.HistSum
public import proofs.«01_k».proof.Proof.RefIdeal
public import Idealize.ShloMosaic.Lib.Pipeline.Value

@[expose] public section

noncomputable section

namespace Cert.Proof.Tail

open Cert.KernelIdeal Cert.KernelIdeal.Gen Cert.Ece
open Cert.Proof.KernelIdealRun (sums sect contribs tail_result scores labels table V0 V1 V2 a' x' o' l' r' bd result)
open Cert.Proof.Ref (con)

open Idealize.ShloMosaic
open Idealize.SL.Sem
open Idealize.ShloMosaic.StableHlo (after)
open scoped BigOperators

/-- Slot `j` of worker `w`; slot `j` of the summed columns. -/
def slot (w j : ℕ) : S32x528.Idx
  | 0 => ⟨w % 32, Nat.mod_lt _ (by decide)⟩
  | 1 => ⟨j % 528, Nat.mod_lt _ (by decide)⟩
def col (j : ℕ) : S528.Idx
  | 0 => ⟨j % 528, Nat.mod_lt _ (by decide)⟩

theorem cols_apply (T : S32x528.Idx → EReal) (j : ℕ) :
    (Host.reduceAdd (F := Ideal) T (constant S_ .f32 0x00000000#32) reducesTo_S32x528_S528_d0 h_S_ : S528.Idx → EReal) (col j)
      = ∑ w ∈ Finset.range 32, T (slot w j) := by
  show Ideal.hostReduceAdd reducesTo_S32x528_S528_d0 T (Ideal.ofBits .f32 0x00000000#32) (col j) = _
  rw [Ideal.hostReduceAdd_single _ (by decide : S32x528.Reduces [0] S528), Ideal.ofBits_zero_f32, zero_add, Finset.sum_range]
  refine Finset.sum_congr rfl fun w _ => congrArg T (funext fun a => ?_)
  match a with
  | 0 => exact Fin.ext (Nat.mod_eq_of_lt w.isLt).symm
  | 1 => rfl

theorem sums_apply (T : S32x528.Idx → EReal) (i : S3x11.Idx) :
    sums (F := Ideal) T i
      = ∑ l ∈ Finset.range 16, ∑ w ∈ Finset.range 32, T (slot w ((i 0).val * 176 + (i 1).val * 16 + l)) := by
  unfold sums
  show Ideal.hostReduceAdd reducesTo_S3x11x16_S3x11_d2 _ (Ideal.ofBits .f32 0x00000000#32) i = _
  rw [Ideal.hostReduceAdd_single _ (by decide : S3x11x16.Reduces [2] S3x11), Ideal.ofBits_zero_f32, zero_add, Finset.sum_range]
  refine Finset.sum_congr rfl fun l _ => ?_
  rw [← cols_apply]
  refine shapeCast_apply _ _ _ _ ?_
  have h0 : (i 0).val < 3 := (i 0).isLt
  have h1 : (i 1).val < 11 := (i 1).isLt
  have h2 : l.val < 16 := l.isLt
  rw [Shape.rowMajor_val_one, Shape.rowMajor_val_three]
  show ((i 0).val * 176 + (i 1).val * 16 + l.val) % 528 = ((i 0).val * 11 + (i 1).val) * 16 + l.val
  omega

theorem sect_apply {q : ℕ} (hq : q < 3) (h : S3x11.Slices ![q, 0] S1x10) (T : S32x528.Idx → EReal) (i : S10.Idx) :
    sect (F := Ideal) h T i
      = ∑ l ∈ Finset.range 16, ∑ w ∈ Finset.range 32, T (slot w (q * 176 + (i 0).val * 16 + l)) := by
  unfold sect
  rw [shapeCast_apply _ _ i (fun | 0 => ⟨0, Nat.one_pos⟩ | 1 => ⟨(i 0).val, (i 0).isLt⟩ : S1x10.Idx) (by
    rw [Shape.rowMajor_val_one, Shape.rowMajor_val_two]
    show 0 * 10 + (i 0).val = (i 0).val
    omega)]
  unfold extractStridedSlice
  rw [sums_apply]
  refine Finset.sum_congr rfl fun l _ => Finset.sum_congr rfl fun w _ => ?_
  show T (slot w ((q + 0) * 176 + (0 + (i 0).val) * 16 + l)) = _
  rw [Nat.add_zero, Nat.zero_add]

theorem contribs_apply (n a c : S10.Idx → EReal) (i : S10.Idx) : contribs (F := Ideal) n a c i = con (n i) (a i) (c i) := by
  unfold con; rw [← Ideal.ofBits_zero_f32, ← Ideal.ofBits_one_f32]; rfl

/-- Bin `k` of ten. -/
def ten (k : ℕ) : S10.Idx
  | 0 => ⟨k % 10, Nat.mod_lt _ (by decide)⟩

theorem sum_ten (f : S10.Idx → EReal) : ∑ i, f i = ∑ k ∈ Finset.range 10, f (ten k) := by
  have e : ∀ i : S10.Idx, ten (i 0).val = i := by
    intro i; funext a
    match a with
    | 0 => exact Fin.ext (Nat.mod_eq_of_lt (i 0).isLt)
  refine Finset.sum_nbij' (fun i => (i 0).val) ten ?_ ?_ ?_ ?_ ?_
  · exact fun i _ => Finset.mem_range.2 (i 0).isLt
  · exact fun n _ => Finset.mem_univ _
  · exact fun i _ => e i
  · exact fun n hn => Nat.mod_eq_of_lt (Finset.mem_range.1 hn)
  · exact fun i _ => by rw [e]

variable (m : (ℓ : Loc nD τ sig) → Buf (Elt Ideal) ℓ)

theorem sect_table {q : ℕ} (hq : q < 3) (h : S3x11.Slices ![q, 0] S1x10) (d : Dev nD) (k : ℕ) (hk : k < 10) :
    sect (F := Ideal) h (table m d) (ten k) = ∑ n ∈ Finset.range 2097152, part (bd (F := Ideal)) (scores m d) (labels m d) q k n := by
  rw [← total _ _ _ q k (by omega), sect_apply hq]
  refine Finset.sum_congr rfl fun l hl => Finset.sum_congr rfl fun w hw => ?_
  have hl' := Finset.mem_range.1 hl
  have hw' := Finset.mem_range.1 hw
  show hist (F := Ideal) bd (scores m d) (labels m d) (65536 * (w % 32)) 4096 ((q * 176 + k % 10 * 16 + l) % 528) = _
  rw [Nat.mod_eq_of_lt hw', Nat.mod_eq_of_lt hk, Nat.mod_eq_of_lt (by omega)]

theorem result_eq (d : Dev nD) (i : S1.Idx) :
    (result m d : S1.Idx → EReal) i
      = ∑ k ∈ Finset.range 10, con (∑ n ∈ Finset.range 2097152, part (bd (F := Ideal)) (scores m d) (labels m d) 0 k n)
          (∑ n ∈ Finset.range 2097152, part (bd (F := Ideal)) (scores m d) (labels m d) 1 k n)
          (∑ n ∈ Finset.range 2097152, part (bd (F := Ideal)) (scores m d) (labels m d) 2 k n) := by
  have ho : V2 m d o' = table m d := Function.update_self _ _ _
  unfold result
  rw [tail_result, ho]
  unfold shapeCast
  show Ideal.hostReduceAdd reducesTo_S10_S_d0 _ (Ideal.ofBits .f32 0x00000000#32) _ = _
  rw [Ideal.hostReduceAdd_total _ (fun b => b.elim0), Ideal.ofBits_zero_f32, zero_add, sum_ten]
  refine Finset.sum_congr rfl fun k hk => ?_
  have hk' := Finset.mem_range.1 hk
  rw [contribs_apply, sect_table m (by decide) _ d k hk', sect_table m (by decide) _ d k hk', sect_table m (by decide) _ d k hk']

end Cert.Proof.Tail

end
-- ==== Proof.Equal.lean ====
/-
  The kernel's result and the reference's over the extended reals are one sum, for scores at most one: a row's
  confidence, its bin and its hit are the same on both sides.
-/
module

public import proofs.«01_k».proof.Proof.TailIdeal
public import Idealize.ShloMosaic.PureOps.IdealRules
public import Idealize.ShloMosaic.Lib.Pipeline.Value

@[expose] public section

noncomputable section

namespace Cert.Proof.Tail

open Cert.KernelIdeal Cert.KernelIdeal.Gen Cert.Ece
open Cert.Proof.KernelIdealRun (scores labels V0 V1 V2 a' x' o' l' r' bd result opFlat)
open Cert.Proof.Ref (con tenth cntB hitB confB cfOf htOf idx1)

open Idealize.ShloMosaic Idealize.ShloMosaic.Tactic
open Idealize.SL.Sem
open Idealize.ShloMosaic.StableHlo (after)
open scoped BigOperators

/-! ## The bounds -/

theorem named_bound (nm : String) (b : BitVec 32) (v : EReal) (h : Cert.KernelIdeal.κ nm = some v) :
    (Named.named (F := Ideal) Cert.KernelIdeal.κ nm (φ := .f32) b : EReal) = v := by
  simp [Named.named, h]

theorem ofBits_half : Ideal.ofBits .f32 0x3F000000#32 = ((1 / 2 : ℝ) : EReal) := by
  simp [Ideal.ofBits, Ideal.ieee, -EReal.coe_mul]; norm_num

theorem coe_tenth (k : ℕ) (x : ℝ) (h : x = (k : ℝ) / 10) : ((x : ℝ) : EReal) = tenth k := by rw [h]; rfl

theorem bd_last (k : ℕ) (hk : 9 ≤ k) : bd (F := Ideal) k = tenth 9 := by
  obtain ⟨j, rfl⟩ := Nat.exists_eq_add_of_le' hk
  exact (named_bound "bound9" _ _ rfl).trans (coe_tenth _ _ (by norm_num))

theorem bd_tenth (k : ℕ) (hk : k < 10) : bd (F := Ideal) k = tenth k := by
  match k, hk with
  | 0, _ => exact Ideal.ofBits_zero_f32.trans (coe_tenth 0 0 (by norm_num))
  | 1, _ => exact (named_bound "bound1" _ _ rfl).trans (coe_tenth _ _ (by norm_num))
  | 2, _ => exact (named_bound "bound2" _ _ rfl).trans (coe_tenth _ _ (by norm_num))
  | 3, _ => exact (named_bound "bound3" _ _ rfl).trans (coe_tenth _ _ (by norm_num))
  | 4, _ => exact (named_bound "bound4" _ _ rfl).trans (coe_tenth _ _ (by norm_num))
  | 5, _ => exact ofBits_half.trans (coe_tenth _ _ (by norm_num))
  | 6, _ => exact (named_bound "bound6" _ _ rfl).trans (coe_tenth _ _ (by norm_num))
  | 7, _ => exact (named_bound "bound7" _ _ rfl).trans (coe_tenth _ _ (by norm_num))
  | 8, _ => exact (named_bound "bound8" _ _ rfl).trans (coe_tenth _ _ (by norm_num))
  | 9, _ => exact bd_last 9 le_rfl

theorem tenth_le {i j : ℕ} (h : i ≤ j) : tenth i ≤ tenth j := by
  unfold tenth
  have : (i : ℝ) ≤ j := by exact_mod_cast h
  exact EReal.coe_le_coe_iff.2 (by linarith)

theorem bd_min (k : ℕ) : bd (F := Ideal) k = tenth (min k 9) := by
  by_cases h : k < 10
  · rw [bd_tenth k h, Nat.min_eq_left (by omega)]
  · rw [bd_last k (by omega), Nat.min_eq_right (by omega)]

theorem bd_mono (i j : ℕ) (h : i ≤ j) : (bd (F := Ideal) i : EReal) ≤ bd (F := Ideal) j := by
  rw [bd_min, bd_min]; exact tenth_le (min_le_min_right 9 h)

theorem tenth_ten : tenth 10 = 1 := by unfold tenth; norm_num

/-! ## The rows -/

theorem mx_pr_congr (a b : ℕ → EReal) (n : ℕ) (h : ∀ c ≤ n, a c = b c) :
    mx (F := Ideal) a n = mx (F := Ideal) b n ∧ pr (F := Ideal) a n = pr (F := Ideal) b n := by
  induction n with
  | zero => exact ⟨h 0 le_rfl, rfl⟩
  | succ n ih =>
    obtain ⟨h1, h2⟩ := ih fun c hc => h c (by omega)
    simp only [mx, pr, h1, h2, h (n + 1) le_rfl, and_self]

theorem mx_le (a : ℕ → EReal) (n : ℕ) (h : ∀ c ≤ n, a c ≤ 1) : mx (F := Ideal) a n ≤ (1 : EReal) := by
  obtain ⟨i, hi, e, -⟩ := mx_pr a n
  rw [e]; exact h i hi

variable (m : (ℓ : Loc nD τ sig) → Buf (Elt Ideal) ℓ) (d : Dev nD)

/-- The scores, the labels and the result, as arrays. -/
abbrev arrX : S2097152x32.Idx → EReal := V0 m d a'
abbrev arrL : S2097152.Idx → BitVec 32 := V0 m d l'
abbrev arrR : S1.Idx → EReal := result m d

theorem flat_eq : (V1 m d x' : S67108864.Idx → EReal)
    = shapeCast S67108864 (arrX m d) shapeCasts_S2097152x32_S67108864 := by
  show after [opFlat (F := Ideal)] (V0 m d) x' = _
  after_results_simp
  rfl

theorem scores_eq (r c : ℕ) (hr : r < 2097152) (hc : c < 32) :
    scores m d (32 * r + c) = rowAt (arrX m d) r c := by
  unfold scores rowAt
  rw [flat_eq]
  refine shapeCast_apply _ _ _ _ ?_
  refine (Shape.rowMajor_val_two (at2 r c)).trans (Eq.trans ?_ (Shape.rowMajor_val_one _).symm)
  show r % 2097152 * 32 + c % 32 = (32 * r + c) % 67108864
  omega

theorem row_eq (r : ℕ) (hr : r < 2097152) :
    mx (F := Ideal) (rowOf (scores m d) r) 31 = cfOf (arrX m d) r
    ∧ pr (F := Ideal) (rowOf (scores m d) r) 31 = pr (F := Ideal) (rowAt (arrX m d) r) 31 :=
  mx_pr_congr _ _ 31 fun c hc => scores_eq m d r c hr (by omega)

theorem labels_eq (r : ℕ) : labels m d r = (arrL m d) (idx1 r) := by
  refine congrArg (arrL m d) (funext fun a => ?_)
  match a with
  | 0 => rfl

theorem term_zero (r : ℕ) : term (F := Ideal) (scores m d) (labels m d) r 0 = (1 : EReal) := Ideal.ofBits_one_f32

theorem term_one (r : ℕ) (hr : r < 2097152) :
    term (F := Ideal) (scores m d) (labels m d) r 1 = htOf (arrX m d) (arrL m d) r := by
  show Scalar.select (IntOp.cmpi .eq (pr (F := Ideal) (rowOf (scores m d) r) 31) (labels m d r)) (Ideal.ofBits .f32 0x3F800000#32)
    (Ideal.ofBits .f32 0x00000000#32) = _
  rw [(row_eq m d r hr).2, labels_eq, Ideal.ofBits_one_f32, Ideal.ofBits_zero_f32]
  unfold htOf
  by_cases e : pr (F := Ideal) (rowAt (arrX m d) r) 31 = (arrL m d) (idx1 r)
  · rw [if_pos e, e]; simp [IntOp.cmpi, Scalar.select]
  · rw [if_neg e]; simp [IntOp.cmpi, Scalar.select, beq_eq_false_iff_ne.2 e]

theorem part_eq (hle : ∀ i, (arrX m d) i ≤ 1) (q k r : ℕ) (hk : k < 10) (hr : r < 2097152) :
    part (bd (F := Ideal)) (scores m d) (labels m d) q k r
      = if tenth k < cfOf (arrX m d) r ∧ cfOf (arrX m d) r ≤ tenth (k + 1) then term (F := Ideal) (scores m d) (labels m d) r q else 0 := by
  have e := bin_iff (bd (F := Ideal)) (cfOf (arrX m d) r) bd_mono (mx_le _ 31 fun c _ => hle _) (fun k => tenth (k + 1)) tenth_ten
    (fun k hk => (bd_tenth (k + 1) (by omega)).symm) k hk
  rw [bd_tenth k hk] at e
  unfold part conf
  rw [(row_eq m d r hr).1]
  exact if_congr e rfl rfl

/-- The kernel's result, in the reference's words. -/
theorem result_ref (hle : ∀ i, (arrX m d) i ≤ 1) (i : S1.Idx) :
    arrR m d i
      = ∑ k ∈ Finset.range 10, con (cntB (cfOf (arrX m d)) k) (hitB (cfOf (arrX m d)) (htOf (arrX m d) (arrL m d)) k) (confB (cfOf (arrX m d)) k) := by
  refine Eq.trans (α := EReal) (result_eq m d i) ?_
  refine Finset.sum_congr rfl fun k hk => ?_
  have hk' := Finset.mem_range.1 hk
  have e0 : ∑ n ∈ Finset.range 2097152, part (bd (F := Ideal)) (scores m d) (labels m d) 0 k n = cntB (cfOf (arrX m d)) k :=
    Finset.sum_congr rfl fun n hn => by
      rw [part_eq m d hle 0 k n hk' (Finset.mem_range.1 hn), term_zero]
  have e1 : ∑ n ∈ Finset.range 2097152, part (bd (F := Ideal)) (scores m d) (labels m d) 1 k n
      = hitB (cfOf (arrX m d)) (htOf (arrX m d) (arrL m d)) k :=
    Finset.sum_congr rfl fun n hn => by
      rw [part_eq m d hle 1 k n hk' (Finset.mem_range.1 hn), term_one m d n (Finset.mem_range.1 hn)]
  have e2 : ∑ n ∈ Finset.range 2097152, part (bd (F := Ideal)) (scores m d) (labels m d) 2 k n = confB (cfOf (arrX m d)) k :=
    Finset.sum_congr rfl fun n hn => by
      rw [part_eq m d hle 2 k n hk' (Finset.mem_range.1 hn)]
      exact if_congr Iff.rfl (row_eq m d n (Finset.mem_range.1 hn)).1 rfl
  rw [e0, e1, e2]

end Cert.Proof.Tail

end
-- ==== Proof.KBase.lean ====
/-
  The kernel's program as the launch theorem sees it: its configuration, its resource algebra (the handshakes' rounds
  beside the transfers' counters), its arrays and buffers, and the ten bounds of its bins.
-/
module

public import proofs.«01_k».proof.Defs
public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Proof.KernelRun

open Cert.Kernel Cert.Kernel.Gen Cert.Ece

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The assertions of the proof. -/
abbrev MM (F : FTy → Type) : Type := MT nD τ sig (HIx 1) (Elt F) ℕ UU ℕ

/-- The handshakes' rounds: the left factor. The transfers' counters, the right one, are found by instance. -/
abbrev EH : Emb UH (MM F) := embL

/-! ## The arrays and the buffers -/

/-- The scores (flat), the labels, the table of histograms: as locations of device `d`. -/
abbrev xLoc (d : Dev nD) : Loc nD τ sig := (SparseCore.T d).loc main_v0
abbrev lLoc (d : Dev nD) : Loc nD τ sig := (SparseCore.T d).loc main_arg1
abbrev oLoc (d : Dev nD) : Loc nD τ sig := (SparseCore.T d).loc main_v1

abbrev xW : Memref sig .scVector .hbm S67108864 .f32 := Memref.whole main_v0_scv
abbrev lW : Memref sig .scVector .hbm S2097152 .i32 := Memref.whole main_arg1_scv
abbrev oW : Memref sig .scVector .hbm S32x528 .f32 := Memref.whole main_v1_scv
/-- The two staging buffers for scores, the two for labels, the histogram. -/
abbrev xb0 : Memref sig .scVector .vmem S32768 .f32 := Memref.whole cc0_scratch0
abbrev xb1 : Memref sig .scVector .vmem S32768 .f32 := Memref.whole cc0_scratch1
abbrev lb0 : Memref sig .scVector .vmem S1024 .i32 := Memref.whole cc0_scratch2
abbrev lb1 : Memref sig .scVector .vmem S1024 .i32 := Memref.whole cc0_scratch3
abbrev hb : Memref sig .scVector .vmem S528 .f32 := Memref.whole cc0_scratch4

abbrev cV (L : grid0.Coords) : Fin τ.nSC := (L 0).castLE hcore0
abbrev jV (L : grid0.Coords) : Fin τ.nSub := (L 1).castLE hsub0
/-- The thread of the vector subcore at `L`. -/
abbrev thr (d : Dev nD) (L : grid0.Coords) : Thread nD τ := V d (cV L) (jV L)

/-- A buffer of words or floats whose place `n` holds `a n`. -/
abbrev arrX (a : ℕ → F .f32) : S32768.Idx → F .f32 := fun j => a (j 0).val
abbrev arrL (l : ℕ → BitVec 32) : S1024.Idx → BitVec 32 := fun j => l (j 0).val
abbrev arrH (h : ℕ → F .f32) : S528.Idx → F .f32 := fun j => h (j 0).val

variable [FloatOps F]

/-- The bounds of the bins, as the kernel writes them. -/
def bd : ℕ → F .f32
  | 0 => Scalar.ofBits .f32 0x00000000#32
  | 1 => Scalar.ofBits .f32 0x3DCCCCCD#32
  | 2 => Scalar.ofBits .f32 0x3E4CCCCD#32
  | 3 => Scalar.ofBits .f32 0x3E99999A#32
  | 4 => Scalar.ofBits .f32 0x3ECCCCCD#32
  | 5 => Scalar.ofBits .f32 0x3F000000#32
  | 6 => Scalar.ofBits .f32 0x3F19999A#32
  | 7 => Scalar.ofBits .f32 0x3F333333#32
  | 8 => Scalar.ofBits .f32 0x3F4CCCCD#32
  | _ => Scalar.ofBits .f32 0x3F666666#32

end Cert.Proof.KernelRun

end
-- ==== Proof.RefRun.lean ====
/-
  The reference's run: its operations are those of `ops`, it ends with its arguments unchanged and its result at what the
  operations compute from the contents at the start.
-/
module

public import proofs.«01_k».proof.Proof.RefOps
public import Idealize.ShloMosaic.Lib.Quiescent
public import Idealize.ShloMosaic.Lib.Pipeline.Frame

@[expose] public section

noncomputable section

namespace Cert.Proof.Ref

open Cert.ReferenceIdeal Cert.ReferenceIdeal.Gen

open Idealize.ShloMosaic Idealize.SL.Sem
open Idealize.ShloMosaic.StableHlo (seq after after_append)

variable {F : FTy → Type} [FloatOps F]

/-- What holds of every operation of each stretch holds of every operation of the program. -/
theorem ops_forall {p : HloOp τ sig (Elt F) → Prop} (h0 : (pre (F := F)).Forall p) (h : ∀ l ∈ [bin0 (F := F), bin1, bin2, bin3, bin4, bin5, bin6, bin7, bin8, bin9], l.Forall p) :
    (ops (F := F)).Forall p := by
  simp only [List.mem_cons, forall_eq_or_imp, List.not_mem_nil, false_imp_iff, forall_const, and_true] at h
  obtain ⟨a0, a1, a2, a3, a4, a5, a6, a7, a8, a9⟩ := h
  rw [List.forall_iff_forall_mem] at *
  intro op hop
  simp only [ops, List.mem_append] at hop
  rcases hop with h | h | h | h | h | h | h | h | h | h | h
  exacts [h0 op h, a0 op h, a1 op h, a2 op h, a3 op h, a4 op h, a5 op h, a6 op h, a7 op h, a8 op h, a9 op h]

theorem ops_sub : (ops (F := F)).Forall fun op => op.bufs ⊆ StableHlo.tcRefs τ sig := by
  refine ops_forall pre_sub ?_
  simp only [List.mem_cons, forall_eq_or_imp, List.not_mem_nil, false_imp_iff, forall_const, and_true]
  exact ⟨bin0_sub, bin1_sub, bin2_sub, bin3_sub, bin4_sub, bin5_sub, bin6_sub, bin7_sub, bin8_sub, bin9_sub⟩

theorem ops_fresh : (ops (F := F)).Forall fun op => op.fresh = ∅ := by
  refine ops_forall pre_fresh ?_
  simp only [List.mem_cons, forall_eq_or_imp, List.not_mem_nil, false_imp_iff, forall_const, and_true]
  exact ⟨bin0_fresh, bin1_fresh, bin2_fresh, bin3_fresh, bin4_fresh, bin5_fresh, bin6_fresh, bin7_fresh, bin8_fresh, bin9_fresh⟩

/-- The two arguments' cells keep their contents. -/
theorem keep_args (V : Valuation τ sig (Elt F)) (b : Ref sig .tc) (h : b = main_arg0 ∨ b = main_arg1) :
    after ops V (Proc.devRef .tc b) = V (Proc.devRef .tc b) := by
  rcases h with rfl | rfl <;>
  · simp only [ops, after_append]
    rw [StableHlo.after_of_writes_sub _ _ bin9_writes (by decide), StableHlo.after_of_writes_sub _ _ bin8_writes (by decide),
      StableHlo.after_of_writes_sub _ _ bin7_writes (by decide), StableHlo.after_of_writes_sub _ _ bin6_writes (by decide),
      StableHlo.after_of_writes_sub _ _ bin5_writes (by decide), StableHlo.after_of_writes_sub _ _ bin4_writes (by decide),
      StableHlo.after_of_writes_sub _ _ bin3_writes (by decide), StableHlo.after_of_writes_sub _ _ bin2_writes (by decide),
      StableHlo.after_of_writes_sub _ _ bin1_writes (by decide), StableHlo.after_of_writes_sub _ _ bin0_writes (by decide),
      StableHlo.after_of_writes_sub _ _ pre_writes (by decide)]

/-- The run: the arguments unchanged, the result what the operations compute, every counter zero. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_v277) = after ops (StableHlo.launchContents m d) (Proc.devRef .tc main_v277))
      ∧ r.2.sem = fun _ => 0 :=
  (θ_run (Cert.ReferenceIdeal.defs (F := F)) _ _).mono
    (fun r h => ⟨fun d => ⟨(h d main_arg0).trans (keep_args _ _ (.inl rfl)), (h d main_arg1).trans (keep_args _ _ (.inr rfl)), h d main_v277⟩,
      Idealize.ShloMosaic.sem_eq_zero_of_no_sems (by decide) r.2⟩)
    (StableHlo.run_seq (by decide) (by decide) _ _ (fun _ => ops) (fun d => main_eq d) (fun _ => ops_sub) m ρ
      (fun _ => List.forall_iff_forall_mem.mp ops_fresh))

end Cert.Proof.Ref

end
-- ==== Proof.Frames.lean ====
/-
  The claims that state no precondition: the kernel's two runs and the reference's, values dropped, and the bin bounds
  that carry their decimal value at `Ideal`.
-/
module

public import proofs.«01_k».proof.Defs
public import proofs.«01_k».proof.Proof.KLaunch2
public import proofs.«01_k».proof.Proof.ILaunch2
public import proofs.«01_k».proof.Proof.RefRun

@[expose] public section

noncomputable section

namespace Cert.Proof

open Idealize.ShloMosaic Idealize.SL.Sem

instance elt_nonempty (e : EltTy) : Nonempty (Elt Bits e) := by cases e <;> exact ⟨(0 : BitVec _)⟩

instance elt_nonempty_ideal (e : EltTy) : Nonempty (Elt Ideal e) := by
  cases e <;> first | exact ⟨(0 : BitVec _)⟩ | exact ⟨(0 : EReal)⟩

theorem frame_p : Cert.quiescent_Kernel := fun m ρ _ =>
  (θ_run Cert.Kernel.defs _ _).mono (fun _ h => ⟨fun c => ⟨(h.1 c).1, (h.1 c).2.1⟩, h.2⟩) (KernelRun.run_main (F := Bits) m ρ)

theorem frame_pi : Cert.quiescent_KernelIdeal := fun m ρ _ =>
  (θ_run Cert.KernelIdeal.defs _ _).mono (fun _ h => ⟨fun c => ⟨(h.1 c).1, (h.1 c).2.1⟩, h.2⟩) (KernelIdealRun.run_main (F := Ideal) m ρ)

theorem frame_ri : Cert.quiescent_ReferenceIdeal := fun m ρ _ =>
  (θ_run Cert.ReferenceIdeal.defs _ _).mono (fun _ h => ⟨fun c => ⟨(h.1 c).1, (h.1 c).2.1⟩, h.2⟩) (Ref.run (F := Ideal) m ρ)

/-- The bound `i / 10`, each a named constant whose recorded word is the nearest single-precision number. -/
theorem preserves : Cert.preserves_Kernel_KernelIdeal :=
  ⟨IdealRules.named_const.statement Cert.KernelIdeal.κ "bound1" .f32 0x3DCCCCCD#32 ((1 / 10 : ℝ) : EReal) rfl,
    IdealRules.named_const.statement Cert.KernelIdeal.κ "bound2" .f32 0x3E4CCCCD#32 ((1 / 5 : ℝ) : EReal) rfl,
    IdealRules.named_const.statement Cert.KernelIdeal.κ "bound3" .f32 0x3E99999A#32 ((3 / 10 : ℝ) : EReal) rfl,
    IdealRules.named_const.statement Cert.KernelIdeal.κ "bound4" .f32 0x3ECCCCCD#32 ((2 / 5 : ℝ) : EReal) rfl,
    IdealRules.named_const.statement Cert.KernelIdeal.κ "bound6" .f32 0x3F19999A#32 ((3 / 5 : ℝ) : EReal) rfl,
    IdealRules.named_const.statement Cert.KernelIdeal.κ "bound7" .f32 0x3F333333#32 ((7 / 10 : ℝ) : EReal) rfl,
    IdealRules.named_const.statement Cert.KernelIdeal.κ "bound8" .f32 0x3F4CCCCD#32 ((4 / 5 : ℝ) : EReal) rfl,
    IdealRules.named_const.statement Cert.KernelIdeal.κ "bound9" .f32 0x3F666666#32 ((9 / 10 : ℝ) : EReal) rfl⟩

end Cert.Proof

end
-- ==== Proof.Algebraic.lean ====
/-
  The algebraic claim: from memories that agree on the arguments, with no score above one, the kernel's run and the
  reference's leave the same result.
-/
module

public import proofs.«01_k».proof.Defs
public import proofs.«01_k».proof.Proof.Equal
public import proofs.«01_k».proof.Proof.Frames
public import proofs.«01_k».proof.Proof.Gen.Pre_at_most_one
public import Idealize.ShloMosaic.Lib.ReduceAll

@[expose] public section

noncomputable section

namespace Cert.Proof

open Idealize.ShloMosaic Idealize.SL.Sem
open Cert.Proof.Tail (arrX arrL arrR)

/-- The precondition, read: every score is at most one. -/
theorem at_most_one (m : (ℓ : Loc Cert.KernelIdeal.nD Cert.KernelIdeal.τ Cert.KernelIdeal.sig) → Buf (Elt Ideal) ℓ)
    (h : Cert.Pre_KernelIdeal_at_most_one m) (d : Dev Cert.KernelIdeal.nD) (i : Cert.KernelIdeal.S2097152x32.Idx) : arrX m d i ≤ 1 := by
  have e := Host.reduce_andi_all _ _ _ _ (fun a => a.elim0 : Cert.Pre_at_most_one.S_.Idx) (congrFun (h d) _) i
  have e' : Ideal.cmp .ole (arrX m d i) (Ideal.ofBits .f32 0x3F800000#32) = 1#1 := e
  rw [Ideal.ofBits_one_f32] at e'
  by_contra hn
  simp [Ideal.cmp, hn] at e'

theorem algebraic : Cert.algebraic_KernelIdeal_ReferenceIdeal_pre_at_most_one := by
  intro m g m' g' hp hm
  refine ⟨fun c => KernelIdealRun.result m c, ?_, ?_⟩
  · exact (θ_run Cert.KernelIdeal.defs _ _).mono (fun _ h c => ⟨(h.1 c).2.2, (h.1 c).1, (h.1 c).2.1⟩)
      (KernelIdealRun.run_main (F := Ideal) m g)
  · refine (θ_run Cert.ReferenceIdeal.defs _ _).mono (fun r h c => ⟨?_, (h.1 c).1, (h.1 c).2.1⟩) (Ref.run (F := Ideal) m' g')
    refine (h.1 c).2.2.trans ?_
    funext i
    exact Eq.trans (α := EReal) (Ref.result_eq _ (arrX m c) (arrL m c) (hm c).1 (hm c).2 i)
      (Tail.result_ref m c (at_most_one m hp c) i).symm

theorem frame_pi_pre : Cert.quiescent_KernelIdeal_pre_at_most_one := fun m ρ _ =>
  (θ_run Cert.KernelIdeal.defs _ _).mono (fun _ h => ⟨fun c => ⟨(h.1 c).1, (h.1 c).2.1⟩, h.2⟩) (KernelIdealRun.run_main (F := Ideal) m ρ)

theorem frame_ri_pre : Cert.quiescent_ReferenceIdeal_pre_at_most_one := fun m ρ _ =>
  (θ_run Cert.ReferenceIdeal.defs _ _).mono (fun _ h => ⟨fun c => ⟨(h.1 c).1, (h.1 c).2.1⟩, h.2⟩) (Ref.run (F := Ideal) m ρ)

end Cert.Proof

end
-- ==== Proof.lean ====
/-
  The certificate, put together: the kernel's frames from its run on the SparseCores, the reference's from its run, the
  named constants, and the equality of the two results.
-/
module

public import proofs.«01_k».proof.Defs
public import proofs.«01_k».proof.Proof.Algebraic
public import proofs.«01_k».proof.Proof.Frames
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Pre_at_most_one
public import proofs.«01_k».proof.Proof.Gen.ReferenceIdeal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_at_most_one.Gen.facts,
    frame_p, frame_pi, frame_pi_pre, frame_ri, frame_ri_pre, preserves, algebraic⟩

end Cert.Proof

end
